-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Project4 (m : (ℓ : Loc Cert.Project4.nD Cert.Project4.τ Cert.Project4.sig) → Buf (Elt Bits) ℓ) : Prop :=
  True

def Pre_Project4Ideal (m : (ℓ : Loc Cert.Project4Ideal.nD Cert.Project4Ideal.τ Cert.Project4Ideal.sig) → Buf (Elt Ideal) ℓ) : Prop :=
  True

def Pre_Project4ReferenceIdeal (m : (ℓ : Loc Cert.Project4ReferenceIdeal.nD Cert.Project4ReferenceIdeal.τ Cert.Project4ReferenceIdeal.sig) → Buf (Elt Ideal) ℓ) : Prop :=
  True

def Pre_Project16 (m : (ℓ : Loc Cert.Project16.nD Cert.Project16.τ Cert.Project16.sig) → Buf (Elt Bits) ℓ) : Prop :=
  True

def Pre_Project16Ideal (m : (ℓ : Loc Cert.Project16Ideal.nD Cert.Project16Ideal.τ Cert.Project16Ideal.sig) → Buf (Elt Ideal) ℓ) : Prop :=
  True

def Pre_Project16ReferenceIdeal (m : (ℓ : Loc Cert.Project16ReferenceIdeal.nD Cert.Project16ReferenceIdeal.τ Cert.Project16ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Project4 [hProject4 : Cert.Project4.Facts] : Prop :=
  ∀ (m : (ℓ : Loc Cert.Project4.nD Cert.Project4.τ Cert.Project4.sig) → Buf (Elt Bits) ℓ) (g : Dev Cert.Project4.nD → PrngReg), Pre_Project4 m →
    θ_run (Cert.Project4.defs (F := Bits)) (onTc (τ := Cert.Project4.τ) (Cert.Project4.main (F := Bits))) ⟨m, fun _ => 0, g⟩ (fun r => (∀ c : Dev Cert.Project4.nD,
      r.2.mem ((c.tc : Thread Cert.Project4.nD Cert.Project4.τ).loc Cert.Project4.main_arg0) = m ((c.tc : Thread Cert.Project4.nD Cert.Project4.τ).loc Cert.Project4.main_arg0)
      ∧ r.2.mem ((c.tc : Thread Cert.Project4.nD Cert.Project4.τ).loc Cert.Project4.main_arg1) = m ((c.tc : Thread Cert.Project4.nD Cert.Project4.τ).loc Cert.Project4.main_arg1)
      ∧ r.2.mem ((c.tc : Thread Cert.Project4.nD Cert.Project4.τ).loc Cert.Project4.main_arg2) = m ((c.tc : Thread Cert.Project4.nD Cert.Project4.τ).loc Cert.Project4.main_arg2)
      ∧ r.2.mem ((c.tc : Thread Cert.Project4.nD Cert.Project4.τ).loc Cert.Project4.main_arg3) = m ((c.tc : Thread Cert.Project4.nD Cert.Project4.τ).loc Cert.Project4.main_arg3))
      ∧ r.2.sem = fun _ => 0)

def quiescent_Project4Ideal [hProject4Ideal : Cert.Project4Ideal.Facts] : Prop :=
  ∀ (m : (ℓ : Loc Cert.Project4Ideal.nD Cert.Project4Ideal.τ Cert.Project4Ideal.sig) → Buf (Elt Ideal) ℓ) (g : Dev Cert.Project4Ideal.nD → PrngReg), Pre_Project4Ideal m →
    θ_run (Cert.Project4Ideal.defs (F := Ideal)) (onTc (τ := Cert.Project4Ideal.τ) (Cert.Project4Ideal.main (F := Ideal))) ⟨m, fun _ => 0, g⟩ (fun r => (∀ c : Dev Cert.Project4Ideal.nD,
      r.2.mem ((c.tc : Thread Cert.Project4Ideal.nD Cert.Project4Ideal.τ).loc Cert.Project4Ideal.main_arg0) = m ((c.tc : Thread Cert.Project4Ideal.nD Cert.Project4Ideal.τ).loc Cert.Project4Ideal.main_arg0)
      ∧ r.2.mem ((c.tc : Thread Cert.Project4Ideal.nD Cert.Project4Ideal.τ).loc Cert.Project4Ideal.main_arg1) = m ((c.tc : Thread Cert.Project4Ideal.nD Cert.Project4Ideal.τ).loc Cert.Project4Ideal.main_arg1)
      ∧ r.2.mem ((c.tc : Thread Cert.Project4Ideal.nD Cert.Project4Ideal.τ).loc Cert.Project4Ideal.main_arg2) = m ((c.tc : Thread Cert.Project4Ideal.nD Cert.Project4Ideal.τ).loc Cert.Project4Ideal.main_arg2)
      ∧ r.2.mem ((c.tc : Thread Cert.Project4Ideal.nD Cert.Project4Ideal.τ).loc Cert.Project4Ideal.main_arg3) = m ((c.tc : Thread Cert.Project4Ideal.nD Cert.Project4Ideal.τ).loc Cert.Project4Ideal.main_arg3))
      ∧ r.2.sem = fun _ => 0)

def quiescent_Project4ReferenceIdeal [hProject4ReferenceIdeal : Cert.Project4ReferenceIdeal.Facts] : Prop :=
  ∀ (m : (ℓ : Loc Cert.Project4ReferenceIdeal.nD Cert.Project4ReferenceIdeal.τ Cert.Project4ReferenceIdeal.sig) → Buf (Elt Ideal) ℓ) (g : Dev Cert.Project4ReferenceIdeal.nD → PrngReg), Pre_Project4ReferenceIdeal m →
    θ_run (Cert.Project4ReferenceIdeal.defs (F := Ideal)) (onTc (τ := Cert.Project4ReferenceIdeal.τ) (Cert.Project4ReferenceIdeal.main (F := Ideal))) ⟨m, fun _ => 0, g⟩ (fun r => (∀ c : Dev Cert.Project4ReferenceIdeal.nD,
      r.2.mem ((c.tc : Thread Cert.Project4ReferenceIdeal.nD Cert.Project4ReferenceIdeal.τ).loc Cert.Project4ReferenceIdeal.main_arg0) = m ((c.tc : Thread Cert.Project4ReferenceIdeal.nD Cert.Project4ReferenceIdeal.τ).loc Cert.Project4ReferenceIdeal.main_arg0)
      ∧ r.2.mem ((c.tc : Thread Cert.Project4ReferenceIdeal.nD Cert.Project4ReferenceIdeal.τ).loc Cert.Project4ReferenceIdeal.main_arg1) = m ((c.tc : Thread Cert.Project4ReferenceIdeal.nD Cert.Project4ReferenceIdeal.τ).loc Cert.Project4ReferenceIdeal.main_arg1)
      ∧ r.2.mem ((c.tc : Thread Cert.Project4ReferenceIdeal.nD Cert.Project4ReferenceIdeal.τ).loc Cert.Project4ReferenceIdeal.main_arg2) = m ((c.tc : Thread Cert.Project4ReferenceIdeal.nD Cert.Project4ReferenceIdeal.τ).loc Cert.Project4ReferenceIdeal.main_arg2)
      ∧ r.2.mem ((c.tc : Thread Cert.Project4ReferenceIdeal.nD Cert.Project4ReferenceIdeal.τ).loc Cert.Project4ReferenceIdeal.main_arg3) = m ((c.tc : Thread Cert.Project4ReferenceIdeal.nD Cert.Project4ReferenceIdeal.τ).loc Cert.Project4ReferenceIdeal.main_arg3))
      ∧ r.2.sem = fun _ => 0)

def quiescent_Project16 [hProject16 : Cert.Project16.Facts] : Prop :=
  ∀ (m : (ℓ : Loc Cert.Project16.nD Cert.Project16.τ Cert.Project16.sig) → Buf (Elt Bits) ℓ) (g : Dev Cert.Project16.nD → PrngReg), Pre_Project16 m →
    θ_run (Cert.Project16.defs (F := Bits)) (onTc (τ := Cert.Project16.τ) (Cert.Project16.main (F := Bits))) ⟨m, fun _ => 0, g⟩ (fun r => (∀ c : Dev Cert.Project16.nD,
      r.2.mem ((c.tc : Thread Cert.Project16.nD Cert.Project16.τ).loc Cert.Project16.main_arg0) = m ((c.tc : Thread Cert.Project16.nD Cert.Project16.τ).loc Cert.Project16.main_arg0)
      ∧ r.2.mem ((c.tc : Thread Cert.Project16.nD Cert.Project16.τ).loc Cert.Project16.main_arg1) = m ((c.tc : Thread Cert.Project16.nD Cert.Project16.τ).loc Cert.Project16.main_arg1)
      ∧ r.2.mem ((c.tc : Thread Cert.Project16.nD Cert.Project16.τ).loc Cert.Project16.main_arg2) = m ((c.tc : Thread Cert.Project16.nD Cert.Project16.τ).loc Cert.Project16.main_arg2)
      ∧ r.2.mem ((c.tc : Thread Cert.Project16.nD Cert.Project16.τ).loc Cert.Project16.main_arg3) = m ((c.tc : Thread Cert.Project16.nD Cert.Project16.τ).loc Cert.Project16.main_arg3))
      ∧ r.2.sem = fun _ => 0)

def quiescent_Project16Ideal [hProject16Ideal : Cert.Project16Ideal.Facts] : Prop :=
  ∀ (m : (ℓ : Loc Cert.Project16Ideal.nD Cert.Project16Ideal.τ Cert.Project16Ideal.sig) → Buf (Elt Ideal) ℓ) (g : Dev Cert.Project16Ideal.nD → PrngReg), Pre_Project16Ideal m →
    θ_run (Cert.Project16Ideal.defs (F := Ideal)) (onTc (τ := Cert.Project16Ideal.τ) (Cert.Project16Ideal.main (F := Ideal))) ⟨m, fun _ => 0, g⟩ (fun r => (∀ c : Dev Cert.Project16Ideal.nD,
      r.2.mem ((c.tc : Thread Cert.Project16Ideal.nD Cert.Project16Ideal.τ).loc Cert.Project16Ideal.main_arg0) = m ((c.tc : Thread Cert.Project16Ideal.nD Cert.Project16Ideal.τ).loc Cert.Project16Ideal.main_arg0)
      ∧ r.2.mem ((c.tc : Thread Cert.Project16Ideal.nD Cert.Project16Ideal.τ).loc Cert.Project16Ideal.main_arg1) = m ((c.tc : Thread Cert.Project16Ideal.nD Cert.Project16Ideal.τ).loc Cert.Project16Ideal.main_arg1)
      ∧ r.2.mem ((c.tc : Thread Cert.Project16Ideal.nD Cert.Project16Ideal.τ).loc Cert.Project16Ideal.main_arg2) = m ((c.tc : Thread Cert.Project16Ideal.nD Cert.Project16Ideal.τ).loc Cert.Project16Ideal.main_arg2)
      ∧ r.2.mem ((c.tc : Thread Cert.Project16Ideal.nD Cert.Project16Ideal.τ).loc Cert.Project16Ideal.main_arg3) = m ((c.tc : Thread Cert.Project16Ideal.nD Cert.Project16Ideal.τ).loc Cert.Project16Ideal.main_arg3))
      ∧ r.2.sem = fun _ => 0)

def quiescent_Project16ReferenceIdeal [hProject16ReferenceIdeal : Cert.Project16ReferenceIdeal.Facts] : Prop :=
  ∀ (m : (ℓ : Loc Cert.Project16ReferenceIdeal.nD Cert.Project16ReferenceIdeal.τ Cert.Project16ReferenceIdeal.sig) → Buf (Elt Ideal) ℓ) (g : Dev Cert.Project16ReferenceIdeal.nD → PrngReg), Pre_Project16ReferenceIdeal m →
    θ_run (Cert.Project16ReferenceIdeal.defs (F := Ideal)) (onTc (τ := Cert.Project16ReferenceIdeal.τ) (Cert.Project16ReferenceIdeal.main (F := Ideal))) ⟨m, fun _ => 0, g⟩ (fun r => (∀ c : Dev Cert.Project16ReferenceIdeal.nD,
      r.2.mem ((c.tc : Thread Cert.Project16ReferenceIdeal.nD Cert.Project16ReferenceIdeal.τ).loc Cert.Project16ReferenceIdeal.main_arg0) = m ((c.tc : Thread Cert.Project16ReferenceIdeal.nD Cert.Project16ReferenceIdeal.τ).loc Cert.Project16ReferenceIdeal.main_arg0)
      ∧ r.2.mem ((c.tc : Thread Cert.Project16ReferenceIdeal.nD Cert.Project16ReferenceIdeal.τ).loc Cert.Project16ReferenceIdeal.main_arg1) = m ((c.tc : Thread Cert.Project16ReferenceIdeal.nD Cert.Project16ReferenceIdeal.τ).loc Cert.Project16ReferenceIdeal.main_arg1)
      ∧ r.2.mem ((c.tc : Thread Cert.Project16ReferenceIdeal.nD Cert.Project16ReferenceIdeal.τ).loc Cert.Project16ReferenceIdeal.main_arg2) = m ((c.tc : Thread Cert.Project16ReferenceIdeal.nD Cert.Project16ReferenceIdeal.τ).loc Cert.Project16ReferenceIdeal.main_arg2)
      ∧ r.2.mem ((c.tc : Thread Cert.Project16ReferenceIdeal.nD Cert.Project16ReferenceIdeal.τ).loc Cert.Project16ReferenceIdeal.main_arg3) = m ((c.tc : Thread Cert.Project16ReferenceIdeal.nD Cert.Project16ReferenceIdeal.τ).loc Cert.Project16ReferenceIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v53) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)) (v2 : (c : Dev Cert.ProjectIdeal.nD) → Buf (Elt Ideal) ((c.tc : Thread Cert.ProjectIdeal.nD Cert.ProjectIdeal.τ).loc Cert.ProjectIdeal.main_v3_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_v3_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v26) = v0 c
          ∧ r.2.mem ((c.tc : Thread Cert.ProjectReferenceIdeal.nD Cert.ProjectReferenceIdeal.τ).loc Cert.ProjectReferenceIdeal.main_v28) = v1 c
          ∧ r.2.mem ((c.tc : Thread Cert.ProjectReferenceIdeal.nD Cert.ProjectReferenceIdeal.τ).loc Cert.ProjectReferenceIdeal.main_v30) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Project4_Project4Ideal : Prop :=
  True

def algebraic_Project4Ideal_Project4ReferenceIdeal [hProject4Ideal : Cert.Project4Ideal.Facts] [hProject4ReferenceIdeal : Cert.Project4ReferenceIdeal.Facts] : Prop :=
  ∀ (m : (ℓ : Loc Cert.Project4Ideal.nD Cert.Project4Ideal.τ Cert.Project4Ideal.sig) → Buf (Elt Ideal) ℓ) (g : Dev Cert.Project4Ideal.nD → PrngReg)
    (m' : (ℓ : Loc Cert.Project4ReferenceIdeal.nD Cert.Project4ReferenceIdeal.τ Cert.Project4ReferenceIdeal.sig) → Buf (Elt Ideal) ℓ) (g' : Dev Cert.Project4ReferenceIdeal.nD → PrngReg), Pre_Project4Ideal m →
    (∀ c : Dev Cert.Project4Ideal.nD,
      m' ((c.tc : Thread Cert.Project4ReferenceIdeal.nD Cert.Project4ReferenceIdeal.τ).loc Cert.Project4ReferenceIdeal.main_arg0) = m ((c.tc : Thread Cert.Project4Ideal.nD Cert.Project4Ideal.τ).loc Cert.Project4Ideal.main_arg0)
      ∧ m' ((c.tc : Thread Cert.Project4ReferenceIdeal.nD Cert.Project4ReferenceIdeal.τ).loc Cert.Project4ReferenceIdeal.main_arg1) = m ((c.tc : Thread Cert.Project4Ideal.nD Cert.Project4Ideal.τ).loc Cert.Project4Ideal.main_arg1)
      ∧ m' ((c.tc : Thread Cert.Project4ReferenceIdeal.nD Cert.Project4ReferenceIdeal.τ).loc Cert.Project4ReferenceIdeal.main_arg2) = m ((c.tc : Thread Cert.Project4Ideal.nD Cert.Project4Ideal.τ).loc Cert.Project4Ideal.main_arg2)
      ∧ m' ((c.tc : Thread Cert.Project4ReferenceIdeal.nD Cert.Project4ReferenceIdeal.τ).loc Cert.Project4ReferenceIdeal.main_arg3) = m ((c.tc : Thread Cert.Project4Ideal.nD Cert.Project4Ideal.τ).loc Cert.Project4Ideal.main_arg3)) →
    ∃ (v0 : (c : Dev Cert.Project4Ideal.nD) → Buf (Elt Ideal) ((c.tc : Thread Cert.Project4Ideal.nD Cert.Project4Ideal.τ).loc Cert.Project4Ideal.main_v3_0)) (v1 : (c : Dev Cert.Project4Ideal.nD) → Buf (Elt Ideal) ((c.tc : Thread Cert.Project4Ideal.nD Cert.Project4Ideal.τ).loc Cert.Project4Ideal.main_v3_1)) (v2 : (c : Dev Cert.Project4Ideal.nD) → Buf (Elt Ideal) ((c.tc : Thread Cert.Project4Ideal.nD Cert.Project4Ideal.τ).loc Cert.Project4Ideal.main_v3_2)),
      θ_run (Cert.Project4Ideal.defs (F := Ideal)) (onTc (τ := Cert.Project4Ideal.τ) (Cert.Project4Ideal.main (F := Ideal))) ⟨m, fun _ => 0, g⟩ (fun r => ∀ c : Dev Cert.Project4Ideal.nD,
          r.2.mem ((c.tc : Thread Cert.Project4Ideal.nD Cert.Project4Ideal.τ).loc Cert.Project4Ideal.main_v3_0) = v0 c
          ∧ r.2.mem ((c.tc : Thread Cert.Project4Ideal.nD Cert.Project4Ideal.τ).loc Cert.Project4Ideal.main_v3_1) = v1 c
          ∧ r.2.mem ((c.tc : Thread Cert.Project4Ideal.nD Cert.Project4Ideal.τ).loc Cert.Project4Ideal.main_v3_2) = v2 c
          ∧ r.2.mem ((c.tc : Thread Cert.Project4Ideal.nD Cert.Project4Ideal.τ).loc Cert.Project4Ideal.main_arg0) = m ((c.tc : Thread Cert.Project4Ideal.nD Cert.Project4Ideal.τ).loc Cert.Project4Ideal.main_arg0)
          ∧ r.2.mem ((c.tc : Thread Cert.Project4Ideal.nD Cert.Project4Ideal.τ).loc Cert.Project4Ideal.main_arg1) = m ((c.tc : Thread Cert.Project4Ideal.nD Cert.Project4Ideal.τ).loc Cert.Project4Ideal.main_arg1)
          ∧ r.2.mem ((c.tc : Thread Cert.Project4Ideal.nD Cert.Project4Ideal.τ).loc Cert.Project4Ideal.main_arg2) = m ((c.tc : Thread Cert.Project4Ideal.nD Cert.Project4Ideal.τ).loc Cert.Project4Ideal.main_arg2)
          ∧ r.2.mem ((c.tc : Thread Cert.Project4Ideal.nD Cert.Project4Ideal.τ).loc Cert.Project4Ideal.main_arg3) = m ((c.tc : Thread Cert.Project4Ideal.nD Cert.Project4Ideal.τ).loc Cert.Project4Ideal.main_arg3))
      ∧ θ_run (Cert.Project4ReferenceIdeal.defs (F := Ideal)) (onTc (τ := Cert.Project4ReferenceIdeal.τ) (Cert.Project4ReferenceIdeal.main (F := Ideal))) ⟨m', fun _ => 0, g'⟩ (fun r => ∀ c : Dev Cert.Project4ReferenceIdeal.nD,
          r.2.mem ((c.tc : Thread Cert.Project4ReferenceIdeal.nD Cert.Project4ReferenceIdeal.τ).loc Cert.Project4ReferenceIdeal.main_v27) = v0 c
          ∧ r.2.mem ((c.tc : Thread Cert.Project4ReferenceIdeal.nD Cert.Project4ReferenceIdeal.τ).loc Cert.Project4ReferenceIdeal.main_v28) = v1 c
          ∧ r.2.mem ((c.tc : Thread Cert.Project4ReferenceIdeal.nD Cert.Project4ReferenceIdeal.τ).loc Cert.Project4ReferenceIdeal.main_v30) = v2 c
          ∧ r.2.mem ((c.tc : Thread Cert.Project4ReferenceIdeal.nD Cert.Project4ReferenceIdeal.τ).loc Cert.Project4ReferenceIdeal.main_arg0) = m' ((c.tc : Thread Cert.Project4ReferenceIdeal.nD Cert.Project4ReferenceIdeal.τ).loc Cert.Project4ReferenceIdeal.main_arg0)
          ∧ r.2.mem ((c.tc : Thread Cert.Project4ReferenceIdeal.nD Cert.Project4ReferenceIdeal.τ).loc Cert.Project4ReferenceIdeal.main_arg1) = m' ((c.tc : Thread Cert.Project4ReferenceIdeal.nD Cert.Project4ReferenceIdeal.τ).loc Cert.Project4ReferenceIdeal.main_arg1)
          ∧ r.2.mem ((c.tc : Thread Cert.Project4ReferenceIdeal.nD Cert.Project4ReferenceIdeal.τ).loc Cert.Project4ReferenceIdeal.main_arg2) = m' ((c.tc : Thread Cert.Project4ReferenceIdeal.nD Cert.Project4ReferenceIdeal.τ).loc Cert.Project4ReferenceIdeal.main_arg2)
          ∧ r.2.mem ((c.tc : Thread Cert.Project4ReferenceIdeal.nD Cert.Project4ReferenceIdeal.τ).loc Cert.Project4ReferenceIdeal.main_arg3) = m' ((c.tc : Thread Cert.Project4ReferenceIdeal.nD Cert.Project4ReferenceIdeal.τ).loc Cert.Project4ReferenceIdeal.main_arg3))

def preserves_Project16_Project16Ideal : Prop :=
  True

def algebraic_Project16Ideal_Project16ReferenceIdeal [hProject16Ideal : Cert.Project16Ideal.Facts] [hProject16ReferenceIdeal : Cert.Project16ReferenceIdeal.Facts] : Prop :=
  ∀ (m : (ℓ : Loc Cert.Project16Ideal.nD Cert.Project16Ideal.τ Cert.Project16Ideal.sig) → Buf (Elt Ideal) ℓ) (g : Dev Cert.Project16Ideal.nD → PrngReg)
    (m' : (ℓ : Loc Cert.Project16ReferenceIdeal.nD Cert.Project16ReferenceIdeal.τ Cert.Project16ReferenceIdeal.sig) → Buf (Elt Ideal) ℓ) (g' : Dev Cert.Project16ReferenceIdeal.nD → PrngReg), Pre_Project16Ideal m →
    (∀ c : Dev Cert.Project16Ideal.nD,
      m' ((c.tc : Thread Cert.Project16ReferenceIdeal.nD Cert.Project16ReferenceIdeal.τ).loc Cert.Project16ReferenceIdeal.main_arg0) = m ((c.tc : Thread Cert.Project16Ideal.nD Cert.Project16Ideal.τ).loc Cert.Project16Ideal.main_arg0)
      ∧ m' ((c.tc : Thread Cert.Project16ReferenceIdeal.nD Cert.Project16ReferenceIdeal.τ).loc Cert.Project16ReferenceIdeal.main_arg1) = m ((c.tc : Thread Cert.Project16Ideal.nD Cert.Project16Ideal.τ).loc Cert.Project16Ideal.main_arg1)
      ∧ m' ((c.tc : Thread Cert.Project16ReferenceIdeal.nD Cert.Project16ReferenceIdeal.τ).loc Cert.Project16ReferenceIdeal.main_arg2) = m ((c.tc : Thread Cert.Project16Ideal.nD Cert.Project16Ideal.τ).loc Cert.Project16Ideal.main_arg2)
      ∧ m' ((c.tc : Thread Cert.Project16ReferenceIdeal.nD Cert.Project16ReferenceIdeal.τ).loc Cert.Project16ReferenceIdeal.main_arg3) = m ((c.tc : Thread Cert.Project16Ideal.nD Cert.Project16Ideal.τ).loc Cert.Project16Ideal.main_arg3)) →
    ∃ (v0 : (c : Dev Cert.Project16Ideal.nD) → Buf (Elt Ideal) ((c.tc : Thread Cert.Project16Ideal.nD Cert.Project16Ideal.τ).loc Cert.Project16Ideal.main_v3_0)) (v1 : (c : Dev Cert.Project16Ideal.nD) → Buf (Elt Ideal) ((c.tc : Thread Cert.Project16Ideal.nD Cert.Project16Ideal.τ).loc Cert.Project16Ideal.main_v3_1)) (v2 : (c : Dev Cert.Project16Ideal.nD) → Buf (Elt Ideal) ((c.tc : Thread Cert.Project16Ideal.nD Cert.Project16Ideal.τ).loc Cert.Project16Ideal.main_v3_2)),
      θ_run (Cert.Project16Ideal.defs (F := Ideal)) (onTc (τ := Cert.Project16Ideal.τ) (Cert.Project16Ideal.main (F := Ideal))) ⟨m, fun _ => 0, g⟩ (fun r => ∀ c : Dev Cert.Project16Ideal.nD,
          r.2.mem ((c.tc : Thread Cert.Project16Ideal.nD Cert.Project16Ideal.τ).loc Cert.Project16Ideal.main_v3_0) = v0 c
          ∧ r.2.mem ((c.tc : Thread Cert.Project16Ideal.nD Cert.Project16Ideal.τ).loc Cert.Project16Ideal.main_v3_1) = v1 c
          ∧ r.2.mem ((c.tc : Thread Cert.Project16Ideal.nD Cert.Project16Ideal.τ).loc Cert.Project16Ideal.main_v3_2) = v2 c
          ∧ r.2.mem ((c.tc : Thread Cert.Project16Ideal.nD Cert.Project16Ideal.τ).loc Cert.Project16Ideal.main_arg0) = m ((c.tc : Thread Cert.Project16Ideal.nD Cert.Project16Ideal.τ).loc Cert.Project16Ideal.main_arg0)
          ∧ r.2.mem ((c.tc : Thread Cert.Project16Ideal.nD Cert.Project16Ideal.τ).loc Cert.Project16Ideal.main_arg1) = m ((c.tc : Thread Cert.Project16Ideal.nD Cert.Project16Ideal.τ).loc Cert.Project16Ideal.main_arg1)
          ∧ r.2.mem ((c.tc : Thread Cert.Project16Ideal.nD Cert.Project16Ideal.τ).loc Cert.Project16Ideal.main_arg2) = m ((c.tc : Thread Cert.Project16Ideal.nD Cert.Project16Ideal.τ).loc Cert.Project16Ideal.main_arg2)
          ∧ r.2.mem ((c.tc : Thread Cert.Project16Ideal.nD Cert.Project16Ideal.τ).loc Cert.Project16Ideal.main_arg3) = m ((c.tc : Thread Cert.Project16Ideal.nD Cert.Project16Ideal.τ).loc Cert.Project16Ideal.main_arg3))
      ∧ θ_run (Cert.Project16ReferenceIdeal.defs (F := Ideal)) (onTc (τ := Cert.Project16ReferenceIdeal.τ) (Cert.Project16ReferenceIdeal.main (F := Ideal))) ⟨m', fun _ => 0, g'⟩ (fun r => ∀ c : Dev Cert.Project16ReferenceIdeal.nD,
          r.2.mem ((c.tc : Thread Cert.Project16ReferenceIdeal.nD Cert.Project16ReferenceIdeal.τ).loc Cert.Project16ReferenceIdeal.main_v27) = v0 c
          ∧ r.2.mem ((c.tc : Thread Cert.Project16ReferenceIdeal.nD Cert.Project16ReferenceIdeal.τ).loc Cert.Project16ReferenceIdeal.main_v28) = v1 c
          ∧ r.2.mem ((c.tc : Thread Cert.Project16ReferenceIdeal.nD Cert.Project16ReferenceIdeal.τ).loc Cert.Project16ReferenceIdeal.main_v30) = v2 c
          ∧ r.2.mem ((c.tc : Thread Cert.Project16ReferenceIdeal.nD Cert.Project16ReferenceIdeal.τ).loc Cert.Project16ReferenceIdeal.main_arg0) = m' ((c.tc : Thread Cert.Project16ReferenceIdeal.nD Cert.Project16ReferenceIdeal.τ).loc Cert.Project16ReferenceIdeal.main_arg0)
          ∧ r.2.mem ((c.tc : Thread Cert.Project16ReferenceIdeal.nD Cert.Project16ReferenceIdeal.τ).loc Cert.Project16ReferenceIdeal.main_arg1) = m' ((c.tc : Thread Cert.Project16ReferenceIdeal.nD Cert.Project16ReferenceIdeal.τ).loc Cert.Project16ReferenceIdeal.main_arg1)
          ∧ r.2.mem ((c.tc : Thread Cert.Project16ReferenceIdeal.nD Cert.Project16ReferenceIdeal.τ).loc Cert.Project16ReferenceIdeal.main_arg2) = m' ((c.tc : Thread Cert.Project16ReferenceIdeal.nD Cert.Project16ReferenceIdeal.τ).loc Cert.Project16ReferenceIdeal.main_arg2)
          ∧ r.2.mem ((c.tc : Thread Cert.Project16ReferenceIdeal.nD Cert.Project16ReferenceIdeal.τ).loc Cert.Project16ReferenceIdeal.main_arg3) = m' ((c.tc : Thread Cert.Project16ReferenceIdeal.nD Cert.Project16ReferenceIdeal.τ).loc Cert.Project16ReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProject : Cert.Project.Facts) (hProjectIdeal : Cert.ProjectIdeal.Facts) (hProjectReferenceIdeal : Cert.ProjectReferenceIdeal.Facts) (hProject4 : Cert.Project4.Facts) (hProject4Ideal : Cert.Project4Ideal.Facts) (hProject4ReferenceIdeal : Cert.Project4ReferenceIdeal.Facts) (hProject16 : Cert.Project16.Facts) (hProject16Ideal : Cert.Project16Ideal.Facts) (hProject16ReferenceIdeal : Cert.Project16ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Project4 (hProject4 := hProject4)
    ∧ quiescent_Project4Ideal (hProject4Ideal := hProject4Ideal)
    ∧ quiescent_Project4ReferenceIdeal (hProject4ReferenceIdeal := hProject4ReferenceIdeal)
    ∧ quiescent_Project16 (hProject16 := hProject16)
    ∧ quiescent_Project16Ideal (hProject16Ideal := hProject16Ideal)
    ∧ quiescent_Project16ReferenceIdeal (hProject16ReferenceIdeal := hProject16ReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Project_ProjectIdeal
    ∧ algebraic_ProjectIdeal_ProjectReferenceIdeal (hProjectIdeal := hProjectIdeal) (hProjectReferenceIdeal := hProjectReferenceIdeal)
    ∧ preserves_Project4_Project4Ideal
    ∧ algebraic_Project4Ideal_Project4ReferenceIdeal (hProject4Ideal := hProject4Ideal) (hProject4ReferenceIdeal := hProject4ReferenceIdeal)
    ∧ preserves_Project16_Project16Ideal
    ∧ algebraic_Project16Ideal_Project16ReferenceIdeal (hProject16Ideal := hProject16Ideal) (hProject16ReferenceIdeal := hProject16ReferenceIdeal)
-- ==== Pre_finite_qk.lean ====
abbrev S8x8192x8x64 : Shape := ⟨4, ![8, 8192, 8, 64]⟩
abbrev S8x8192x2x64 : Shape := ⟨4, ![8, 8192, 2, 64]⟩
abbrev S_ : Shape := ⟨0, ![]⟩

class Facts : Prop where
  bcast_S_S8x8192x8x64 : S_.BroadcastsInDim S8x8192x8x64 (![] : Fin 0 → Fin S8x8192x8x64.rank)
  bcast_S_S8x8192x2x64 : S_.BroadcastsInDim S8x8192x2x64 (![] : Fin 0 → Fin S8x8192x2x64.rank)

variable [Facts]

def fn {F : FTy → Type} [FloatOps F] (main_arg0 : FVec F S8x8192x8x64 .f32) (main_arg1 : FVec F S8x8192x2x64 .f32) (main_arg2 : FVec F S8x8192x2x64 .f32) : IVec S8x8192x8x64 1 × IVec S8x8192x2x64 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_v3 : FVec F S8x8192x2x64 .f32 := Host.absf main_arg1
  let main_cst_0 : FVec F S_ .f32 := constant S_ .f32 0x7F800000#32
  let main_v4 : FVec F S8x8192x2x64 .f32 := broadcastInDim S8x8192x2x64 ![] bcast_S_S8x8192x2x64 main_cst_0
  let main_v5 : IVec S8x8192x2x64 1 := cmpf .olt main_v3 main_v4
  (main_v2, main_v5)
-- ==== Kernel.lean ====
abbrev S8x8192x8x64 : Shape := ⟨4, ![8, 8192, 8, 64]⟩
abbrev S8x8192x2x64 : Shape := ⟨4, ![8, 8192, 2, 64]⟩
abbrev S8x8192x2x4x64 : Shape := ⟨5, ![8, 8192, 2, 4, 64]⟩
abbrev S8x4x2x64x8192 : Shape := ⟨5, ![8, 4, 2, 64, 8192]⟩
abbrev S8x512x8192 : Shape := ⟨3, ![8, 512, 8192]⟩
abbrev S_ : Shape := ⟨0, ![]⟩
abbrev S8x8192x128 : Shape := ⟨3, ![8, 8192, 128]⟩
abbrev S8x128x8192 : Shape := ⟨3, ![8, 128, 8192]⟩
abbrev S8x16x8192 : Shape := ⟨3, ![8, 16, 8192]⟩
abbrev S8x144x8192 : Shape := ⟨3, ![8, 144, 8192]⟩
abbrev S8x8192x512 : Shape := ⟨3, ![8, 8192, 512]⟩
abbrev S1x512x256 : Shape := ⟨3, ![1, 512, 256]⟩
abbrev S1x8192x128 : Shape := ⟨3, ![1, 8192, 128]⟩
abbrev S1x144x8192 : Shape := ⟨3, ![1, 144, 8192]⟩
abbrev S1x256x512 : Shape := ⟨3, ![1, 256, 512]⟩
abbrev S8x128x256 : Shape := ⟨3, ![8, 128, 256]⟩
abbrev S8x1x256 : Shape := ⟨3, ![8, 1, 256]⟩
abbrev S8x144x256 : Shape := ⟨3, ![8, 144, 256]⟩
abbrev S8x1024x256 : Shape := ⟨3, ![8, 1024, 256]⟩
abbrev S128x256 : Shape := ⟨2, ![128, 256]⟩
abbrev S1x128x256 : Shape := ⟨3, ![1, 128, 256]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S1x1x256 : Shape := ⟨3, ![1, 1, 256]⟩
abbrev S1x1024x128 : Shape := ⟨3, ![1, 1024, 128]⟩
abbrev S1024x128 : Shape := ⟨2, ![1024, 128]⟩
abbrev S1024x256 : Shape := ⟨2, ![1024, 256]⟩
abbrev S1x1024x256 : Shape := ⟨3, ![1, 1024, 256]⟩
abbrev S1x144x1024 : Shape := ⟨3, ![1, 144, 1024]⟩
abbrev S144x1024 : Shape := ⟨2, ![144, 1024]⟩
abbrev S1x144x256 : Shape := ⟨3, ![1, 144, 256]⟩
abbrev S144x256 : Shape := ⟨2, ![144, 256]⟩
abbrev S1x8x1x256 : Shape := ⟨4, ![1, 8, 1, 256]⟩
abbrev S1 : Shape := ⟨1, ![1]⟩
abbrev S1x1x1x1 : Shape := ⟨4, ![1, 1, 1, 1]⟩
abbrev S1x64x256 : Shape := ⟨3, ![1, 64, 256]⟩
abbrev S64x256 : Shape := ⟨2, ![64, 256]⟩
abbrev S256x128 : Shape := ⟨2, ![256, 128]⟩
abbrev S1x256x128 : Shape := ⟨3, ![1, 256, 128]⟩

abbrev nBuf : Space → Nat
  | .hbm => 22
  | .vmem => 20
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8x8192x2x4x64, .f32⟩
  | .hbm, ⟨4, _⟩ => ⟨S8x4x2x64x8192, .f32⟩
  | .hbm, ⟨5, _⟩ => ⟨S8x512x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x512x8192, .f32⟩
  | .hbm, ⟨11, _⟩ => ⟨S8x512x8192, .f32⟩
  | .hbm, ⟨12, _⟩ => ⟨S8x512x8192, .bf16⟩
  | .hbm, ⟨13, _⟩ => ⟨S8x8192x128, .f32⟩
  | .hbm, ⟨14, _⟩ => ⟨S8x8192x128, .bf16⟩
  | .hbm, ⟨15, _⟩ => ⟨S8x8192x128, .f32⟩
  | .hbm, ⟨16, _⟩ => ⟨S8x128x8192, .f32⟩
  | .hbm, ⟨17, _⟩ => ⟨S8x128x8192, .bf16⟩
  | .hbm, ⟨18, _⟩ => ⟨S_, .bf16⟩
  | .hbm, ⟨19, _⟩ => ⟨S8x16x8192, .bf16⟩
  | .hbm, ⟨20, _⟩ => ⟨S8x144x8192, .bf16⟩
  | .hbm, ⟨21, _⟩ => ⟨S8x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x144x8192, .bf16⟩
  | .local _ .vmem, ⟨5, _⟩ => ⟨S1x144x8192, .bf16⟩
  | .local _ .vmem, ⟨6, _⟩ => ⟨S1x256x512, .bf16⟩
  | .local _ .vmem, ⟨7, _⟩ => ⟨S1x256x512, .bf16⟩
  | .local _ .vmem, ⟨8, _⟩ => ⟨S8x128x256, .bf16⟩
  | .local _ .vmem, ⟨9, _⟩ => ⟨S8x1x256, .f32⟩
  | .local _ .vmem, ⟨10, _⟩ => ⟨S8x1x256, .f32⟩
  | .local _ .vmem, ⟨11, _⟩ => ⟨S8x144x256, .f32⟩
  | .local _ .vmem, ⟨12, _⟩ => ⟨S8x1024x256, .bf16⟩
  | .local _ .vmem, ⟨13, _⟩ => ⟨S8x1024x256, .f32⟩
  | .local _ .vmem, ⟨14, _⟩ => ⟨S8x1024x256, .f32⟩
  | .local _ .vmem, ⟨15, _⟩ => ⟨S8x1x256, .f32⟩
  | .local _ .vmem, ⟨16, _⟩ => ⟨S8x1x256, .f32⟩
  | .local _ .vmem, ⟨17, _⟩ => ⟨S8x1024x256, .bf16⟩
  | .local _ .vmem, ⟨18, _⟩ => ⟨S8x1x256, .f32⟩
  | .local _ .vmem, ⟨19, _⟩ => ⟨S8x1x256, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
def k0_mult2 : BitVec 32 :=
  let c0_i32_57 : BitVec 32 := 0#32
  c0_i32_57
def k0_mult3 : BitVec 32 :=
  let c0_i32_76 : BitVec 32 := 0#32
  c0_i32_76
def k0_mult4 : BitVec 32 :=
  let c0_i32_95 : BitVec 32 := 0#32
  c0_i32_95
def k0_mult5 : BitVec 32 :=
  let c0_i32_114 : BitVec 32 := 0#32
  c0_i32_114
def k0_mult6 : BitVec 32 :=
  let c0_i32_133 : BitVec 32 := 0#32
  c0_i32_133
def k0_mult7 : BitVec 32 :=
  let c0_i32_152 : BitVec 32 := 0#32
  c0_i32_152
def k0_mult8 : BitVec 32 :=
  let c0_i32_171 : BitVec 32 := 0#32
  c0_i32_171
def k0_mult9 : BitVec 32 :=
  let c0_i32_198 : BitVec 32 := 0#32
  c0_i32_198
def k0_mult10 : BitVec 32 :=
  let c0_i32_237 : BitVec 32 := 0#32
  c0_i32_237
def k0_mult11 : BitVec 32 :=
  let c0_i32_276 : BitVec 32 := 0#32
  c0_i32_276
def k0_mult12 : BitVec 32 :=
  let c0_i32_315 : BitVec 32 := 0#32
  c0_i32_315
def k0_mult13 : BitVec 32 :=
  let c0_i32_354 : BitVec 32 := 0#32
  c0_i32_354
def k0_mult14 : BitVec 32 :=
  let c0_i32_393 : BitVec 32 := 0#32
  c0_i32_393
def k0_mult15 : BitVec 32 :=
  let c0_i32_432 : BitVec 32 := 0#32
  c0_i32_432
def k0_mult16 : BitVec 32 :=
  let c0_i32_471 : BitVec 32 := 0#32
  c0_i32_471
@[reducible] def k0_t1_loop : Scf.Loop 32 :=
  let c0_i32_510 : BitVec 32 := 0#32
  let c3_i32 : BitVec 32 := 3#32
  let v669 : BitVec 32 := Scalar.addi c0_i32_510 c3_i32
  let c1_i32 : BitVec 32 := 1#32
  ⟨c0_i32_510, v669, c1_i32⟩
def k0_mult17 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1239 : BitVec 32 := 1#32
  let v1543 : BitVec 32 := Scalar.addi v1542 c1_i32_1239
  let c1024_i32 : BitVec 32 := 1024#32
  let v1544 : BitVec 32 := Scalar.muli v1543 c1024_i32
  v1544
def k0_off1 (k0_t1 : Fin k0_t1_loop.trips) : Fin 3 → Nat :=
  let c0_1240 : Index := 0#32
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1239 : BitVec 32 := 1#32
  let v1543 : BitVec 32 := Scalar.addi v1542 c1_i32_1239
  let c1024_i32 : BitVec 32 := 1024#32
  let v1544 : BitVec 32 := Scalar.muli v1543 c1024_i32
  let v1545 : BitVec 32 := v1544
  let v1546 : Index := Scalar.indexCast v1545
  let c0_1241 : Index := 0#32
  ![0, v1546.toNat, 0]
def k0_mult18 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1278 : BitVec 32 := 1024#32
  let v1596 : BitVec 32 := Scalar.muli v1542 c1024_i32_1278
  v1596
def k0_off2 (k0_t1 : Fin k0_t1_loop.trips) : Fin 3 → Nat :=
  let c0_1279 : Index := 0#32
  let c0_1280 : Index := 0#32
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1278 : BitVec 32 := 1024#32
  let v1596 : BitVec 32 := Scalar.muli v1542 c1024_i32_1278
  let v1597 : BitVec 32 := v1596
  let v1598 : Index := Scalar.indexCast v1597
  ![0, 0, v1598.toNat]
def k0_mult19 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1300 : BitVec 32 := 1#32
  let v1621 : BitVec 32 := Scalar.addi v1542 c1_i32_1300
  let c1024_i32_1301 : BitVec 32 := 1024#32
  let v1622 : BitVec 32 := Scalar.muli v1621 c1024_i32_1301
  v1622
def k0_mult20 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1340 : BitVec 32 := 1024#32
  let v1674 : BitVec 32 := Scalar.muli v1542 c1024_i32_1340
  v1674
def k0_mult21 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1362 : BitVec 32 := 1#32
  let v1699 : BitVec 32 := Scalar.addi v1542 c1_i32_1362
  let c1024_i32_1363 : BitVec 32 := 1024#32
  let v1700 : BitVec 32 := Scalar.muli v1699 c1024_i32_1363
  v1700
def k0_mult22 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1402 : BitVec 32 := 1024#32
  let v1752 : BitVec 32 := Scalar.muli v1542 c1024_i32_1402
  v1752
def k0_mult23 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1424 : BitVec 32 := 1#32
  let v1777 : BitVec 32 := Scalar.addi v1542 c1_i32_1424
  let c1024_i32_1425 : BitVec 32 := 1024#32
  let v1778 : BitVec 32 := Scalar.muli v1777 c1024_i32_1425
  v1778
def k0_mult24 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1464 : BitVec 32 := 1024#32
  let v1830 : BitVec 32 := Scalar.muli v1542 c1024_i32_1464
  v1830
def k0_mult25 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1486 : BitVec 32 := 1#32
  let v1855 : BitVec 32 := Scalar.addi v1542 c1_i32_1486
  let c1024_i32_1487 : BitVec 32 := 1024#32
  let v1856 : BitVec 32 := Scalar.muli v1855 c1024_i32_1487
  v1856
def k0_mult26 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1526 : BitVec 32 := 1024#32
  let v1908 : BitVec 32 := Scalar.muli v1542 c1024_i32_1526
  v1908
def k0_mult27 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1548 : BitVec 32 := 1#32
  let v1933 : BitVec 32 := Scalar.addi v1542 c1_i32_1548
  let c1024_i32_1549 : BitVec 32 := 1024#32
  let v1934 : BitVec 32 := Scalar.muli v1933 c1024_i32_1549
  v1934
def k0_mult28 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1588 : BitVec 32 := 1024#32
  let v1986 : BitVec 32 := Scalar.muli v1542 c1024_i32_1588
  v1986
def k0_mult29 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1610 : BitVec 32 := 1#32
  let v2011 : BitVec 32 := Scalar.addi v1542 c1_i32_1610
  let c1024_i32_1611 : BitVec 32 := 1024#32
  let v2012 : BitVec 32 := Scalar.muli v2011 c1024_i32_1611
  v2012
def k0_mult30 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1650 : BitVec 32 := 1024#32
  let v2064 : BitVec 32 := Scalar.muli v1542 c1024_i32_1650
  v2064
def k0_mult31 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1_i32_1672 : BitVec 32 := 1#32
  let v2089 : BitVec 32 := Scalar.addi v1542 c1_i32_1672
  let c1024_i32_1673 : BitVec 32 := 1024#32
  let v2090 : BitVec 32 := Scalar.muli v2089 c1024_i32_1673
  v2090
def k0_mult32 (k0_t1 : Fin k0_t1_loop.trips) : BitVec 32 :=
  let c2_i32 : BitVec 32 := 2#32
  let c0_i32_510 : BitVec 32 := 0#32
  let c1_i32 : BitVec 32 := 1#32
  let arg18 : BitVec 32 := Scf.iv c0_i32_510 c1_i32 k0_t1
  let v1542 : BitVec 32 := Scalar.muli c2_i32 arg18
  let c1024_i32_1712 : BitVec 32 := 1024#32
  let v2142 : BitVec 32 := Scalar.muli v1542 c1024_i32_1712
  v2142
def k0_mult33 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1736 : BitVec 32 := 1#32
  let v2169 : BitVec 32 := Scalar.addi v2168 c1_i32_1736
  let c1024_i32_1737 : BitVec 32 := 1024#32
  let v2170 : BitVec 32 := Scalar.muli v2169 c1024_i32_1737
  v2170
def k0_off3 (k0_t1 : Fin k0_t1_loop.trips) : Fin 3 → Nat :=
  let c0_1738 : Index := 0#32
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1736 : BitVec 32 := 1#32
  let v2169 : BitVec 32 := Scalar.addi v2168 c1_i32_1736
  let c1024_i32_1737 : BitVec 32 := 1024#32
  let v2170 : BitVec 32 := Scalar.muli v2169 c1024_i32_1737
  let v2171 : BitVec 32 := v2170
  let v2172 : Index := Scalar.indexCast v2171
  let c0_1739 : Index := 0#32
  ![0, v2172.toNat, 0]
def k0_mult34 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_1776 : BitVec 32 := 1024#32
  let v2222 : BitVec 32 := Scalar.muli v2168 c1024_i32_1776
  v2222
def k0_off4 (k0_t1 : Fin k0_t1_loop.trips) : Fin 3 → Nat :=
  let c0_1777 : Index := 0#32
  let c0_1778 : Index := 0#32
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_1776 : BitVec 32 := 1024#32
  let v2222 : BitVec 32 := Scalar.muli v2168 c1024_i32_1776
  let v2223 : BitVec 32 := v2222
  let v2224 : Index := Scalar.indexCast v2223
  ![0, 0, v2224.toNat]
def k0_mult35 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1798 : BitVec 32 := 1#32
  let v2247 : BitVec 32 := Scalar.addi v2168 c1_i32_1798
  let c1024_i32_1799 : BitVec 32 := 1024#32
  let v2248 : BitVec 32 := Scalar.muli v2247 c1024_i32_1799
  v2248
def k0_mult36 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_1838 : BitVec 32 := 1024#32
  let v2300 : BitVec 32 := Scalar.muli v2168 c1024_i32_1838
  v2300
def k0_mult37 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1860 : BitVec 32 := 1#32
  let v2325 : BitVec 32 := Scalar.addi v2168 c1_i32_1860
  let c1024_i32_1861 : BitVec 32 := 1024#32
  let v2326 : BitVec 32 := Scalar.muli v2325 c1024_i32_1861
  v2326
def k0_mult38 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_1900 : BitVec 32 := 1024#32
  let v2378 : BitVec 32 := Scalar.muli v2168 c1024_i32_1900
  v2378
def k0_mult39 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1922 : BitVec 32 := 1#32
  let v2403 : BitVec 32 := Scalar.addi v2168 c1_i32_1922
  let c1024_i32_1923 : BitVec 32 := 1024#32
  let v2404 : BitVec 32 := Scalar.muli v2403 c1024_i32_1923
  v2404
def k0_mult40 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_1962 : BitVec 32 := 1024#32
  let v2456 : BitVec 32 := Scalar.muli v2168 c1024_i32_1962
  v2456
def k0_mult41 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_1984 : BitVec 32 := 1#32
  let v2481 : BitVec 32 := Scalar.addi v2168 c1_i32_1984
  let c1024_i32_1985 : BitVec 32 := 1024#32
  let v2482 : BitVec 32 := Scalar.muli v2481 c1024_i32_1985
  v2482
def k0_mult42 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_2024 : BitVec 32 := 1024#32
  let v2534 : BitVec 32 := Scalar.muli v2168 c1024_i32_2024
  v2534
def k0_mult43 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_2046 : BitVec 32 := 1#32
  let v2559 : BitVec 32 := Scalar.addi v2168 c1_i32_2046
  let c1024_i32_2047 : BitVec 32 := 1024#32
  let v2560 : BitVec 32 := Scalar.muli v2559 c1024_i32_2047
  v2560
def k0_mult44 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_2086 : BitVec 32 := 1024#32
  let v2612 : BitVec 32 := Scalar.muli v2168 c1024_i32_2086
  v2612
def k0_mult45 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_2108 : BitVec 32 := 1#32
  let v2637 : BitVec 32 := Scalar.addi v2168 c1_i32_2108
  let c1024_i32_2109 : BitVec 32 := 1024#32
  let v2638 : BitVec 32 := Scalar.muli v2637 c1024_i32_2109
  v2638
def k0_mult46 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_2148 : BitVec 32 := 1024#32
  let v2690 : BitVec 32 := Scalar.muli v2168 c1024_i32_2148
  v2690
def k0_mult47 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1_i32_2170 : BitVec 32 := 1#32
  let v2715 : BitVec 32 := Scalar.addi v2168 c1_i32_2170
  let c1024_i32_2171 : BitVec 32 := 1024#32
  let v2716 : BitVec 32 := Scalar.muli v2715 c1024_i32_2171
  v2716
def k0_mult48 (k0_t1 : Fin k0_t1_loop.trips) : BitVec 32 :=
  let c2_i32_1734 : BitVec 32 := 2#32
  let c0_i32_510 : BitVec 32 := 0#32
  let c1_i32 : BitVec 32 := 1#32
  let arg18 : BitVec 32 := Scf.iv c0_i32_510 c1_i32 k0_t1
  let v2167 : BitVec 32 := Scalar.muli c2_i32_1734 arg18
  let c1_i32_1735 : BitVec 32 := 1#32
  let v2168 : BitVec 32 := Scalar.addi v2167 c1_i32_1735
  let c1024_i32_2210 : BitVec 32 := 1024#32
  let v2768 : BitVec 32 := Scalar.muli v2168 c1024_i32_2210
  v2768
def k0_mult49 : BitVec 32 :=
  let c7168_i32 : BitVec 32 := 7168#32
  c7168_i32
def k0_mult50 : BitVec 32 :=
  let c6144_i32 : BitVec 32 := 6144#32
  c6144_i32
def k0_mult51 : BitVec 32 :=
  let c7168_i32_571 : BitVec 32 := 7168#32
  c7168_i32_571
def k0_mult52 : BitVec 32 :=
  let c6144_i32_610 : BitVec 32 := 6144#32
  c6144_i32_610
def k0_mult53 : BitVec 32 :=
  let c7168_i32_632 : BitVec 32 := 7168#32
  c7168_i32_632
def k0_mult54 : BitVec 32 :=
  let c6144_i32_671 : BitVec 32 := 6144#32
  c6144_i32_671
def k0_mult55 : BitVec 32 :=
  let c7168_i32_693 : BitVec 32 := 7168#32
  c7168_i32_693
def k0_mult56 : BitVec 32 :=
  let c6144_i32_732 : BitVec 32 := 6144#32
  c6144_i32_732
def k0_mult57 : BitVec 32 :=
  let c7168_i32_754 : BitVec 32 := 7168#32
  c7168_i32_754
def k0_mult58 : BitVec 32 :=
  let c6144_i32_793 : BitVec 32 := 6144#32
  c6144_i32_793
def k0_mult59 : BitVec 32 :=
  let c7168_i32_815 : BitVec 32 := 7168#32
  c7168_i32_815
def k0_mult60 : BitVec 32 :=
  let c6144_i32_854 : BitVec 32 := 6144#32
  c6144_i32_854
def k0_mult61 : BitVec 32 :=
  let c7168_i32_876 : BitVec 32 := 7168#32
  c7168_i32_876
def k0_mult62 : BitVec 32 :=
  let c6144_i32_915 : BitVec 32 := 6144#32
  c6144_i32_915
def k0_mult63 : BitVec 32 :=
  let c7168_i32_937 : BitVec 32 := 7168#32
  c7168_i32_937
def k0_mult64 : BitVec 32 :=
  let c6144_i32_976 : BitVec 32 := 6144#32
  c6144_i32_976
def k0_mult65 : BitVec 32 :=
  let c7168_i32_998 : BitVec 32 := 7168#32
  c7168_i32_998
def k0_mult66 : BitVec 32 :=
  let c7168_i32_1020 : BitVec 32 := 7168#32
  c7168_i32_1020
def k0_mult67 : BitVec 32 :=
  let c7168_i32_1042 : BitVec 32 := 7168#32
  c7168_i32_1042
def k0_mult68 : BitVec 32 :=
  let c7168_i32_1064 : BitVec 32 := 7168#32
  c7168_i32_1064
def k0_mult69 : BitVec 32 :=
  let c7168_i32_1086 : BitVec 32 := 7168#32
  c7168_i32_1086
def k0_mult70 : BitVec 32 :=
  let c7168_i32_1108 : BitVec 32 := 7168#32
  c7168_i32_1108
def k0_mult71 : BitVec 32 :=
  let c7168_i32_1130 : BitVec 32 := 7168#32
  c7168_i32_1130
def k0_mult72 : BitVec 32 :=
  let c7168_i32_1152 : BitVec 32 := 7168#32
  c7168_i32_1152
def k0_mult73 : BitVec 32 :=
  let c0_i32_1247 : BitVec 32 := 0#32
  c0_i32_1247
def k0_mult74 : BitVec 32 :=
  let c0_i32_1261 : BitVec 32 := 0#32
  c0_i32_1261
def k0_mult75 : BitVec 32 :=
  let c0_i32_1275 : BitVec 32 := 0#32
  c0_i32_1275
def k0_mult76 : BitVec 32 :=
  let c0_i32_1289 : BitVec 32 := 0#32
  c0_i32_1289
def k0_mult77 : BitVec 32 :=
  let c0_i32_1303 : BitVec 32 := 0#32
  c0_i32_1303
def k0_mult78 : BitVec 32 :=
  let c0_i32_1317 : BitVec 32 := 0#32
  c0_i32_1317
def k0_mult79 : BitVec 32 :=
  let c0_i32_1331 : BitVec 32 := 0#32
  c0_i32_1331
def k0_mult80 : BitVec 32 :=
  let c0_i32_1345 : BitVec 32 := 0#32
  c0_i32_1345
@[reducible] def k0_t2_loop : Scf.Loop 32 :=
  let c0_i32_1359 : BitVec 32 := 0#32
  let c3_i32_1360 : BitVec 32 := 3#32
  let v1670 : BitVec 32 := Scalar.addi c0_i32_1359 c3_i32_1360
  let c1_i32_1361 : BitVec 32 := 1#32
  ⟨c0_i32_1359, v1670, c1_i32_1361⟩
def k0_mult81 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2019 : BitVec 32 := 1#32
  let v2416 : BitVec 32 := Scalar.addi v2415 c1_i32_2019
  let c1024_i32 : BitVec 32 := 1024#32
  let v2417 : BitVec 32 := Scalar.muli v2416 c1024_i32
  v2417
def k0_off5 (k0_t2 : Fin k0_t2_loop.trips) : Fin 3 → Nat :=
  let c0_2020 : Index := 0#32
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2019 : BitVec 32 := 1#32
  let v2416 : BitVec 32 := Scalar.addi v2415 c1_i32_2019
  let c1024_i32 : BitVec 32 := 1024#32
  let v2417 : BitVec 32 := Scalar.muli v2416 c1024_i32
  let v2418 : BitVec 32 := v2417
  let v2419 : Index := Scalar.indexCast v2418
  let c0_2021 : Index := 0#32
  ![0, v2419.toNat, 0]
def k0_mult82 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2051 : BitVec 32 := 1#32
  let v2455 : BitVec 32 := Scalar.addi v2415 c1_i32_2051
  let c1024_i32_2052 : BitVec 32 := 1024#32
  let v2456 : BitVec 32 := Scalar.muli v2455 c1024_i32_2052
  v2456
def k0_mult83 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2084 : BitVec 32 := 1024#32
  let v2494 : BitVec 32 := Scalar.muli v2415 c1024_i32_2084
  v2494
def k0_off6 (k0_t2 : Fin k0_t2_loop.trips) : Fin 3 → Nat :=
  let c0_2085 : Index := 0#32
  let c0_2086 : Index := 0#32
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2084 : BitVec 32 := 1024#32
  let v2494 : BitVec 32 := Scalar.muli v2415 c1024_i32_2084
  let v2495 : BitVec 32 := v2494
  let v2496 : Index := Scalar.indexCast v2495
  ![0, 0, v2496.toNat]
def k0_mult84 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2100 : BitVec 32 := 1#32
  let v2512 : BitVec 32 := Scalar.addi v2415 c1_i32_2100
  let c1024_i32_2101 : BitVec 32 := 1024#32
  let v2513 : BitVec 32 := Scalar.muli v2512 c1024_i32_2101
  v2513
def k0_mult85 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2133 : BitVec 32 := 1024#32
  let v2551 : BitVec 32 := Scalar.muli v2415 c1024_i32_2133
  v2551
def k0_mult86 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2149 : BitVec 32 := 1#32
  let v2569 : BitVec 32 := Scalar.addi v2415 c1_i32_2149
  let c1024_i32_2150 : BitVec 32 := 1024#32
  let v2570 : BitVec 32 := Scalar.muli v2569 c1024_i32_2150
  v2570
def k0_mult87 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2182 : BitVec 32 := 1024#32
  let v2608 : BitVec 32 := Scalar.muli v2415 c1024_i32_2182
  v2608
def k0_mult88 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2198 : BitVec 32 := 1#32
  let v2626 : BitVec 32 := Scalar.addi v2415 c1_i32_2198
  let c1024_i32_2199 : BitVec 32 := 1024#32
  let v2627 : BitVec 32 := Scalar.muli v2626 c1024_i32_2199
  v2627
def k0_mult89 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2231 : BitVec 32 := 1024#32
  let v2665 : BitVec 32 := Scalar.muli v2415 c1024_i32_2231
  v2665
def k0_mult90 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2247 : BitVec 32 := 1#32
  let v2683 : BitVec 32 := Scalar.addi v2415 c1_i32_2247
  let c1024_i32_2248 : BitVec 32 := 1024#32
  let v2684 : BitVec 32 := Scalar.muli v2683 c1024_i32_2248
  v2684
def k0_mult91 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2280 : BitVec 32 := 1024#32
  let v2722 : BitVec 32 := Scalar.muli v2415 c1024_i32_2280
  v2722
def k0_mult92 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2296 : BitVec 32 := 1#32
  let v2740 : BitVec 32 := Scalar.addi v2415 c1_i32_2296
  let c1024_i32_2297 : BitVec 32 := 1024#32
  let v2741 : BitVec 32 := Scalar.muli v2740 c1024_i32_2297
  v2741
def k0_mult93 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2329 : BitVec 32 := 1024#32
  let v2779 : BitVec 32 := Scalar.muli v2415 c1024_i32_2329
  v2779
def k0_mult94 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1_i32_2345 : BitVec 32 := 1#32
  let v2797 : BitVec 32 := Scalar.addi v2415 c1_i32_2345
  let c1024_i32_2346 : BitVec 32 := 1024#32
  let v2798 : BitVec 32 := Scalar.muli v2797 c1024_i32_2346
  v2798
def k0_mult95 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2378 : BitVec 32 := 1024#32
  let v2836 : BitVec 32 := Scalar.muli v2415 c1024_i32_2378
  v2836
def k0_mult96 (k0_t2 : Fin k0_t2_loop.trips) : BitVec 32 :=
  let c2_i32 : BitVec 32 := 2#32
  let c0_i32_1359 : BitVec 32 := 0#32
  let c1_i32_1361 : BitVec 32 := 1#32
  let arg18 : BitVec 32 := Scf.iv c0_i32_1359 c1_i32_1361 k0_t2
  let v2415 : BitVec 32 := Scalar.muli c2_i32 arg18
  let c1024_i32_2394 : BitVec 32 := 1024#32
  let v2854 : BitVec 32 := Scalar.muli v2415 c1024_i32_2394
  v2854
def k0_mult97 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2412 : BitVec 32 := 1#32
  let v2874 : BitVec 32 := Scalar.addi v2873 c1_i32_2412
  let c1024_i32_2413 : BitVec 32 := 1024#32
  let v2875 : BitVec 32 := Scalar.muli v2874 c1024_i32_2413
  v2875
def k0_off7 (k0_t2 : Fin k0_t2_loop.trips) : Fin 3 → Nat :=
  let c0_2414 : Index := 0#32
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2412 : BitVec 32 := 1#32
  let v2874 : BitVec 32 := Scalar.addi v2873 c1_i32_2412
  let c1024_i32_2413 : BitVec 32 := 1024#32
  let v2875 : BitVec 32 := Scalar.muli v2874 c1024_i32_2413
  let v2876 : BitVec 32 := v2875
  let v2877 : Index := Scalar.indexCast v2876
  let c0_2415 : Index := 0#32
  ![0, v2877.toNat, 0]
def k0_mult98 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2445 : BitVec 32 := 1#32
  let v2913 : BitVec 32 := Scalar.addi v2873 c1_i32_2445
  let c1024_i32_2446 : BitVec 32 := 1024#32
  let v2914 : BitVec 32 := Scalar.muli v2913 c1024_i32_2446
  v2914
def k0_mult99 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2478 : BitVec 32 := 1024#32
  let v2952 : BitVec 32 := Scalar.muli v2873 c1024_i32_2478
  v2952
def k0_off8 (k0_t2 : Fin k0_t2_loop.trips) : Fin 3 → Nat :=
  let c0_2479 : Index := 0#32
  let c0_2480 : Index := 0#32
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2478 : BitVec 32 := 1024#32
  let v2952 : BitVec 32 := Scalar.muli v2873 c1024_i32_2478
  let v2953 : BitVec 32 := v2952
  let v2954 : Index := Scalar.indexCast v2953
  ![0, 0, v2954.toNat]
def k0_mult100 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2494 : BitVec 32 := 1#32
  let v2970 : BitVec 32 := Scalar.addi v2873 c1_i32_2494
  let c1024_i32_2495 : BitVec 32 := 1024#32
  let v2971 : BitVec 32 := Scalar.muli v2970 c1024_i32_2495
  v2971
def k0_mult101 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2527 : BitVec 32 := 1024#32
  let v3009 : BitVec 32 := Scalar.muli v2873 c1024_i32_2527
  v3009
def k0_mult102 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2543 : BitVec 32 := 1#32
  let v3027 : BitVec 32 := Scalar.addi v2873 c1_i32_2543
  let c1024_i32_2544 : BitVec 32 := 1024#32
  let v3028 : BitVec 32 := Scalar.muli v3027 c1024_i32_2544
  v3028
def k0_mult103 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2576 : BitVec 32 := 1024#32
  let v3066 : BitVec 32 := Scalar.muli v2873 c1024_i32_2576
  v3066
def k0_mult104 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2592 : BitVec 32 := 1#32
  let v3084 : BitVec 32 := Scalar.addi v2873 c1_i32_2592
  let c1024_i32_2593 : BitVec 32 := 1024#32
  let v3085 : BitVec 32 := Scalar.muli v3084 c1024_i32_2593
  v3085
def k0_mult105 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2625 : BitVec 32 := 1024#32
  let v3123 : BitVec 32 := Scalar.muli v2873 c1024_i32_2625
  v3123
def k0_mult106 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2641 : BitVec 32 := 1#32
  let v3141 : BitVec 32 := Scalar.addi v2873 c1_i32_2641
  let c1024_i32_2642 : BitVec 32 := 1024#32
  let v3142 : BitVec 32 := Scalar.muli v3141 c1024_i32_2642
  v3142
def k0_mult107 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2674 : BitVec 32 := 1024#32
  let v3180 : BitVec 32 := Scalar.muli v2873 c1024_i32_2674
  v3180
def k0_mult108 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2690 : BitVec 32 := 1#32
  let v3198 : BitVec 32 := Scalar.addi v2873 c1_i32_2690
  let c1024_i32_2691 : BitVec 32 := 1024#32
  let v3199 : BitVec 32 := Scalar.muli v3198 c1024_i32_2691
  v3199
def k0_mult109 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2723 : BitVec 32 := 1024#32
  let v3237 : BitVec 32 := Scalar.muli v2873 c1024_i32_2723
  v3237
def k0_mult110 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1_i32_2739 : BitVec 32 := 1#32
  let v3255 : BitVec 32 := Scalar.addi v2873 c1_i32_2739
  let c1024_i32_2740 : BitVec 32 := 1024#32
  let v3256 : BitVec 32 := Scalar.muli v3255 c1024_i32_2740
  v3256
def k0_mult111 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2772 : BitVec 32 := 1024#32
  let v3294 : BitVec 32 := Scalar.muli v2873 c1024_i32_2772
  v3294
def k0_mult112 (k0_t2 : Fin k0_t2_loop.trips) : BitVec 32 :=
  let c2_i32_2410 : BitVec 32 := 2#32
  let c0_i32_1359 : BitVec 32 := 0#32
  let c1_i32_1361 : BitVec 32 := 1#32
  let arg18 : BitVec 32 := Scf.iv c0_i32_1359 c1_i32_1361 k0_t2
  let v2872 : BitVec 32 := Scalar.muli c2_i32_2410 arg18
  let c1_i32_2411 : BitVec 32 := 1#32
  let v2873 : BitVec 32 := Scalar.addi v2872 c1_i32_2411
  let c1024_i32_2788 : BitVec 32 := 1024#32
  let v3312 : BitVec 32 := Scalar.muli v2873 c1024_i32_2788
  v3312
def k0_mult113 : BitVec 32 :=
  let c7168_i32_1363 : BitVec 32 := 7168#32
  c7168_i32_1363
def k0_mult114 : BitVec 32 :=
  let c7168_i32_1395 : BitVec 32 := 7168#32
  c7168_i32_1395
def k0_mult115 : BitVec 32 :=
  let c6144_i32_1427 : BitVec 32 := 6144#32
  c6144_i32_1427
def k0_mult116 : BitVec 32 :=
  let c7168_i32_1443 : BitVec 32 := 7168#32
  c7168_i32_1443
def k0_mult117 : BitVec 32 :=
  let c6144_i32_1475 : BitVec 32 := 6144#32
  c6144_i32_1475
def k0_mult118 : BitVec 32 :=
  let c7168_i32_1491 : BitVec 32 := 7168#32
  c7168_i32_1491
def k0_mult119 : BitVec 32 :=
  let c6144_i32_1523 : BitVec 32 := 6144#32
  c6144_i32_1523
def k0_mult120 : BitVec 32 :=
  let c7168_i32_1539 : BitVec 32 := 7168#32
  c7168_i32_1539
def k0_mult121 : BitVec 32 :=
  let c6144_i32_1571 : BitVec 32 := 6144#32
  c6144_i32_1571
def k0_mult122 : BitVec 32 :=
  let c7168_i32_1587 : BitVec 32 := 7168#32
  c7168_i32_1587
def k0_mult123 : BitVec 32 :=
  let c6144_i32_1619 : BitVec 32 := 6144#32
  c6144_i32_1619
def k0_mult124 : BitVec 32 :=
  let c7168_i32_1635 : BitVec 32 := 7168#32
  c7168_i32_1635
def k0_mult125 : BitVec 32 :=
  let c6144_i32_1667 : BitVec 32 := 6144#32
  c6144_i32_1667
def k0_mult126 : BitVec 32 :=
  let c7168_i32_1683 : BitVec 32 := 7168#32
  c7168_i32_1683
def k0_mult127 : BitVec 32 :=
  let c6144_i32_1715 : BitVec 32 := 6144#32
  c6144_i32_1715
def k0_mult128 : BitVec 32 :=
  let c6144_i32_1731 : BitVec 32 := 6144#32
  c6144_i32_1731
def k0_mult129 : BitVec 32 :=
  let c7168_i32_1783 : BitVec 32 := 7168#32
  c7168_i32_1783
def k0_mult130 : BitVec 32 :=
  let c7168_i32_1817 : BitVec 32 := 7168#32
  c7168_i32_1817
def k0_mult131 : BitVec 32 :=
  let c7168_i32_1851 : BitVec 32 := 7168#32
  c7168_i32_1851
def k0_mult132 : BitVec 32 :=
  let c7168_i32_1885 : BitVec 32 := 7168#32
  c7168_i32_1885
def k0_mult133 : BitVec 32 :=
  let c7168_i32_1919 : BitVec 32 := 7168#32
  c7168_i32_1919
def k0_mult134 : BitVec 32 :=
  let c7168_i32_1953 : BitVec 32 := 7168#32
  c7168_i32_1953
def k0_mult135 : BitVec 32 :=
  let c7168_i32_1987 : BitVec 32 := 7168#32
  c7168_i32_1987
def k0_mult136 : BitVec 32 :=
  let c7168_i32_2003 : BitVec 32 := 7168#32
  c7168_i32_2003
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x8x64 : Shape := ⟨4, ![8, 8192, 8, 64]⟩
abbrev S8x8192x2x64 : Shape := ⟨4, ![8, 8192, 2, 64]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x4x2x64 : Shape := ⟨5, ![8, 8192, 4, 2, 64]⟩
abbrev S8x8192x512 : Shape := ⟨3, ![8, 8192, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8x8192x2x4x64, .f32⟩
  | .hbm, ⟨4, _⟩ => ⟨S8x2x8192x8192x4, .f32⟩
  | .hbm, ⟨5, _⟩ => ⟨S8x2x4x8192x8192, .f32⟩
  | .hbm, ⟨6, _⟩ => ⟨S_, .f32⟩
  | .hbm, ⟨7, _⟩ => ⟨S8x2x4x8192x8192, .f32⟩
  | .hbm, ⟨8, _⟩ => ⟨S8x2x4x8192x8192, .f32⟩
  | .hbm, ⟨9, _⟩ => ⟨S_, .f32⟩
  | .hbm, ⟨10, _⟩ => ⟨S8x2x4x8192, .f32⟩
  | .hbm, ⟨11, _⟩ => ⟨S_, .f32⟩
  | .hbm, ⟨12, _⟩ => ⟨S8x2x4x8192, .f32⟩
  | .hbm, ⟨13, _⟩ => ⟨S8x2x4x8192, .f32⟩
  | .hbm, ⟨14, _⟩ => ⟨S8x2x4x8192x1, .f32⟩
  | .hbm, ⟨15, _⟩ => ⟨S8x2x4x8192x8192, .f32⟩
  | .hbm, ⟨16, _⟩ => ⟨S8x2x4x8192x8192, .f32⟩
  | .hbm, ⟨17, _⟩ => ⟨S8x2x4x8192x8192, .f32⟩
  | .hbm, ⟨18, _⟩ => ⟨S_, .f32⟩
  | .hbm, ⟨19, _⟩ => ⟨S8x2x4x8192, .f32⟩
  | .hbm, ⟨20, _⟩ => ⟨S8x2x4x8192x1, .f32⟩
  | .hbm, ⟨21, _⟩ => ⟨S8x2x4x8192x8192, .f32⟩
  | .hbm, ⟨22, _⟩ => ⟨S8x2x4x8192x8192, .f32⟩
  | .hbm, ⟨23, _⟩ => ⟨S8x2x64x4x8192, .f32⟩
  | .hbm, ⟨24, _⟩ => ⟨S8x8192x2x4x64, .f32⟩
  | .hbm, ⟨25, _⟩ => ⟨S8x8192x4x2x64, .f32⟩
  | .hbm, ⟨26, _⟩ => ⟨S8x8192x512, .f32⟩
  | .hbm, ⟨27, _⟩ => ⟨S8x8192x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Ffn.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x4096, .f32⟩
  | .hbm, ⟨22, _⟩ => ⟨S_, .f32⟩
  | .hbm, ⟨23, _⟩ => ⟨S8x8192x4096, .f32⟩
  | .hbm, ⟨24, _⟩ => ⟨S8x8192x4096, .f32⟩
  | .hbm, ⟨25, _⟩ => ⟨S8x8192x4096, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x1, .f32⟩
  | .hbm, ⟨39, _⟩ => ⟨S8x8192x1024, .f32⟩
  | .hbm, ⟨40, _⟩ => ⟨S8x8192x1024, .f32⟩
  | .hbm, ⟨41, _⟩ => ⟨S1x1x1024, .f32⟩
  | .hbm, ⟨42, _⟩ => ⟨S8x8192x1024, .f32⟩
  | .hbm, ⟨43, _⟩ => ⟨S8x8192x1024, .f32⟩
  | .hbm, ⟨44, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Merge.lean ====
abbrev S8x8192x1024 : Shape := ⟨3, ![8, 8192, 1024]⟩
abbrev S1024 : Shape := ⟨1, ![1024]⟩
abbrev S8x8192x512 : Shape := ⟨3, ![8, 8192, 512]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S65536x512 : Shape := ⟨2, ![65536, 512]⟩
abbrev S65536x1024 : Shape := ⟨2, ![65536, 1024]⟩
abbrev S1x1024 : Shape := ⟨2, ![1, 1024]⟩
abbrev S1x4096 : Shape := ⟨2, ![1, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 25
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S1024x4096, .f32⟩
  | .hbm, ⟨7, _⟩ => ⟨S4096, .f32⟩
  | .hbm, ⟨8, _⟩ => ⟨S4x512x1024, .f32⟩
  | .hbm, ⟨9, _⟩ => ⟨S1024x1024, .f32⟩
  | .hbm, ⟨10, _⟩ => ⟨S65536x512, .f32⟩
  | .hbm, ⟨11, _⟩ => ⟨S65536x512, .bf16⟩
  | .hbm, ⟨12, _⟩ => ⟨S65536x512, .f32⟩
  | .hbm, ⟨13, _⟩ => ⟨S65536x512, .bf16⟩
  | .hbm, ⟨14, _⟩ => ⟨S65536x512, .f32⟩
  | .hbm, ⟨15, _⟩ => ⟨S65536x512, .bf16⟩
  | .hbm, ⟨16, _⟩ => ⟨S65536x512, .f32⟩
  | .hbm, ⟨17, _⟩ => ⟨S65536x512, .bf16⟩
  | .hbm, ⟨18, _⟩ => ⟨S65536x1024, .f32⟩
  | .hbm, ⟨19, _⟩ => ⟨S1x1024, .f32⟩
  | .hbm, ⟨20, _⟩ => ⟨S1024x4096, .bf16⟩
  | .hbm, ⟨21, _⟩ => ⟨S1x4096, .f32⟩
  | .hbm, ⟨22, _⟩ => ⟨S4x512x1024, .bf16⟩
  | .hbm, ⟨23, _⟩ => ⟨S1024x1024, .bf16⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x4096, .bf16⟩
  | .local _ .vmem, ⟨12, _⟩ => ⟨S1x4096, .f32⟩
  | .local _ .vmem, ⟨13, _⟩ => ⟨S4x512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S8x8192x1024 : Shape := ⟨3, ![8, 8192, 1024]⟩
abbrev S1024 : Shape := ⟨1, ![1024]⟩
abbrev S8x8192x512 : Shape := ⟨3, ![8, 8192, 512]⟩
abbrev S1024x4096 : Shape := ⟨2, ![1024, 4096]⟩
abbrev S4096 : Shape := ⟨1, ![4096]⟩
abbrev S4x512x1024 : Shape := ⟨3, ![4, 512, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S1x1x4096 : Shape := ⟨3, ![1, 1, 4096]⟩
abbrev S8x8192x4x1024 : Shape := ⟨4, ![8, 8192, 4, 1024]⟩
abbrev S8x8192x1x1024 : Shape := ⟨4, ![8, 8192, 1, 1024]⟩
abbrev S1x512x1024 : Shape := ⟨3, ![1, 512, 1024]⟩
abbrev S512x1024 : Shape := ⟨2, ![512, 1024]⟩
abbrev S65536x1024 : Shape := ⟨2, ![65536, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S1024x4096, .f32⟩
  | .hbm, ⟨7, _⟩ => ⟨S4096, .f32⟩
  | .hbm, ⟨8, _⟩ => ⟨S4x512x1024, .f32⟩
  | .hbm, ⟨9, _⟩ => ⟨S1024x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x4096, .f32⟩
  | .hbm, ⟨27, _⟩ => ⟨S1x1x4096, .f32⟩
  | .hbm, ⟨28, _⟩ => ⟨S8x8192x4096, .f32⟩
  | .hbm, ⟨29, _⟩ => ⟨S8x8192x4096, .f32⟩
  | .hbm, ⟨30, _⟩ => ⟨S8x8192x4096, .f32⟩
  | .hbm, ⟨31, _⟩ => ⟨S8x8192x4096, .f32⟩
  | .hbm, ⟨32, _⟩ => ⟨S_, .f32⟩
  | .hbm, ⟨33, _⟩ => ⟨S8x8192x4096, .f32⟩
  | .hbm, ⟨34, _⟩ => ⟨S8x8192x4096, .f32⟩
  | .hbm, ⟨35, _⟩ => ⟨S_, .f32⟩
  | .hbm, ⟨36, _⟩ => ⟨S8x8192x4096, .f32⟩
  | .hbm, ⟨37, _⟩ => ⟨S8x8192x4096, .f32⟩
  | .hbm, ⟨38, _⟩ => ⟨S8x8192x4x1024, .f32⟩
  | .hbm, ⟨39, _⟩ => ⟨S8x8192x1x1024, .f32⟩
  | .hbm, ⟨40, _⟩ => ⟨S8x8192x1024, .f32⟩
  | .hbm, ⟨41, _⟩ => ⟨S1x512x1024, .f32⟩
  | .hbm, ⟨42, _⟩ => ⟨S512x1024, .f32⟩
  | .hbm, ⟨43, _⟩ => ⟨S8x8192x1024, .f32⟩
  | .hbm, ⟨44, _⟩ => ⟨S8x8192x1024, .f32⟩
  | .hbm, ⟨45, _⟩ => ⟨S8x8192x1x1024, .f32⟩
  | .hbm, ⟨46, _⟩ => ⟨S8x8192x1024, .f32⟩
  | .hbm, ⟨47, _⟩ => ⟨S1x512x1024, .f32⟩
  | .hbm, ⟨48, _⟩ => ⟨S512x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1x1024, .f32⟩
  | .hbm, ⟨53, _⟩ => ⟨S8x8192x1024, .f32⟩
  | .hbm, ⟨54, _⟩ => ⟨S1x512x1024, .f32⟩
  | .hbm, ⟨55, _⟩ => ⟨S512x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1x1024, .f32⟩
  | .hbm, ⟨60, _⟩ => ⟨S8x8192x1024, .f32⟩
  | .hbm, ⟨61, _⟩ => ⟨S1x512x1024, .f32⟩
  | .hbm, ⟨62, _⟩ => ⟨S512x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Project.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S1x1024 : Shape := ⟨2, ![1, 1024]⟩
abbrev S1x1536 : Shape := ⟨2, ![1, 1536]⟩
abbrev S8x1x512x8192 : Shape := ⟨4, ![8, 1, 512, 8192]⟩
abbrev S8x1x8192x512 : Shape := ⟨4, ![8, 1, 8192, 512]⟩
abbrev S8x1x576x8192 : Shape := ⟨4, ![8, 1, 576, 8192]⟩
abbrev S1x1024x1024 : Shape := ⟨3, ![1, 1024, 1024]⟩
abbrev S1x1x512x1024 : Shape := ⟨4, ![1, 1, 512, 1024]⟩
abbrev S1x1x1024x512 : Shape := ⟨4, ![1, 1, 1024, 512]⟩
abbrev S1x1x576x1024 : Shape := ⟨4, ![1, 1, 576, 1024]⟩
abbrev S1024x1024 : Shape := ⟨2, ![1024, 1024]⟩
abbrev S8x8x128 : Shape := ⟨3, ![8, 8, 128]⟩
abbrev S1024x1 : Shape := ⟨2, ![1024, 1]⟩
abbrev S1024x512 : Shape := ⟨2, ![1024, 512]⟩
abbrev S1x512 : Shape := ⟨2, ![1, 512]⟩
abbrev S512x1024 : Shape := ⟨2, ![512, 1024]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S1x1024, .f32⟩
  | .hbm, ⟨5, _⟩ => ⟨S1024x1536, .bf16⟩
  | .hbm, ⟨6, _⟩ => ⟨S1x1536, .f32⟩
  | .hbm, ⟨7, _⟩ => ⟨S8x1x512x8192, .bf16⟩
  | .hbm, ⟨8, _⟩ => ⟨S8x1x8192x512, .bf16⟩
  | .hbm, ⟨9, _⟩ => ⟨S8x1x576x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x1536, .f32⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x576x1024, .bf16⟩
  | .local _ .vmem, ⟨10, _⟩ => ⟨S1x1x576x1024, .bf16⟩
  | .local _ .vmem, ⟨11, _⟩ => ⟨S1024x1024, .bf16⟩
  | .local _ .vmem, ⟨12, _⟩ => ⟨S8x8x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjectReferenceIdeal.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S1x1x1536 : Shape := ⟨3, ![1, 1, 1536]⟩
abbrev S8x8192x512 : Shape := ⟨3, ![8, 8192, 512]⟩
abbrev S8x8192x4x128 : Shape := ⟨4, ![8, 8192, 4, 128]⟩
abbrev S8x4x128x8192 : Shape := ⟨4, ![8, 4, 128, 8192]⟩
abbrev S8x4x16x8192 : Shape := ⟨4, ![8, 4, 16, 8192]⟩
abbrev S8x4x144x8192 : Shape := ⟨4, ![8, 4, 144, 8192]⟩
abbrev S8x512x8192 : Shape := ⟨3, ![8, 512, 8192]⟩
abbrev S8x1x512x8192 : Shape := ⟨4, ![8, 1, 512, 8192]⟩
abbrev S8x1x8192x512 : Shape := ⟨4, ![8, 1, 8192, 512]⟩
abbrev S8x1x576x8192 : Shape := ⟨4, ![8, 1, 576, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1536, .f32⟩
  | .hbm, ⟨21, _⟩ => ⟨S1x1x1536, .f32⟩
  | .hbm, ⟨22, _⟩ => ⟨S8x8192x1536, .f32⟩
  | .hbm, ⟨23, _⟩ => ⟨S8x8192x1536, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x4x128, .f32⟩
  | .hbm, ⟨28, _⟩ => ⟨S8x4x128x8192, .f32⟩
  | .hbm, ⟨29, _⟩ => ⟨S_, .f32⟩
  | .hbm, ⟨30, _⟩ => ⟨S8x4x16x8192, .f32⟩
  | .hbm, ⟨31, _⟩ => ⟨S8x4x144x8192, .f32⟩
  | .hbm, ⟨32, _⟩ => ⟨S8x512x8192, .f32⟩
  | .hbm, ⟨33, _⟩ => ⟨S8x1x512x8192, .f32⟩
  | .hbm, ⟨34, _⟩ => ⟨S8x1x512x8192, .bf16⟩
  | .hbm, ⟨35, _⟩ => ⟨S8x1x8192x512, .f32⟩
  | .hbm, ⟨36, _⟩ => ⟨S8x1x8192x512, .bf16⟩
  | .hbm, ⟨37, _⟩ => ⟨S8x1x576x8192, .f32⟩
  | .hbm, ⟨38, _⟩ => ⟨S8x1x576x8192, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Project4.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S1x1024 : Shape := ⟨2, ![1, 1024]⟩
abbrev S1x1536 : Shape := ⟨2, ![1, 1536]⟩
abbrev S8x4x512x2048 : Shape := ⟨4, ![8, 4, 512, 2048]⟩
abbrev S8x4x2048x512 : Shape := ⟨4, ![8, 4, 2048, 512]⟩
abbrev S8x4x576x2048 : Shape := ⟨4, ![8, 4, 576, 2048]⟩
abbrev S1x1024x1024 : Shape := ⟨3, ![1, 1024, 1024]⟩
abbrev S1x4x512x256 : Shape := ⟨4, ![1, 4, 512, 256]⟩
abbrev S1x4x256x512 : Shape := ⟨4, ![1, 4, 256, 512]⟩
abbrev S1x4x576x256 : Shape := ⟨4, ![1, 4, 576, 256]⟩
abbrev S1024x1024 : Shape := ⟨2, ![1024, 1024]⟩
abbrev S8x1024x128 : Shape := ⟨3, ![8, 1024, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1024x512 : Shape := ⟨2, ![1024, 512]⟩
abbrev S1x512 : Shape := ⟨2, ![1, 512]⟩
abbrev S256x512 : Shape := ⟨2, ![256, 512]⟩
abbrev S512x256 : Shape := ⟨2, ![512, 256]⟩
abbrev S1x1x512x256 : Shape := ⟨4, ![1, 1, 512, 256]⟩
abbrev S1x1x256x512 : Shape := ⟨4, ![1, 1, 256, 512]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩

abbrev nBuf : Space → Nat
  | .hbm => 10
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S1x1024, .f32⟩
  | .hbm, ⟨5, _⟩ => ⟨S1024x1536, .bf16⟩
  | .hbm, ⟨6, _⟩ => ⟨S1x1536, .f32⟩
  | .hbm, ⟨7, _⟩ => ⟨S8x4x512x2048, .bf16⟩
  | .hbm, ⟨8, _⟩ => ⟨S8x4x2048x512, .bf16⟩
  | .hbm, ⟨9, _⟩ => ⟨S8x4x576x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x1536, .f32⟩
  | .local _ .vmem, ⟨5, _⟩ => ⟨S1x4x512x256, .bf16⟩
  | .local _ .vmem, ⟨6, _⟩ => ⟨S1x4x512x256, .bf16⟩
  | .local _ .vmem, ⟨7, _⟩ => ⟨S1x4x256x512, .bf16⟩
  | .local _ .vmem, ⟨8, _⟩ => ⟨S1x4x256x512, .bf16⟩
  | .local _ .vmem, ⟨9, _⟩ => ⟨S1x4x576x256, .bf16⟩
  | .local _ .vmem, ⟨10, _⟩ => ⟨S1x4x576x256, .bf16⟩
  | .local _ .vmem, ⟨11, _⟩ => ⟨S1024x1024, .bf16⟩
  | .local _ .vmem, ⟨12, _⟩ => ⟨S8x1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x576x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Project4ReferenceIdeal.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S1x1x1536 : Shape := ⟨3, ![1, 1, 1536]⟩
abbrev S8x2048x4x1536 : Shape := ⟨4, ![8, 2048, 4, 1536]⟩
abbrev S8x4x2048x1536 : Shape := ⟨4, ![8, 4, 2048, 1536]⟩
abbrev S8x4x2048x512 : Shape := ⟨4, ![8, 4, 2048, 512]⟩
abbrev S8x4x2048x4x128 : Shape := ⟨5, ![8, 4, 2048, 4, 128]⟩
abbrev S8x4x4x128x2048 : Shape := ⟨5, ![8, 4, 4, 128, 2048]⟩
abbrev S8x4x4x16x2048 : Shape := ⟨5, ![8, 4, 4, 16, 2048]⟩
abbrev S8x4x4x144x2048 : Shape := ⟨5, ![8, 4, 4, 144, 2048]⟩
abbrev S8x4x512x2048 : Shape := ⟨4, ![8, 4, 512, 2048]⟩
abbrev S8x4x576x2048 : Shape := ⟨4, ![8, 4, 576, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1536, .f32⟩
  | .hbm, ⟨21, _⟩ => ⟨S1x1x1536, .f32⟩
  | .hbm, ⟨22, _⟩ => ⟨S8x8192x1536, .f32⟩
  | .hbm, ⟨23, _⟩ => ⟨S8x8192x1536, .f32⟩
  | .hbm, ⟨24, _⟩ => ⟨S8x2048x4x1536, .f32⟩
  | .hbm, ⟨25, _⟩ => ⟨S8x4x2048x1536, .f32⟩
  | .hbm, ⟨26, _⟩ => ⟨S8x4x2048x512, .f32⟩
  | .hbm, ⟨27, _⟩ => ⟨S8x4x2048x512, .f32⟩
  | .hbm, ⟨28, _⟩ => ⟨S8x4x2048x512, .f32⟩
  | .hbm, ⟨29, _⟩ => ⟨S8x4x2048x4x128, .f32⟩
  | .hbm, ⟨30, _⟩ => ⟨S8x4x4x128x2048, .f32⟩
  | .hbm, ⟨31, _⟩ => ⟨S_, .f32⟩
  | .hbm, ⟨32, _⟩ => ⟨S8x4x4x16x2048, .f32⟩
  | .hbm, ⟨33, _⟩ => ⟨S8x4x4x144x2048, .f32⟩
  | .hbm, ⟨34, _⟩ => ⟨S8x4x512x2048, .f32⟩
  | .hbm, ⟨35, _⟩ => ⟨S8x4x512x2048, .bf16⟩
  | .hbm, ⟨36, _⟩ => ⟨S8x4x2048x512, .bf16⟩
  | .hbm, ⟨37, _⟩ => ⟨S8x4x576x2048, .f32⟩
  | .hbm, ⟨38, _⟩ => ⟨S8x4x576x2048, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Project16.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S1x1024 : Shape := ⟨2, ![1, 1024]⟩
abbrev S1x1536 : Shape := ⟨2, ![1, 1536]⟩
abbrev S8x16x512x512 : Shape := ⟨4, ![8, 16, 512, 512]⟩
abbrev S8x16x576x512 : Shape := ⟨4, ![8, 16, 576, 512]⟩
abbrev S1x2048x1024 : Shape := ⟨3, ![1, 2048, 1024]⟩
abbrev S1x16x512x128 : Shape := ⟨4, ![1, 16, 512, 128]⟩
abbrev S1x16x128x512 : Shape := ⟨4, ![1, 16, 128, 512]⟩
abbrev S1x16x576x128 : Shape := ⟨4, ![1, 16, 576, 128]⟩
abbrev S2048x1024 : Shape := ⟨2, ![2048, 1024]⟩
abbrev S8x2048x128 : Shape := ⟨3, ![8, 2048, 128]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S1024x512 : Shape := ⟨2, ![1024, 512]⟩
abbrev S2048x512 : Shape := ⟨2, ![2048, 512]⟩
abbrev S1x512 : Shape := ⟨2, ![1, 512]⟩
abbrev S128x512 : Shape := ⟨2, ![128, 512]⟩
abbrev S512x128 : Shape := ⟨2, ![512, 128]⟩
abbrev S1x1x512x128 : Shape := ⟨4, ![1, 1, 512, 128]⟩
abbrev S1x1x128x512 : Shape := ⟨4, ![1, 1, 128, 512]⟩
abbrev S1x1x128x128 : Shape := ⟨4, ![1, 1, 128, 128]⟩
abbrev S16x128 : Shape := ⟨2, ![16, 128]⟩
abbrev S1x1x16x128 : Shape := ⟨4, ![1, 1, 16, 128]⟩

abbrev nBuf : Space → Nat
  | .hbm => 10
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S1x1024, .f32⟩
  | .hbm, ⟨5, _⟩ => ⟨S1024x1536, .bf16⟩
  | .hbm, ⟨6, _⟩ => ⟨S1x1536, .f32⟩
  | .hbm, ⟨7, _⟩ => ⟨S8x16x512x512, .bf16⟩
  | .hbm, ⟨8, _⟩ => ⟨S8x16x512x512, .bf16⟩
  | .hbm, ⟨9, _⟩ => ⟨S8x16x576x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x1536, .bf16⟩
  | .local _ .vmem, ⟨4, _⟩ => ⟨S1x1536, .f32⟩
  | .local _ .vmem, ⟨5, _⟩ => ⟨S1x16x512x128, .bf16⟩
  | .local _ .vmem, ⟨6, _⟩ => ⟨S1x16x512x128, .bf16⟩
  | .local _ .vmem, ⟨7, _⟩ => ⟨S1x16x128x512, .bf16⟩
  | .local _ .vmem, ⟨8, _⟩ => ⟨S1x16x128x512, .bf16⟩
  | .local _ .vmem, ⟨9, _⟩ => ⟨S1x16x576x128, .bf16⟩
  | .local _ .vmem, ⟨10, _⟩ => ⟨S1x16x576x128, .bf16⟩
  | .local _ .vmem, ⟨11, _⟩ => ⟨S2048x1024, .bf16⟩
  | .local _ .vmem, ⟨12, _⟩ => ⟨S8x2048x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x576x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Project16ReferenceIdeal.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S1x1x1536 : Shape := ⟨3, ![1, 1, 1536]⟩
abbrev S8x512x16x1536 : Shape := ⟨4, ![8, 512, 16, 1536]⟩
abbrev S8x16x512x1536 : Shape := ⟨4, ![8, 16, 512, 1536]⟩
abbrev S8x16x512x512 : Shape := ⟨4, ![8, 16, 512, 512]⟩
abbrev S8x16x512x4x128 : Shape := ⟨5, ![8, 16, 512, 4, 128]⟩
abbrev S8x16x4x128x512 : Shape := ⟨5, ![8, 16, 4, 128, 512]⟩
abbrev S8x16x4x16x512 : Shape := ⟨5, ![8, 16, 4, 16, 512]⟩
abbrev S8x16x4x144x512 : Shape := ⟨5, ![8, 16, 4, 144, 512]⟩
abbrev S8x16x576x512 : Shape := ⟨4, ![8, 16, 576, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1536, .f32⟩
  | .hbm, ⟨21, _⟩ => ⟨S1x1x1536, .f32⟩
  | .hbm, ⟨22, _⟩ => ⟨S8x8192x1536, .f32⟩
  | .hbm, ⟨23, _⟩ => ⟨S8x8192x1536, .f32⟩
  | .hbm, ⟨24, _⟩ => ⟨S8x512x16x1536, .f32⟩
  | .hbm, ⟨25, _⟩ => ⟨S8x16x512x1536, .f32⟩
  | .hbm, ⟨26, _⟩ => ⟨S8x16x512x512, .f32⟩
  | .hbm, ⟨27, _⟩ => ⟨S8x16x512x512, .f32⟩
  | .hbm, ⟨28, _⟩ => ⟨S8x16x512x512, .f32⟩
  | .hbm, ⟨29, _⟩ => ⟨S8x16x512x4x128, .f32⟩
  | .hbm, ⟨30, _⟩ => ⟨S8x16x4x128x512, .f32⟩
  | .hbm, ⟨31, _⟩ => ⟨S_, .f32⟩
  | .hbm, ⟨32, _⟩ => ⟨S8x16x4x16x512, .f32⟩
  | .hbm, ⟨33, _⟩ => ⟨S8x16x4x144x512, .f32⟩
  | .hbm, ⟨34, _⟩ => ⟨S8x16x512x512, .f32⟩
  | .hbm, ⟨35, _⟩ => ⟨S8x16x512x512, .bf16⟩
  | .hbm, ⟨36, _⟩ => ⟨S8x16x512x512, .bf16⟩
  | .hbm, ⟨37, _⟩ => ⟨S8x16x576x512, .f32⟩
  | .hbm, ⟨38, _⟩ => ⟨S8x16x576x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Blocks.lean ====
/-
  The attention kernel's body, in pieces: what it does to one group of 256 query columns at one
  block of keys, written once for any group and any block. `Body` is the whole body put together
  from them; that the printed program is `Body` is proved where the program is imported.
-/
module

public import Idealize.ShloMosaic.Lib.Pipeline
public import Idealize.ShloMosaic.Lib.Scf
public import Idealize.ShloMosaic.Lib.Sig
public import Idealize.ShloMosaic.Lib.Decide
public import Idealize.ShloMosaic.PureOps

@[expose] public section

set_option maxRecDepth 16384

noncomputable section

namespace FlashD

open Idealize.ShloMosaic Idealize.SL.Sem

/-- Eight slabs of `R × C`, one per group of columns. -/
abbrev SG (R C : Nat) : Shape := ⟨3, ![8, R, C]⟩
/-- One slab, or one block with its leading axis of extent one. -/
abbrev SS (R C : Nat) : Shape := ⟨3, ![1, R, C]⟩
/-- A matrix. -/
abbrev SM (R C : Nat) : Shape := ⟨2, ![R, C]⟩
/-- A vector. -/
abbrev SV (C : Nat) : Shape := ⟨1, ![C]⟩

theorem group_inb {R C : Nat} (g : Fin 8) : ∀ a, (![g.val, 0, 0] : Fin 3 → Nat) a + (SS R C).size a ≤ (SG R C).size a := by
  have := g.isLt
  intro a; fin_cases a
  · show g.val + 1 ≤ 8; omega
  · show 0 + R ≤ R; omega
  · show 0 + C ≤ C; omega

/-- Group `g`'s slab. -/
abbrev rg {R C : Nat} (g : Fin 8) : Rect (SG R C) := Rect.unit (s := SG R C) ![g.val, 0, 0] (SS R C).size (group_inb g)

theorem whole_inb {R C : Nat} : ∀ a, (![0, 0, 0] : Fin 3 → Nat) a + (SG R C).size a ≤ (SG R C).size a := by
  intro a; fin_cases a
  · show 0 + 8 ≤ 8; omega
  · show 0 + R ≤ R; omega
  · show 0 + C ≤ C; omega

/-- All eight slabs. -/
abbrev rw' {R C : Nat} : Rect (SG R C) := Rect.unit (s := SG R C) ![0, 0, 0] (SG R C).size whole_inb

/-! A block read or written has an element. -/

theorem pos_1024_128 : 0 < (SS 1024 128).numel := by decide
theorem pos_144_1024 : 0 < (SS 144 1024).numel := by decide
theorem pos_128_256 : 0 < (SS 128 256).numel := by decide
theorem pos_64_256 : 0 < (SS 64 256).numel := by decide
theorem pos_1_256 : 0 < (SS 1 256).numel := by decide
theorem pos_256_128 : 0 < (SS 256 128).numel := by decide
theorem pos_128_128 : 0 < (SS 128 128).numel := by decide

/-! ## The arithmetic of one group -/

section Arith

variable {F : FTy → Type} [FloatOps F]

/-- `k · q`: a block of keys against a group's masked queries. -/
def dotK : DotDims (SM 1024 128) (SM 128 256) (SM 1024 256) where
  lhsContracting := [1]
  rhsContracting := [0]
  lhsNonContracting := [0]
  rhsNonContracting := [1]
  lhsBatch := []
  rhsBatch := []
  wf := by decide
/-- The same for the 128 keys of the probe. -/
def dotProbe : DotDims (SM 128 128) (SM 128 256) (SM 128 256) where
  lhsContracting := [1]
  rhsContracting := [0]
  lhsNonContracting := [0]
  rhsNonContracting := [1]
  lhsBatch := []
  rhsBatch := []
  wf := by decide
/-- `v · p`: the values with their rows of ones against a group's weights. -/
def dotV : DotDims (SM 144 1024) (SM 1024 256) (SM 144 256) where
  lhsContracting := [1]
  rhsContracting := [0]
  lhsNonContracting := [0]
  rhsNonContracting := [1]
  lhsBatch := []
  rhsBatch := []
  wf := by decide

/-- A row of 256 zeros. -/
def zrow : FVec F (SM 1 256) .f32 := broadcast (SM 1 256) (Scalar.ofBits .f32 0x00000000#32)
/-- A slab of one row as a row. -/
def row (v : Vec F (SS 1 256) .f32) : FVec F (SM 1 256) .f32 := shapeCast (SM 1 256) v (by decide)
/-- A row as a slab. -/
def slab (v : FVec F (SM 1 256) .f32) : FVec F (SS 1 256) .f32 := shapeCast (SS 1 256) v (by decide)

/-- The scores of a block of keys. -/
def score (k : Vec F (SS 1024 128) .bf16) (q : Vec F (SS 128 256) .bf16) : FVec F (SM 1024 256) .f32 :=
  matmul dotK none (shapeCast (SM 1024 128) k (by decide)) (shapeCast (SM 128 256) q (by decide)) (constant (SM 1024 256) .f32 0x00000000#32)
/-- Their maximum down each column. -/
def smax (s : FVec F (SM 1024 256) .f32) : FVec F (SM 1 256) .f32 :=
  shapeCast (SM 1 256) (multiReduction .maximumf [0] (SV 256) s 0xFF800000#32 (by decide) (.inl rfl) rfl) (by decide)
/-- The exponentials of the scores less a row. -/
def weigh (s : FVec F (SM 1024 256) .f32) (r : FVec F (SM 1 256) .f32) : FVec F (SS 1024 256) .bf16 :=
  shapeCast (SS 1024 256) (exp2 (truncf .bf16 (subf s (broadcastTo (SM 1024 256) r (by decide))) (by decide)) : FVec F (SM 1024 256) .bf16) (by decide)
/-- The accumulator rescaled, and a block's weighted values added. -/
def accum (acc : Vec F (SS 144 256) .f32) (a : FVec F (SM 1 256) .f32) (vt : Vec F (SS 144 1024) .bf16) (p : Vec F (SS 1024 256) .bf16) :
    FVec F (SS 144 256) .f32 :=
  shapeCast (SS 144 256)
    (addf (mulf (shapeCast (SM 144 256) acc (by decide)) (broadcastTo (SM 144 256) a (by decide)))
      (matmul dotV none (shapeCast (SM 144 1024) vt (by decide)) (shapeCast (SM 1024 256) p (by decide)) (constant (SM 144 256) .f32 0x00000000#32)))
    (by decide)

/-- Where the probe of the first 128 keys has its maximum. -/
def probeMax (k : Vec F (SS 128 128) .bf16) (q : Vec F (SS 128 256) .bf16) : FVec F (SM 1 256) .f32 :=
  addf (shapeCast (SM 1 256) (multiReduction .maximumf [0] (SV 256)
    (matmul dotProbe none (shapeCast (SM 128 128) k (by decide)) (shapeCast (SM 128 256) q (by decide)) (constant (SM 128 256) .f32 0x00000000#32))
    0xFF800000#32 (by decide) (.inl rfl) rfl) (by decide)) zrow

/-- The reference point of a block's exponentials, before the block is seen. -/
def refRow (m mu : Vec F (SS 1 256) .f32) : FVec F (SM 1 256) .f32 := maximumf (row m) (addf (row mu) zrow)
/-- A block's maximum. -/
def mxRow (k : Vec F (SS 1024 128) .bf16) (q : Vec F (SS 128 256) .bf16) : FVec F (SM 1 256) .f32 := addf (smax (score k q)) zrow
/-- The running maximum, the block seen. -/
def newRow (k : Vec F (SS 1024 128) .bf16) (q : Vec F (SS 128 256) .bf16) (m : Vec F (SS 1 256) .f32) : FVec F (SM 1 256) .f32 :=
  maximumf (row m) (mxRow k q)

def payRef (m mu : Vec F (SS 1 256) .f32) : FVec F (SS 1 256) .f32 := slab (refRow m mu)
def payP (k : Vec F (SS 1024 128) .bf16) (q : Vec F (SS 128 256) .bf16) (m mu : Vec F (SS 1 256) .f32) : FVec F (SS 1024 256) .bf16 :=
  weigh (score k q) (subf (refRow m mu) zrow)
/-- How far the reference point and the block's maxima have come apart. -/
def payLag (k : Vec F (SS 1024 128) .bf16) (q : Vec F (SS 128 256) .bf16) (m mu lag : Vec F (SS 1 256) .f32) : FVec F (SS 1 256) .f32 :=
  slab (maximumf (row lag) (maximumf (subf (mxRow k q) (refRow m mu)) (subf (refRow m mu) (newRow k q m))))
def payM (k : Vec F (SS 1024 128) .bf16) (q : Vec F (SS 128 256) .bf16) (m : Vec F (SS 1 256) .f32) : FVec F (SS 1 256) .f32 := slab (newRow k q m)
def payMu (k : Vec F (SS 1024 128) .bf16) (q : Vec F (SS 128 256) .bf16) (mu : Vec F (SS 1 256) .f32) : FVec F (SS 1 256) .f32 :=
  slab (maximumf (row mu) (subf (mxRow k q) zrow))
def payAcc (vt : Vec F (SS 144 1024) .bf16) (rp : Vec F (SS 1 256) .f32) (acc : Vec F (SS 144 256) .f32) (r : Vec F (SS 1 256) .f32)
    (p : Vec F (SS 1024 256) .bf16) : FVec F (SS 144 256) .f32 :=
  accum acc (exp2 (subf (row r) (row rp))) vt p
def payR (rp : Vec F (SS 1 256) .f32) : FVec F (SS 1 256) .f32 := slab (row rp)

def payFirst (k : Vec F (SS 128 128) .bf16) (q : Vec F (SS 128 256) .bf16) : FVec F (SS 1 256) .f32 := slab (probeMax k q)
def payFirstMu (k : Vec F (SS 128 128) .bf16) (q : Vec F (SS 128 256) .bf16) : FVec F (SS 1 256) .f32 := slab (subf (probeMax k q) zrow)

/-- The first 64 rows of a block of queries, zeros below. -/
def payTop (v : Vec F (SS 128 256) .bf16) : FVec F (SS 128 256) .bf16 :=
  shapeCast (SS 128 256) (truncf .bf16 (select (cmpi .slt (iota .tc (SM 128 256) 32 [0] (by decide)) (broadcast (SM 128 256) 64#32))
    (extf .f32 (shapeCast (SM 128 256) v (by decide) : FVec F (SM 128 256) .bf16) (by decide)) (broadcast (SM 128 256) (Scalar.ofBits .f32 0x00000000#32 : F .f32)))
    (by decide) : FVec F (SM 128 256) .bf16) (by decide)
/-- The last 64 rows, zeros above. -/
def payBot (v : Vec F (SS 128 256) .bf16) : FVec F (SS 128 256) .bf16 :=
  shapeCast (SS 128 256) (truncf .bf16 (select (cmpi .sge (iota .tc (SM 128 256) 32 [0] (by decide)) (broadcast (SM 128 256) 64#32))
    (extf .f32 (shapeCast (SM 128 256) v (by decide) : FVec F (SM 128 256) .bf16) (by decide)) (broadcast (SM 128 256) (Scalar.ofBits .f32 0x00000000#32 : F .f32)))
    (by decide) : FVec F (SM 128 256) .bf16) (by decide)

/-- Eight slabs of one value. -/
def fill (R C : Nat) (b : BitVec 32) (h : (SG R C).ShapeCasts (SG R C)) : FVec F (SG R C) .f32 :=
  shapeCast (SG R C) (broadcast (SG R C) (Scalar.ofBits .f32 b : F .f32)) h

/-- The largest lag of all columns. -/
def lagMax (l : Vec F (SG 1 256) .f32) : F .f32 :=
  extractAt ![0, 0, 0, 0] (shapeCast ⟨4, ![1, 1, 1, 1]⟩ (multiReduction .maximumf [1, 2, 3] (SV 1)
    (shapeCast ⟨4, ![1, 8, 1, 256]⟩ l (by decide) : FVec F ⟨4, ![1, 8, 1, 256]⟩ .f32) 0xFF800000#32 (by decide) (.inl rfl) rfl) (by decide) : FVec F ⟨4, ![1, 1, 1, 1]⟩ .f32)
    (by decide)
/-- Whether the careful pass has to be run. -/
def lagged (l : Vec F (SG 1 256) .f32) : BitVec 1 :=
  Scalar.cmpi .ne (Scalar.extui (Scalar.cmpf .ogt (lagMax l) (Scalar.ofBits .f32 0x42800000#32)) : BitVec 32) 0#32

/-- The careful pass: scores, their maxima. -/
def paySF (k : Vec F (SS 1024 128) .bf16) (q : Vec F (SS 128 256) .bf16) : FVec F (SS 1024 256) .f32 := shapeCast (SS 1024 256) (score k q) (by decide)
def payMxF (k : Vec F (SS 1024 128) .bf16) (q : Vec F (SS 128 256) .bf16) : FVec F (SS 1 256) .f32 := slab (smax (score k q))
def payMF (m mx : Vec F (SS 1 256) .f32) : FVec F (SS 1 256) .f32 := slab (maximumf (row m) (row mx))
def payAF (m mx : Vec F (SS 1 256) .f32) : FVec F (SS 1 256) .f32 := slab (exp2 (subf (row m) (maximumf (row m) (row mx))))
def payPF (m mx : Vec F (SS 1 256) .f32) (s : Vec F (SS 1024 256) .f32) : FVec F (SS 1024 256) .bf16 :=
  weigh (shapeCast (SM 1024 256) s (by decide)) (maximumf (row m) (row mx))
def payAccF (vt : Vec F (SS 144 1024) .bf16) (acc : Vec F (SS 144 256) .f32) (a : Vec F (SS 1 256) .f32) (p : Vec F (SS 1024 256) .bf16) :
    FVec F (SS 144 256) .f32 := accum acc (row a) vt p

theorem concat_halves : Shape.Concatenates [SM 64 256, SM 64 256] (SM 128 256) 0 := by decide

/-- One half of a head pair's result: the weighted values over the sum of the weights. -/
def quot (v : Vec F (SS 64 256) .f32) (l : Vec F (SS 1 256) .f32) : FVec F (SM 64 256) .f32 :=
  divf (shapeCast (SM 64 256) v (by decide)) (broadcastTo (SM 64 256) (row l) (by decide))
def payO (v : Vec F (SS 64 256) .f32) (l : Vec F (SS 1 256) .f32) (v' : Vec F (SS 64 256) .f32) (l' : Vec F (SS 1 256) .f32) : FVec F (SS 256 128) .bf16 :=
  shapeCast (SS 256 128) (truncf .bf16 (transpose (SM 256 128) [1, 0]
    (concatenate (SM 128 256) 0 [⟨SM 64 256, quot v l⟩, ⟨SM 64 256, quot v' l'⟩] concat_halves) (by decide) : FVec F (SM 256 128) .f32) (by decide) : FVec F (SM 256 128) .bf16) (by decide)

end Arith

/-! ## The programs -/

/-- Two programs that begin with one operation. -/
theorem op_congr {E : Type → Type*} {α β : Type} {e : E β} {k k' : β → Prog E α} (h : ∀ x, k x = k' x) : Prog.op e k = Prog.op e k' :=
  congrArg _ (funext h)
/-- Two programs that begin with equal programs. -/
theorem bind_congr {E : Type → Type*} {α β : Type} {p p' : Prog E β} {k k' : β → Prog E α} (hp : p = p') (h : ∀ x, k x = k' x) :
    p >>= k = p' >>= k' := by
  rw [hp, funext h]

/-- Two programs that begin with a choice. -/
theorem if_bind_congr {E : Type → Type*} {α β : Type} {P : Prop} {inst : Decidable P} {p p' q : Prog E β} {k k' : β → Prog E α} (hp : p = p')
    (h : ∀ x, k x = k' x) : (if P then p else q) >>= k = (if P then p' else q) >>= k' := by
  rw [hp, funext h]

/-- A program that begins with a value. -/
theorem ret_bind_left {E : Type → Type*} {α β : Type} {x : β} {k : β → Prog E α} {q : Prog E α} (h : k x = q) : (Prog.ret x).bind k = q := h
theorem ret_bind_right {E : Type → Type*} {α β : Type} {x : β} {k : β → Prog E α} {q : Prog E α} (h : q = k x) : q = (Prog.ret x).bind k := h

section Prog

variable {nD : Nat} {τ : Topo} {sig : RefSig} {Λ : Labels} {F : FTy → Type} [FloatOps F]

/-- A buffer of eight slabs in VMEM, whole, whose slabs can be stored to. -/
structure GBuf (sig : RefSig) (R C : Nat) (e : EltTy) where
  m : Memref sig .tc .vmem (SG R C) e
  whole : m.IsWhole
  pos : 0 < (SS R C).numel
  posG : 0 < (SG R C).numel
  sts : ∀ g, (m.access (rg g)).Stores Finset.univ

abbrev PP (nD : Nat) (τ : Topo) (sig : RefSig) (Λ : Labels) (F : FTy → Type) : Type → Type _ := Prog (TpuEff nD τ sig (Elt F) Λ .tc)

def GBuf.ld {R C : Nat} {e : EltTy} (b : GBuf sig R C e) (g : Fin 8) : PP nD τ sig Λ F (Vec F (SS R C) e) :=
  Prog.lift (.load b.m (rg g).toLoadRect (View.loadsAt_vmem b.pos))
def GBuf.st {R C : Nat} {e : EltTy} (b : GBuf sig R C e) (g : Fin 8) (w : Vec F (SS R C) e) : PP nD τ sig Λ F PUnit :=
  Prog.lift (.store b.m (rg g) w Finset.univ (b.sts g) (.inl rfl))
def GBuf.ldAll {R C : Nat} {e : EltTy} (b : GBuf sig R C e) : PP nD τ sig Λ F (Vec F (SG R C) e) :=
  Prog.lift (.load b.m rw'.toLoadRect (View.loadsAt_vmem b.posG))
def GBuf.stAll {R C : Nat} (b : GBuf sig R C .f32) (w : Vec F (SG R C) .f32) : PP nD τ sig Λ F PUnit :=
  Prog.lift (.store b.m rw' w Finset.univ (View.stores_vmem_bits_univ b.posG rfl) (.inl rfl))

theorem q_inb (w : Fin 4) : ∀ a, (![0, 128 * w.val, 0] : Fin 3 → Nat) a + (SS 128 256).size a ≤ (SS 512 256).size a := by
  have := w.isLt
  intro a; fin_cases a
  · show 0 + 1 ≤ 1; omega
  · show 128 * w.val + 128 ≤ 512; omega
  · show 0 + 256 ≤ 256; omega
theorem o_inb (w : Fin 4) : ∀ a, (![0, 0, 128 * w.val] : Fin 3 → Nat) a + (SS 256 128).size a ≤ (SS 256 512).size a := by
  have := w.isLt
  intro a; fin_cases a
  · show 0 + 1 ≤ 1; omega
  · show 0 + 256 ≤ 256; omega
  · show 128 * w.val + 128 ≤ 512; omega
theorem part_inb {R C r : Nat} (h : r + R ≤ 144) (hC : C = 256) (g : Fin 8) : ∀ a, (![g.val, r, 0] : Fin 3 → Nat) a + (SS R C).size a ≤ (SG 144 256).size a := by
  have := g.isLt
  subst hC
  intro a; fin_cases a
  · show g.val + 1 ≤ 8; omega
  · show r + R ≤ 144; omega
  · show 0 + 256 ≤ 256; omega

/-- The `w`-th chunk of 128 rows of the queries: two groups'. -/
abbrev rq (w : Fin 4) : Rect (SS 512 256) := Rect.unit (s := SS 512 256) ![0, 128 * w.val, 0] (SS 128 256).size (q_inb w)
/-- The `w`-th chunk of 128 columns of the result. -/
abbrev ro (w : Fin 4) : Rect (SS 256 512) := Rect.unit (s := SS 256 512) ![0, 0, 128 * w.val] (SS 256 128).size (o_inb w)
/-- `R` rows of a group's accumulator, from the `r`-th on. -/
abbrev rpt (R r : Nat) (h : r + R ≤ 144) (g : Fin 8) : Rect (SG 144 256) := Rect.unit (s := SG 144 256) ![g.val, r, 0] (SS R 256).size (part_inb h rfl g)
/-- The two groups of a chunk. -/
def gA (w : Fin 4) : Fin 8 := ⟨2 * w.val, by omega⟩
def gB (w : Fin 4) : Fin 8 := ⟨2 * w.val + 1, by omega⟩

/-- The kernel's buffers: its queries, keys, values and result, and its scratch. -/
structure Ctx (sig : RefSig) where
  qt : Memref sig .tc .vmem (SS 512 256) .bf16
  k : Memref sig .tc .vmem (SS 8192 128) .bf16
  vt : Memref sig .tc .vmem (SS 144 8192) .bf16
  o : Memref sig .tc .vmem (SS 256 512) .bf16
  hqt : qt.IsWhole
  hk : k.IsWhole
  hvt : vt.IsWhole
  ho : o.IsWhole
  sto : ∀ w, (o.access (ro w)).Stores Finset.univ
  q2 : GBuf sig 128 256 .bf16
  m : GBuf sig 1 256 .f32
  r : GBuf sig 1 256 .f32
  acc : GBuf sig 144 256 .f32
  pa : GBuf sig 1024 256 .bf16
  sa : GBuf sig 1024 256 .f32
  sb : GBuf sig 1024 256 .f32
  ra : GBuf sig 1 256 .f32
  rb : GBuf sig 1 256 .f32
  pb : GBuf sig 1024 256 .bf16
  lag : GBuf sig 1 256 .f32
  mu : GBuf sig 1 256 .f32

/-- A block of keys starts at a row offset inside the array. -/
abbrev KOff (off : Fin 3 → Nat) : Prop := ∀ a, off a + (SS 1024 128).size a ≤ (SS 8192 128).size a
/-- A block of values starts at a column offset inside the array. -/
abbrev VOff (off : Fin 3 → Nat) : Prop := ∀ a, off a + (SS 144 1024).size a ≤ (SS 144 8192).size a

variable (c : Ctx sig)

def ldK (off : Fin 3 → Nat) (h : KOff off) : PP nD τ sig Λ F (Vec F (SS 1024 128) .bf16) :=
  Prog.lift (.load c.k (Rect.unit (s := SS 8192 128) off (SS 1024 128).size h).toLoadRect (View.loadsAt_vmem pos_1024_128))
def ldV (off : Fin 3 → Nat) (h : VOff off) : PP nD τ sig Λ F (Vec F (SS 144 1024) .bf16) :=
  Prog.lift (.load c.vt (Rect.unit (s := SS 144 8192) off (SS 144 1024).size h).toLoadRect (View.loadsAt_vmem pos_144_1024))

/-- One operation after another over the eight groups. -/
def seq8 (P : Fin 8 → PP nD τ sig Λ F PUnit) : PP nD τ sig Λ F PUnit := do
  P 0; P 1; P 2; P 3; P 4; P 5; P 6; P 7

/-- A chunk of two groups' queries, masked into their slabs. -/
def stackP (w : Fin 4) : PP nD τ sig Λ F PUnit := do
  let v : Vec F (SS 128 256) .bf16 ← Prog.lift (.load c.qt (rq w).toLoadRect (View.loadsAt_vmem pos_128_256))
  let _ : Vec F (SS 128 256) .bf16 ← c.q2.ld (gA w)
  c.q2.st (gA w) (payTop v)
  let _ : Vec F (SS 128 256) .bf16 ← c.q2.ld (gB w)
  c.q2.st (gB w) (payBot v)

/-- The first reference points of a group, from the first 128 keys. -/
def probeP (g : Fin 8) : PP nD τ sig Λ F PUnit := do
  let k : Vec F (SS 128 128) .bf16 ← Prog.lift (.load c.k (Rect.unit (s := SS 8192 128) ![0, 0, 0] (SS 128 128).size (by decide)).toLoadRect (View.loadsAt_vmem pos_128_128))
  let q ← c.q2.ld g
  let _ : Vec F (SS 1 256) .f32 ← c.m.ld g
  c.m.st g (payFirst k q)
  let _ : Vec F (SS 1 256) .f32 ← c.mu.ld g
  c.mu.st g (payFirstMu k q)
  let _ : Vec F (SS 1 256) .f32 ← c.r.ld g
  c.r.st g (payFirst k q)

/-- A group's weights at a block of keys, and how its reference points move. -/
def scoresP (off : Fin 3 → Nat) (h : KOff off) (p : GBuf sig 1024 256 .bf16) (rp : GBuf sig 1 256 .f32) (g : Fin 8) : PP nD τ sig Λ F PUnit := do
  let k ← ldK c off h
  let q ← c.q2.ld g
  let m ← c.m.ld g
  let mu ← c.mu.ld g
  let _ : Vec F (SS 1 256) .f32 ← rp.ld g
  rp.st g (payRef m mu)
  let _ : Vec F (SS 1024 256) .bf16 ← p.ld g
  p.st g (payP k q m mu)
  let lag ← c.lag.ld g
  let _ : Vec F (SS 1 256) .f32 ← c.lag.ld g
  c.lag.st g (payLag k q m mu lag)
  let _ : Vec F (SS 1 256) .f32 ← c.m.ld g
  c.m.st g (payM k q m)
  let mu' ← c.mu.ld g
  let _ : Vec F (SS 1 256) .f32 ← c.mu.ld g
  c.mu.st g (payMu k q mu')

/-- A group's weighted values at a block of keys, added up. -/
def valuesP (off : Fin 3 → Nat) (h : VOff off) (p : GBuf sig 1024 256 .bf16) (rp : GBuf sig 1 256 .f32) (g : Fin 8) : PP nD τ sig Λ F PUnit := do
  let vt ← ldV c off h
  let rp ← rp.ld g
  let acc ← c.acc.ld g
  let r ← c.r.ld g
  let p ← p.ld g
  let _ : Vec F (SS 144 256) .f32 ← c.acc.ld g
  c.acc.st g (payAcc vt rp acc r p)
  let _ : Vec F (SS 1 256) .f32 ← c.r.ld g
  c.r.st g (payR rp)

/-- The weights of one block while the values of the block before are added. -/
def stepP (offK : Fin 3 → Nat) (hK : KOff offK) (offV : Fin 3 → Nat) (hV : VOff offV) (p : GBuf sig 1024 256 .bf16) (rp : GBuf sig 1 256 .f32)
    (p' : GBuf sig 1024 256 .bf16) (rp' : GBuf sig 1 256 .f32) : PP nD τ sig Λ F PUnit :=
  seq8 fun g => do scoresP c offK hK p' rp' g; valuesP c offV hV p rp g

/-- The careful pass: a group's scores at a block of keys. -/
def fscoresP (off : Fin 3 → Nat) (h : KOff off) (s : GBuf sig 1024 256 .f32) (mx : GBuf sig 1 256 .f32) (g : Fin 8) : PP nD τ sig Λ F PUnit := do
  let k ← ldK c off h
  let q ← c.q2.ld g
  let _ : Vec F (SS 1024 256) .f32 ← s.ld g
  s.st g (paySF k q)
  let _ : Vec F (SS 1 256) .f32 ← mx.ld g
  mx.st g (payMxF k q)

/-- The careful pass: a group's weights. -/
def fprobsP (s : GBuf sig 1024 256 .f32) (mx : GBuf sig 1 256 .f32) (g : Fin 8) : PP nD τ sig Λ F PUnit := do
  let m ← c.m.ld g
  let mx ← mx.ld g
  let _ : Vec F (SS 1 256) .f32 ← c.m.ld g
  c.m.st g (payMF m mx)
  let _ : Vec F (SS 1 256) .f32 ← c.r.ld g
  c.r.st g (payAF m mx)
  let s ← s.ld g
  let _ : Vec F (SS 1024 256) .bf16 ← c.pa.ld g
  c.pa.st g (payPF m mx s)

/-- The careful pass: a group's weighted values, added up. -/
def fvaluesP (off : Fin 3 → Nat) (h : VOff off) (g : Fin 8) : PP nD τ sig Λ F PUnit := do
  let vt ← ldV c off h
  let acc ← c.acc.ld g
  let a ← c.r.ld g
  let p ← c.pa.ld g
  let _ : Vec F (SS 144 256) .f32 ← c.acc.ld g
  c.acc.st g (payAccF vt acc a p)

/-- One block of the careful pass, the next block's scores beside it. -/
def fstepP (offK : Fin 3 → Nat) (hK : KOff offK) (offV : Fin 3 → Nat) (hV : VOff offV) (s : GBuf sig 1024 256 .f32) (mx : GBuf sig 1 256 .f32)
    (s' : GBuf sig 1024 256 .f32) (mx' : GBuf sig 1 256 .f32) : PP nD τ sig Λ F PUnit := do
  fscoresP c offK hK s' mx' 0; fprobsP c s mx 0
  fscoresP c offK hK s' mx' 1; fprobsP c s mx 1; fvaluesP c offV hV 0
  fscoresP c offK hK s' mx' 2; fprobsP c s mx 2; fvaluesP c offV hV 1
  fscoresP c offK hK s' mx' 3; fprobsP c s mx 3; fvaluesP c offV hV 2
  fscoresP c offK hK s' mx' 4; fprobsP c s mx 4; fvaluesP c offV hV 3
  fscoresP c offK hK s' mx' 5; fprobsP c s mx 5; fvaluesP c offV hV 4
  fscoresP c offK hK s' mx' 6; fprobsP c s mx 6; fvaluesP c offV hV 5
  fscoresP c offK hK s' mx' 7; fprobsP c s mx 7; fvaluesP c offV hV 6
  fvaluesP c offV hV 7

/-- The last block of the careful pass. -/
def flastP (offV : Fin 3 → Nat) (hV : VOff offV) (s : GBuf sig 1024 256 .f32) (mx : GBuf sig 1 256 .f32) : PP nD τ sig Λ F PUnit := do
  fprobsP c s mx 0
  fprobsP c s mx 1; fvaluesP c offV hV 0
  fprobsP c s mx 2; fvaluesP c offV hV 1
  fprobsP c s mx 3; fvaluesP c offV hV 2
  fprobsP c s mx 4; fvaluesP c offV hV 3
  fprobsP c s mx 5; fvaluesP c offV hV 4
  fprobsP c s mx 6; fvaluesP c offV hV 5
  fprobsP c s mx 7; fvaluesP c offV hV 6
  fvaluesP c offV hV 7

/-- Two groups' results, divided and written out. -/
def outP (w : Fin 4) : PP nD τ sig Λ F PUnit := do
  let v : Vec F (SS 64 256) .f32 ← Prog.lift (.load c.acc.m (rpt 64 0 (by decide) (gA w)).toLoadRect (View.loadsAt_vmem pos_64_256))
  let l : Vec F (SS 1 256) .f32 ← Prog.lift (.load c.acc.m (rpt 1 128 (by decide) (gA w)).toLoadRect (View.loadsAt_vmem pos_1_256))
  let v' : Vec F (SS 64 256) .f32 ← Prog.lift (.load c.acc.m (rpt 64 64 (by decide) (gB w)).toLoadRect (View.loadsAt_vmem pos_64_256))
  let l' : Vec F (SS 1 256) .f32 ← Prog.lift (.load c.acc.m (rpt 1 128 (by decide) (gB w)).toLoadRect (View.loadsAt_vmem pos_1_256))
  let _ : Vec F (SS 256 128) .bf16 ← Prog.lift (.load c.o (ro w).toLoadRect (View.loadsAt_vmem pos_256_128))
  Prog.lift (.store c.o (ro w) (payO v l v' l') Finset.univ (c.sto w) (.inl rfl))

theorem k7_inb : KOff ![0, 7168, 0] := by decide
theorem k0_inb : KOff ![0, 0, 0] := by decide
theorem v6_inb : VOff ![0, 0, 6144] := by decide
theorem v7_inb : VOff ![0, 0, 7168] := by decide
theorem casts_144 : (SG 144 256).ShapeCasts (SG 144 256) := by decide
theorem casts_1 : (SG 1 256).ShapeCasts (SG 1 256) := by decide

/-- The careful pass, its loop over the blocks between the first and the last two given. -/
def carefulP (loop : PP nD τ sig Λ F PUnit) : PP nD τ sig Λ F PUnit := do
  let _ : Vec F (SG 1 256) .f32 ← c.m.ldAll
  c.m.stAll (fill 1 256 0xF149F2CA#32 casts_1)
  let _ : Vec F (SG 144 256) .f32 ← c.acc.ldAll
  c.acc.stAll (fill 144 256 0x00000000#32 casts_144)
  seq8 (fscoresP c ![0, 0, 0] k0_inb c.sa c.ra)
  loop
  fstepP c ![0, 7168, 0] k7_inb ![0, 0, 6144] v6_inb c.sa c.ra c.sb c.rb
  flastP c ![0, 0, 7168] v7_inb c.sb c.rb

/-- A program run if some column lags. -/
def whenP (l : Vec F (SG 1 256) .f32) (p : PP nD τ sig Λ F PUnit) : PP nD τ sig Λ F PUnit := if lagged l = 1#1 then p else pure ⟨⟩

/-- The body, its two loops given. -/
def bodyP (loop1 loop2 : PP nD τ sig Λ F PUnit) : PP nD τ sig Λ F PUnit := do
  stackP c 0; stackP c 1; stackP c 2; stackP c 3
  seq8 (probeP c)
  let _ : Vec F (SG 144 256) .f32 ← c.acc.ldAll
  c.acc.stAll (fill 144 256 0x00000000#32 casts_144)
  let _ : Vec F (SG 1 256) .f32 ← c.lag.ldAll
  c.lag.stAll (fill 1 256 0x00000000#32 casts_1)
  seq8 (scoresP c ![0, 0, 0] k0_inb c.pa c.ra)
  loop1
  stepP c ![0, 7168, 0] k7_inb ![0, 0, 6144] v6_inb c.pa c.ra c.pb c.rb
  seq8 (valuesP c ![0, 0, 7168] v7_inb c.pb c.rb)
  let l : Vec F (SG 1 256) .f32 ← c.lag.ldAll
  whenP l (carefulP c loop2)
  outP c 0; outP c 1; outP c 2; outP c 3

end Prog

end FlashD

end
-- ==== Proof.Online.lean ====
/-
  The mathematics of the running softmax on extended reals: a weighted sum that is rescaled as its
  reference point moves, and its quotient, which doesn't depend on the reference point.
-/
module

public import Idealize.ShloMosaic.PureOps.Ideal

@[expose] public section

noncomputable section

namespace FlashD

open Idealize.ShloMosaic
open scoped BigOperators

/-- A product with a nonnegative real distributes over a sum. -/
theorem sum_mul_coe {ι : Type} (c : ℝ) (hc : 0 ≤ c) (S : Finset ι) (f : ι → EReal) : (∑ j ∈ S, f j) * (c : EReal) = ∑ j ∈ S, f j * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top _), ih]

/-- A sum of reals is a real. -/
theorem sum_coe {ι : Type} (S : Finset ι) (f : ι → ℝ) : (∑ j ∈ S, (f j : EReal)) = ((∑ j ∈ S, f j : ℝ) : EReal) := by
  classical
  induction S using Finset.induction_on with
  | empty => simp
  | insert a S ha ih => rw [Finset.sum_insert ha, Finset.sum_insert ha, ih, EReal.coe_add]

/-- The maximum of some reals is a real. -/
theorem fold_max_real {n : Nat} (hn : 0 < n) (f : Fin n → ℝ) : ∃ x : ℝ, (Finset.univ : Finset (Fin n)).fold max (⊥ : EReal) (fun i => (f i : EReal)) = (x : EReal) := by
  have h : (Finset.univ : Finset (Fin n)).Nonempty := ⟨⟨0, hn⟩, Finset.mem_univ _⟩
  obtain ⟨i, -, hi⟩ := Finset.exists_mem_eq_sup Finset.univ h (fun i => (f i : EReal))
  exact ⟨f i, hi⟩

theorem max_coe (x y : ℝ) : max (x : EReal) (y : EReal) = ((max x y : ℝ) : EReal) := EReal.coe_strictMono.monotone.map_max.symm

/-- The first `n` values, weighted by the powers of two of the scores less the reference point. -/
def wsum (σ : ℕ → ℝ) (v : ℕ → EReal) (n : ℕ) (ρ : ℝ) : EReal := ∑ j ∈ Finset.range n, v j * Ideal.exp2 (((σ j - ρ : ℝ)) : EReal)

theorem exp2_pos (x : ℝ) : 0 < Real.rpow 2 x := Real.rpow_pos_of_pos (by norm_num) x

theorem wsum_zero (σ : ℕ → ℝ) (v : ℕ → EReal) (ρ : ℝ) : wsum σ v 0 ρ = 0 := by simp [wsum]

/-- The reference point moved. -/
theorem wsum_move (σ : ℕ → ℝ) (v : ℕ → EReal) (n : ℕ) (ρ ρ' : ℝ) : wsum σ v n ρ * Ideal.exp2 ((ρ - ρ' : ℝ) : EReal) = wsum σ v n ρ' := by
  unfold wsum
  rw [Ideal.exp2_coe, sum_mul_coe _ (exp2_pos _).le]
  refine Finset.sum_congr rfl fun j _ => ?_
  rw [mul_assoc, Ideal.exp2_coe, Ideal.exp2_coe, ← EReal.coe_mul]
  congr 2
  rw [Real.rpow_eq_pow, Real.rpow_eq_pow, Real.rpow_eq_pow, ← Real.rpow_add (by norm_num)]
  congr 1
  ring

/-- One more block of values. -/
theorem wsum_step (σ : ℕ → ℝ) (v : ℕ → EReal) (n b : ℕ) (ρ ρ' : ℝ) :
    wsum σ v n ρ * Ideal.exp2 ((ρ - ρ' : ℝ) : EReal) + ∑ i : Fin b, v (n + i.val) * Ideal.exp2 ((σ (n + i.val) - ρ' : ℝ) : EReal) = wsum σ v (n + b) ρ' := by
  rw [wsum_move]
  unfold wsum
  rw [Finset.sum_range_add]
  congr 1
  rw [Finset.sum_range]

/-- The values' average by the weights `w`. -/
def mean (w : ℕ → ℝ) (v : ℕ → EReal) (n : ℕ) : EReal := ∑ j ∈ Finset.range n, v j * ((w j / ∑ i ∈ Finset.range n, w i : ℝ) : EReal)

/-- The weights' common factor doesn't matter. -/
theorem mean_scale (w w' : ℕ → ℝ) (v : ℕ → EReal) (n : ℕ) (c : ℝ) (hc : c ≠ 0) (h : ∀ j < n, w' j = w j * c) : mean w' v n = mean w v n := by
  unfold mean
  refine Finset.sum_congr rfl fun j hj => ?_
  have hs : (∑ i ∈ Finset.range n, w' i) = (∑ i ∈ Finset.range n, w i) * c := by
    rw [Finset.sum_mul]
    exact Finset.sum_congr rfl fun i hi => h i (Finset.mem_range.mp hi)
  rw [hs, h j (Finset.mem_range.mp hj), mul_div_mul_right _ _ hc]

/-- The quotient at the end. -/
theorem wsum_div (σ : ℕ → ℝ) (v : ℕ → EReal) (n : ℕ) (hn : 0 < n) (ρ : ℝ) :
    Ideal.div (wsum σ v n ρ) (wsum σ (fun _ => 1) n ρ) = mean (fun j => Real.rpow 2 (σ j)) v n := by
  have hl : wsum σ (fun _ => 1) n ρ = ((∑ j ∈ Finset.range n, Real.rpow 2 (σ j - ρ) : ℝ) : EReal) := by
    unfold wsum
    rw [← sum_coe]
    exact Finset.sum_congr rfl fun j _ => by rw [one_mul, Ideal.exp2_coe]
  have hp : 0 < ∑ j ∈ Finset.range n, Real.rpow 2 (σ j - ρ) :=
    Finset.sum_pos (fun j _ => exp2_pos _) ⟨0, Finset.mem_range.mpr hn⟩
  rw [hl, Ideal.div_coe hp.ne', ← mean_scale (fun j => Real.rpow 2 (σ j)) (fun j => Real.rpow 2 (σ j - ρ)) v n (Real.rpow 2 (-ρ)) (exp2_pos _).ne'
    (fun j _ => by rw [Real.rpow_eq_pow, Real.rpow_eq_pow, Real.rpow_eq_pow, ← Real.rpow_add (by norm_num), sub_eq_add_neg])]
  unfold wsum mean
  rw [sum_mul_coe _ (one_div_pos.mpr hp).le]
  refine Finset.sum_congr rfl fun j _ => ?_
  rw [mul_assoc, Ideal.exp2_coe, ← EReal.coe_mul, mul_one_div]

/-- The same average, each weight divided before it is used. -/
theorem mean_host (τ : ℕ → ℝ) (v : ℕ → EReal) (n : ℕ) (hn : 0 < n) (M : ℝ) :
    (∑ j ∈ Finset.range n, v j * Ideal.div (Ideal.exp ((τ j : EReal) - (M : EReal))) (∑ i ∈ Finset.range n, Ideal.exp ((τ i : EReal) - (M : EReal))))
      = mean (fun j => Real.exp (τ j)) v n := by
  have he : ∀ j, Ideal.exp ((τ j : EReal) - (M : EReal)) = ((Real.exp (τ j - M) : ℝ) : EReal) := fun j => by rw [← EReal.coe_sub, Ideal.exp_coe]
  have hp : 0 < ∑ j ∈ Finset.range n, Real.exp (τ j - M) := Finset.sum_pos (fun j _ => Real.exp_pos _) ⟨0, Finset.mem_range.mpr hn⟩
  rw [← mean_scale (fun j => Real.exp (τ j)) (fun j => Real.exp (τ j - M)) v n (Real.exp (-M)) (Real.exp_pos _).ne'
    (fun j _ => by rw [← Real.exp_add, sub_eq_add_neg])]
  simp only [he]
  rw [sum_coe]
  unfold mean
  refine Finset.sum_congr rfl fun j _ => ?_
  rw [Ideal.div_coe hp.ne', ← EReal.coe_mul, mul_one_div]

end FlashD

end
-- ==== Proof.Reads.lean ====
/-
  The arithmetic of one group read at an index, on extended reals.
-/
module

public import proofs.«01_k».proof.Proof.Blocks
public import proofs.«01_k».proof.Proof.Online
public import Idealize.ShloMosaic.Lib.Pointwise

@[expose] public section

set_option maxRecDepth 16384

noncomputable section

namespace FlashD

open Idealize.ShloMosaic
open scoped BigOperators

theorem ofBits_bot : Ideal.ofBits .f32 0xFF800000#32 = ⊥ := by
  simp [Ideal.ofBits, Ideal.ieee]
/-- The large negative number the careful pass starts from is a real. -/
theorem ofBits_low : ∃ x : ℝ, Ideal.ofBits .f32 0xF149F2CA#32 = (x : EReal) := by
  simp only [Ideal.ofBits, Ideal.ieee]
  rw [if_neg (by decide), if_neg (by decide)]
  exact ⟨_, rfl⟩

/-- A choice between two rows' ranges. -/
theorem select_lt64 (i : Fin 128) (x y : EReal) : Scalar.select (IntOp.cmpi CmpIPredicate.slt (BitVec.ofNat 32 i.val) 64#32) x y = if i.val < 64 then x else y := by
  fin_cases i <;> rfl
theorem select_ge64 (i : Fin 128) (x y : EReal) : Scalar.select (IntOp.cmpi CmpIPredicate.sge (BitVec.ofNat 32 i.val) 64#32) x y = if i.val < 64 then y else x := by
  fin_cases i <;> rfl

theorem score_apply (k : FVec Ideal (SS 1024 128) .bf16) (q : FVec Ideal (SS 128 256) .bf16) (j : Fin 1024) (c : Fin 256) :
    score (F := Ideal) k q (ix2 j c) = ∑ i : Fin 128, k (ix3 0 j i) * q (ix3 0 i c) := by
  pointwise [score, dotK]

theorem smax_apply (s : FVec Ideal (SM 1024 256) .f32) (c : Fin 256) :
    smax (F := Ideal) s (ix2 0 c) = (Finset.univ : Finset (Fin 1024)).fold max ⊥ (fun j => s (ix2 j c)) := by
  pointwise [smax]
  rw [ofBits_bot]

theorem weigh_apply (s : FVec Ideal (SM 1024 256) .f32) (r : FVec Ideal (SM 1 256) .f32) (j : Fin 1024) (c : Fin 256) :
    weigh (F := Ideal) s r (ix3 0 j c) = Ideal.exp2 (s (ix2 j c) - r (ix2 0 c)) := by
  pointwise [weigh]
  rfl

theorem accum_apply (acc : FVec Ideal (SS 144 256) .f32) (a : FVec Ideal (SM 1 256) .f32) (vt : FVec Ideal (SS 144 1024) .bf16) (p : FVec Ideal (SS 1024 256) .bf16)
    (i : Fin 144) (c : Fin 256) : accum (F := Ideal) acc a vt p (ix3 0 i c) = acc (ix3 0 i c) * a (ix2 0 c) + ∑ j : Fin 1024, vt (ix3 0 i j) * p (ix3 0 j c) := by
  pointwise [accum, dotV]

theorem row_apply (v : FVec Ideal (SS 1 256) .f32) (c : Fin 256) : row (F := Ideal) v (ix2 0 c) = v (ix3 0 0 c) := by
  pointwise [row]
theorem slab_apply (v : FVec Ideal (SM 1 256) .f32) (c : Fin 256) : slab (F := Ideal) v (ix3 0 0 c) = v (ix2 0 c) := by
  pointwise [slab]
theorem zrow_apply (c : Fin 256) : zrow (F := Ideal) (ix2 0 c) = 0 := by
  pointwise [zrow]

theorem probeMax_apply (k : FVec Ideal (SS 128 128) .bf16) (q : FVec Ideal (SS 128 256) .bf16) (c : Fin 256) :
    probeMax (F := Ideal) k q (ix2 0 c) = (Finset.univ : Finset (Fin 128)).fold max ⊥ (fun j => ∑ i : Fin 128, k (ix3 0 j i) * q (ix3 0 i c)) := by
  pointwise [probeMax, dotProbe, zrow]
  rw [ofBits_bot]

theorem payTop_apply (v : FVec Ideal (SS 128 256) .bf16) (i : Fin 128) (c : Fin 256) :
    payTop (F := Ideal) v (ix3 0 i c) = if i.val < 64 then v (ix3 0 i c) else 0 := by
  pointwise [payTop]
  exact select_lt64 i _ _

theorem payBot_apply (v : FVec Ideal (SS 128 256) .bf16) (i : Fin 128) (c : Fin 256) :
    payBot (F := Ideal) v (ix3 0 i c) = if i.val < 64 then 0 else v (ix3 0 i c) := by
  pointwise [payBot]
  exact select_ge64 i _ _

theorem quot_apply (v : FVec Ideal (SS 64 256) .f32) (l : FVec Ideal (SS 1 256) .f32) (i : Fin 64) (c : Fin 256) :
    quot (F := Ideal) v l (ix2 i c) = Ideal.div (v (ix3 0 i c)) (l (ix3 0 0 c)) := by
  pointwise [quot, row]

theorem payO_apply (v : FVec Ideal (SS 64 256) .f32) (l : FVec Ideal (SS 1 256) .f32) (v' : FVec Ideal (SS 64 256) .f32) (l' : FVec Ideal (SS 1 256) .f32)
    (c : Fin 256) (i : Fin 128) : payO (F := Ideal) v l v' l' (ix3 0 c i)
      = if h : i.val < 64 then Ideal.div (v (ix3 0 ⟨i.val, h⟩ c)) (l (ix3 0 0 c)) else Ideal.div (v' (ix3 0 ⟨i.val - 64, by omega⟩ c)) (l' (ix3 0 0 c)) := by
  pointwise [payO, quot, row]

end FlashD

end
-- ==== Proof.RefValue.lean ====
/-
  The reference's result at an index, on extended reals: the average of a head's values, weighted by the
  exponentials of the scores.
-/
module

public import proofs.«01_k».proof.Defs
public import proofs.«01_k».proof.Proof.Gen.ReferenceIdeal
public import proofs.«01_k».proof.Proof.Gen.ReferenceIdeal.Read
public import proofs.«01_k».proof.Proof.Reads

@[expose] public section

set_option maxRecDepth 16384

noncomputable section

namespace Cert.ReferenceIdeal.AtIdeal

open Cert.ReferenceIdeal Cert.ReferenceIdeal.Gen Cert.ReferenceIdeal.Read Idealize.ShloMosaic Idealize.ShloMosaic.TcCoe
open scoped BigOperators

/-- The literal an eighth. -/
theorem ofBits_eighth : Ideal.ofBits .f32 0x3E000000#32 = ((0.125 : ℝ) : EReal) := by
  simp [Ideal.ofBits, Ideal.ieee, -EReal.coe_mul]; norm_num

variable {x0 : FVec Ideal S8x8192x8x64 .f32} {x1 x2 : FVec Ideal S8x8192x2x64 .f32}
variable {qr : Fin 8 → Fin 8192 → Fin 8 → Fin 64 → ℝ} {kr : Fin 8 → Fin 8192 → Fin 2 → Fin 64 → ℝ}

/-- The reference's score of key `j` for query `t` of head `(g, r)`. -/
def tau (qr : Fin 8 → Fin 8192 → Fin 8 → Fin 64 → ℝ) (kr : Fin 8 → Fin 8192 → Fin 2 → Fin 64 → ℝ) (b : Fin 8) (g : Fin 2) (r : Fin 4) (t : Fin 8192) (j : ℕ) : ℝ :=
  (∑ d : Fin 64, kr b ⟨j % 8192, Nat.mod_lt _ (by decide)⟩ g d * qr b t ⟨4 * g.val + r.val, by omega⟩ d) * 0.125

theorem idx_v0 (b : Fin 8) (t : Fin 8192) (g : Fin 2) (r : Fin 4) (d : Fin 64) : idx_main_v0 (ix5 b t g r d) = ix4 b t ⟨4 * g.val + r.val, by omega⟩ d := by
  have hb := b.isLt
  have ht := t.isLt
  have hg := g.isLt
  have hr := r.isLt
  have hd := d.isLt
  funext a
  apply Fin.ext
  fin_cases a
  · show ((((b.val * 8192 + t.val) * 2 + g.val) * 4 + r.val) * 64 + d.val) / 4194304 = b.val; omega
  · show ((((b.val * 8192 + t.val) * 2 + g.val) * 4 + r.val) * 64 + d.val) / 512 % 8192 = t.val; omega
  · show ((((b.val * 8192 + t.val) * 2 + g.val) * 4 + r.val) * 64 + d.val) / 64 % 8 = 4 * g.val + r.val; omega
  · show ((((b.val * 8192 + t.val) * 2 + g.val) * 4 + r.val) * 64 + d.val) % 64 = d.val; omega

theorem idx_v19 (b : Fin 8) (t : Fin 8192) (r : Fin 4) (g : Fin 2) (d : Fin 64) :
    idx_main_v19 (ix3 b t ⟨128 * r.val + (64 * g.val + d.val), by omega⟩) = ix5 b t r g d := by
  have hb := b.isLt
  have ht := t.isLt
  have hg := g.isLt
  have hr := r.isLt
  have hd := d.isLt
  funext a
  apply Fin.ext
  fin_cases a
  · show ((b.val * 8192 + t.val) * 512 + (128 * r.val + (64 * g.val + d.val))) / 4194304 = b.val; omega
  · show ((b.val * 8192 + t.val) * 512 + (128 * r.val + (64 * g.val + d.val))) / 512 % 8192 = t.val; omega
  · show ((b.val * 8192 + t.val) * 512 + (128 * r.val + (64 * g.val + d.val))) / 128 % 4 = r.val; omega
  · show ((b.val * 8192 + t.val) * 512 + (128 * r.val + (64 * g.val + d.val))) / 64 % 2 = g.val; omega
  · show ((b.val * 8192 + t.val) * 512 + (128 * r.val + (64 * g.val + d.val))) % 64 = d.val; omega

section

variable (hq : ∀ b t h d, x0 (ix4 b t h d) = (qr b t h d : EReal)) (hk : ∀ b j g d, x1 (ix4 b j g d) = (kr b j g d : EReal))
include hq hk

theorem score_apply (b : Fin 8) (g : Fin 2) (r : Fin 4) (t j : Fin 8192) : val_main_v4 (F := Ideal) x0 x1 (ix5 b g r t j) = (tau qr kr b g r t j.val : EReal) := by
  rw [val_main_v4_apply, val_main_v2_apply, val_main_v1_apply, val_main_v3_apply, val_main_cst_apply]
  show (∑ d : Fin 64, _) * Ideal.ofBits .f32 0x3E000000#32 = _
  rw [ofBits_eighth]
  unfold tau
  rw [EReal.coe_mul, ← FlashD.sum_coe]
  refine congrArg (· * _) (Finset.sum_congr rfl fun d _ => ?_)
  rw [val_main_v0_apply, EReal.coe_mul]
  have e1 : lidx_main_v1 (idx_main_v2 (ix5 b g r t j)) d = ix4 b j g d := by
    funext a; fin_cases a <;> rfl
  have e2 : ridx_main_v1 (idx_main_v2 (ix5 b g r t j)) d = ix5 b t g r d := by
    funext a; fin_cases a <;> rfl
  have ej : (⟨j.val % 8192, Nat.mod_lt _ (by decide)⟩ : Fin 8192) = j := Fin.ext (Nat.mod_eq_of_lt j.isLt)
  rw [e1, e2, idx_v0, hq, hk, ej]

theorem max_apply (b : Fin 8) (g : Fin 2) (r : Fin 4) (t : Fin 8192) : ∃ M : ℝ, val_main_v7 (F := Ideal) x0 x1 (ix4 b g r t) = (M : EReal) := by
  have e : val_main_v5 (F := Ideal) x0 x1 (ix4 b g r t) = (Finset.univ : Finset (Fin 8192)).fold max ⊥ (fun j => val_main_v4 (F := Ideal) x0 x1 (ix5 b g r t j)) := by
    unfold val_main_v5 val_main_cst_0
    generalize val_main_v4 (F := Ideal) x0 x1 = y
    pointwise
    rw [FlashD.ofBits_bot]
  rw [val_main_v7_apply, val_main_v6_apply, val_main_cst_1_apply, e, funext fun j => score_apply hq hk b g r t j]
  obtain ⟨M, hM⟩ := FlashD.fold_max_real (by decide) (fun j : Fin 8192 => tau qr kr b g r t j.val)
  refine ⟨M, ?_⟩
  rw [hM]
  show max (Ideal.ofBits .f32 0xFF800000#32) (M : EReal) = M
  rw [FlashD.ofBits_bot]
  exact max_eq_right bot_le

theorem result_apply (b : Fin 8) (t : Fin 8192) (r : Fin 4) (g : Fin 2) (d : Fin 64) :
    val_main_v20 (F := Ideal) x0 x1 x2 (ix3 b t ⟨128 * r.val + (64 * g.val + d.val), by omega⟩)
      = FlashD.mean (fun j => Real.exp (tau qr kr b g r t j)) (fun j => x2 (ix4 b ⟨j % 8192, Nat.mod_lt _ (by decide)⟩ g d)) 8192 := by
  obtain ⟨M, hM⟩ := max_apply hq hk b g r t
  have e11 : ∀ j : Fin 8192, val_main_v11 (F := Ideal) x0 x1 (ix5 b g r t j) = Ideal.exp ((tau qr kr b g r t j.val : EReal) - (M : EReal)) := by
    intro j
    have e : idx_main_v8 (idx_main_v9 (ix5 b g r t j)) = ix4 b g r t := by
      funext a; fin_cases a <;> rfl
    rw [val_main_v11_apply, val_main_v10_apply, val_main_v9_apply, val_main_v8_apply, e, hM, score_apply hq hk]
    rfl
  have e12 : val_main_v12 (F := Ideal) x0 x1 (ix4 b g r t) = ∑ j ∈ Finset.range 8192, Ideal.exp ((tau qr kr b g r t j : EReal) - (M : EReal)) := by
    rw [val_main_v12_apply, Finset.sum_range, val_main_cst_2_apply]
    show Ideal.ofBits .f32 0x00000000#32 + _ = _
    rw [Ideal.ofBits_zero_f32, zero_add]
    refine Finset.sum_congr rfl fun j _ => ?_
    have e : idx_main_v12 (ix4 b g r t) j = ix5 b g r t j := by
      funext a; fin_cases a <;> rfl
    rw [e, e11]
  rw [← FlashD.mean_host (tau qr kr b g r t) _ 8192 (by decide) M, val_main_v20_apply]
  show val_main_v19 (F := Ideal) x0 x1 x2 _ = _
  rw [val_main_v19_apply, idx_v19, val_main_v18_apply, val_main_v17_apply, val_main_v16_apply, Finset.sum_range]
  refine Finset.sum_congr rfl fun j _ => ?_
  have e1 : lidx_main_v16 (idx_main_v17 (idx_main_v18 (ix5 b t r g d))) j = ix4 b ⟨j.val % 8192, Nat.mod_lt _ (by decide)⟩ g d := by
    funext a; fin_cases a
    · rfl
    · exact Fin.ext (Nat.mod_eq_of_lt j.isLt).symm
    · rfl
    · rfl
  have e2 : ridx_main_v16 (idx_main_v17 (idx_main_v18 (ix5 b t r g d))) j = ix5 b g r t j := by
    funext a; fin_cases a <;> rfl
  have e3 : idx_main_v13 (idx_main_v14 (ix5 b g r t j)) = ix4 b g r t := by
    funext a; fin_cases a <;> rfl
  rw [e1, e2, val_main_v15_apply, val_main_v14_apply, val_main_v13_apply, e3, e11, e12]
  rfl

end

end Cert.ReferenceIdeal.AtIdeal

end
-- ==== Proof.Triples.lean ====
/-
  What the pieces of the body do: rules of separation logic for one load or store of a slab, and from
  them one statement per piece — the state of one group after it as a function of the state before.
-/
module

public import proofs.«01_k».proof.Proof.Blocks
public import Idealize.ShloMosaic.Lib.Exec
public import Idealize.ShloMosaic.Lib.Tactic
public import Idealize.ShloMosaic.Lib.Pipeline.Kit

@[expose] public section

set_option maxRecDepth 16384

noncomputable section

namespace FlashD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The multi-index of three coordinates. -/
def ix3 {a b c : Nat} (i : Fin a) (j : Fin b) (k : Fin c) : Shape.Idx ⟨3, ![a, b, c]⟩ := fun
  | 0 => i
  | 1 => j
  | 2 => k

theorem ix3_eta {a b c : Nat} (i : Shape.Idx ⟨3, ![a, b, c]⟩) : ix3 (i 0) (i 1) (i 2) = i := by
  funext x; fin_cases x <;> rfl

/-- Eight slabs as one array. -/
def glue {Val : EltTy → Type} {R C : Nat} {e : EltTy} (A : Fin 8 → (SS R C).Idx → Val e) : (SG R C).Idx → Val e :=
  fun i => A (i 0) (ix3 0 (i 1) (i 2))

/-- An array's slabs. -/
def cutG {Val : EltTy → Type} {R C : Nat} {e : EltTy} (X : (SG R C).Idx → Val e) : Fin 8 → (SS R C).Idx → Val e :=
  fun g j => X (ix3 g (j 1) (j 2))

theorem glue_cutG {Val : EltTy → Type} {R C : Nat} {e : EltTy} (X : (SG R C).Idx → Val e) : glue (cutG X) = X := by
  funext i; exact congrArg X (ix3_eta i)

theorem slab_eta {R C : Nat} (j : (SS R C).Idx) : ix3 0 (j 1) (j 2) = j := by
  funext x; fin_cases x
  · exact Subsingleton.elim (α := Fin 1) _ _
  · rfl
  · rfl

theorem rg_emb {R C : Nat} (g : Fin 8) (j : (SS R C).Idx) : (rg (R := R) (C := C) g).emb j = ix3 g (j 1) (j 2) := by
  funext x
  apply Fin.ext
  rw [Rect.emb_apply]
  fin_cases x
  · show g.val + 1 * (j 0).val = g.val
    have : (j 0).val < 1 := (j 0).isLt
    omega
  · show 0 + 1 * (j 1).val = (j 1).val; omega
  · show 0 + 1 * (j 2).val = (j 2).val; omega

theorem glue_emb {Val : EltTy → Type} {R C : Nat} {e : EltTy} (A : Fin 8 → (SS R C).Idx → Val e) (g : Fin 8) :
    (fun j => glue A ((rg (R := R) (C := C) g).emb j)) = A g := by
  funext j
  rw [rg_emb]
  exact congrArg (A g) (slab_eta j)

/-- Four chunks of columns as one array. -/
def glueO {Val : EltTy → Type} {e : EltTy} (A : Fin 4 → (SS 256 128).Idx → Val e) : (SS 256 512).Idx → Val e :=
  fun i => A ⟨(i 2).val / 128, by have : (i 2).val < 512 := (i 2).isLt; omega⟩ (ix3 0 (i 1) ⟨(i 2).val % 128, Nat.mod_lt _ (by decide)⟩)
def cutO {Val : EltTy → Type} {e : EltTy} (X : (SS 256 512).Idx → Val e) : Fin 4 → (SS 256 128).Idx → Val e :=
  fun w j => X ((ro w).emb j)

theorem ro_emb (w : Fin 4) (j : (SS 256 128).Idx) : (ro w).emb j = ix3 0 (j 1) ⟨128 * w.val + (j 2).val, by
    have : (j 2).val < 128 := (j 2).isLt
    have := w.isLt
    omega⟩ := by
  funext x
  apply Fin.ext
  rw [Rect.emb_apply]
  fin_cases x
  · show 0 + 1 * (j 0).val = 0
    have : (j 0).val < 1 := (j 0).isLt
    omega
  · show 0 + 1 * (j 1).val = (j 1).val; omega
  · show 128 * w.val + 1 * (j 2).val = 128 * w.val + (j 2).val; omega

theorem glueO_cutO {Val : EltTy → Type} {e : EltTy} (X : (SS 256 512).Idx → Val e) : glueO (cutO X) = X := by
  funext i
  show X _ = X i
  congr 1
  rw [ro_emb]
  funext x
  fin_cases x
  · exact Subsingleton.elim (α := Fin 1) _ _
  · rfl
  · apply Fin.ext
    show 128 * ((i 2).val / 128) + (i 2).val % 128 = (i 2).val
    omega

section

variable {nD : Nat} {τ : Topo} {sig : RefSig} {Λ : Labels} {F : FTy → Type} [FloatOps F]

local notation "𝕄G" => MT nD τ sig Unit (Elt F) ℕ (UR sig nD τ) ℕ

variable {defs : Defs nD τ sig (Elt F) Λ} (𝒱 : Variants) (d : Dev nD)

variable (defs) in
/-- The weakest precondition of a program on device `d`. -/
abbrev WP {α : Type} (p : Prog (TpuEff nD τ sig (Elt F) Λ .tc) α) (Q : α → sProp 𝕄G) : sProp 𝕄G :=
  wp frame (wpE (Ix := Unit) (Name := ℕ) (U := UR sig nD τ) (Lvl := ℕ) defs 𝒱 (d : Thread nD τ) none) Set.univ p Q

/-! ## One load, one store -/

theorem owns_load {s : Shape} {e : EltTy} (m : Memref sig .tc .vmem s e) (r : Rect s) {hl : m.view.LoadsAt r.toLoadRect} (X : s.Idx → Elt F e)
    {α : Type} {k : (r.shape.Idx → Elt F e) → Prog (TpuEff nD τ sig (Elt F) Λ .tc) α} {Q : α → sProp 𝕄G} :
    (owns (d : Thread nD τ) m fullShare X : sProp 𝕄G)
      ⊢ iprop((owns (d : Thread nD τ) m fullShare X -∗ WP defs 𝒱 d (k fun j => X (r.emb j)) Q) -∗ WP defs 𝒱 d (.op (.load m r.toLoadRect hl) k) Q) := by
  iintro H HK
  unfold owns
  icases H with ⟨%f, %hf, H⟩
  iapply (wp_load_rect (defs := defs) 𝒱 (d : Thread nD τ) none Set.univ (m := m) (r := r) (S := m.view.set) (View.set_slice_subset m.view r)) $$ H
  iintro H
  have hv : (m.access r).read (Elt F) f = fun j => X (r.emb j) := by subst hf; rfl
  rw [hv]
  iapply HK
  iexists f
  isplitr
  · ipureintro; exact hf
  · iexact H

theorem owns_store {s : Shape} {e : EltTy} (m : Memref sig .tc .vmem s e) (r : Rect s) (X X' : s.Idx → Elt F e) (w : r.shape.Idx → Elt F e)
    {hx : (m.access r).Stores Finset.univ} {hm : Finset.univ = Finset.univ ∨ ∀ a, r.stride a = 1}
    (hin : ∀ j, X' (r.emb j) = w j) (hout : ∀ i, (∀ j, r.emb j ≠ i) → X' i = X i)
    {α : Type} {k : PUnit → Prog (TpuEff nD τ sig (Elt F) Λ .tc) α} {Q : α → sProp 𝕄G} :
    (owns (d : Thread nD τ) m fullShare X : sProp 𝕄G)
      ⊢ iprop((owns (d : Thread nD τ) m fullShare X' -∗ WP defs 𝒱 d (k ⟨⟩) Q) -∗ WP defs 𝒱 d (.op (.store m r w Finset.univ hx hm) k) Q) := by
  iintro H HK
  unfold owns
  icases H with ⟨%f, %hf, H⟩
  iapply (wp_store (defs := defs) 𝒱 (d : Thread nD τ) none Set.univ (m := m) (r := r) (w := w) (Mk := Finset.univ) (hx := hx) (hm := hm) (S := m.view.set)
    (View.set_slice_subset m.view r)) $$ H
  iintro H
  iapply HK
  iexists _
  isplitr
  · ipureintro
    show m.view.read (Elt F) ((m.view.slice r).write (Elt F) f w Finset.univ) = X'
    funext i
    by_cases hi : ∃ j, r.emb j = i
    · obtain ⟨j, rfl⟩ := hi
      rw [View.read_slice_write_emb r f w (Finset.mem_univ j), hin]
    · rw [View.read_slice_write_of_not_mem r f w Finset.univ (by simpa using hi), hf, hout i (by simpa using hi)]
  · iexact H

/-! ## The state of the scratch buffers -/

/-- What one group of columns has in each scratch buffer. -/
structure Grp (F : FTy → Type) where
  q2 : Vec F (SS 128 256) .bf16
  m : Vec F (SS 1 256) .f32
  r : Vec F (SS 1 256) .f32
  acc : Vec F (SS 144 256) .f32
  pa : Vec F (SS 1024 256) .bf16
  sa : Vec F (SS 1024 256) .f32
  sb : Vec F (SS 1024 256) .f32
  ra : Vec F (SS 1 256) .f32
  rb : Vec F (SS 1 256) .f32
  pb : Vec F (SS 1024 256) .bf16
  lag : Vec F (SS 1 256) .f32
  mu : Vec F (SS 1 256) .f32

variable (τ) in
/-- A buffer of eight slabs, owned at given slabs. -/
abbrev Slabs {R C : Nat} {e : EltTy} (b : GBuf sig R C e) (A : Fin 8 → (SS R C).Idx → Elt F e) : sProp 𝕄G :=
  owns (d : Thread nD τ) b.m fullShare (glue A)

/-- The inputs' blocks. -/
structure Ins (F : FTy → Type) where
  q : Vec F (SS 512 256) .bf16
  k : Vec F (SS 8192 128) .bf16
  v : Vec F (SS 144 8192) .bf16

variable (c : Ctx sig) (I : Ins F)

variable (τ) in
/-- Everything the body touches: the inputs at `I`, the scratch at `S`, the result at `O`. -/
def Own (S : Fin 8 → Grp F) (O : Fin 4 → Vec F (SS 256 128) .bf16) : sProp 𝕄G :=
  iprop(owns (d : Thread nD τ) c.qt fullShare I.q ∗ owns (d : Thread nD τ) c.k fullShare I.k ∗ owns (d : Thread nD τ) c.vt fullShare I.v
    ∗ owns (d : Thread nD τ) c.o fullShare (glueO O)
    ∗ Slabs τ d c.q2 (fun g => (S g).q2) ∗ Slabs τ d c.m (fun g => (S g).m) ∗ Slabs τ d c.r (fun g => (S g).r) ∗ Slabs τ d c.acc (fun g => (S g).acc)
    ∗ Slabs τ d c.pa (fun g => (S g).pa) ∗ Slabs τ d c.sa (fun g => (S g).sa) ∗ Slabs τ d c.sb (fun g => (S g).sb) ∗ Slabs τ d c.ra (fun g => (S g).ra)
    ∗ Slabs τ d c.rb (fun g => (S g).rb) ∗ Slabs τ d c.pb (fun g => (S g).pb) ∗ Slabs τ d c.lag (fun g => (S g).lag) ∗ Slabs τ d c.mu (fun g => (S g).mu))

variable (τ) in
/-- A scratch buffer as a field of the state. -/
structure Lens {R C : Nat} {e : EltTy} (b : GBuf sig R C e) where
  get : Grp F → (SS R C).Idx → Elt F e
  set : ((SS R C).Idx → Elt F e) → Grp F → Grp F
  set_get : ∀ s, set (get s) s = s
  get_set : ∀ w s, get (set w s) = w
  set_set : ∀ w w' s, set w (set w' s) = set w s
  split : ∀ S O, Own τ d c I S O ⊢ iprop(Slabs τ d b (fun g => get (S g)) ∗ (∀ A, Slabs τ d b A -∗ Own τ d c I (fun g => set (A g) (S g)) O))

variable {d c I}

theorem glue_update_in {R C : Nat} {e : EltTy} (A : Fin 8 → (SS R C).Idx → Elt F e) (g : Fin 8) (w : (SS R C).Idx → Elt F e) (j : (SS R C).Idx) :
    glue (Function.update A g w) ((rg (R := R) (C := C) g).emb j) = w j := by
  have := congrFun (glue_emb (Function.update A g w) g) j
  simpa using this

theorem glue_update_out {R C : Nat} {e : EltTy} (A : Fin 8 → (SS R C).Idx → Elt F e) (g : Fin 8) (w : (SS R C).Idx → Elt F e) (i : (SG R C).Idx)
    (hi : ∀ j, (rg (R := R) (C := C) g).emb j ≠ i) : glue (Function.update A g w) i = glue A i := by
  have h : i 0 ≠ g := by
    intro h
    refine hi (ix3 0 (i 1) (i 2)) ?_
    rw [rg_emb, ← h]
    exact ix3_eta i
  exact congrFun (Function.update_of_ne (f := A) (v := w) h) _

variable {𝒱}

theorem Lens.ld {R C : Nat} {e : EltTy} {b : GBuf sig R C e} (L : Lens (F := F) τ d c I b) {S : Fin 8 → Grp F} {O} {g : Fin 8} {s : Grp F}
    {α : Type} {k : ((SS R C).Idx → Elt F e) → PP nD τ sig Λ F α} {Q : α → sProp 𝕄G}
    (h : Own τ d c I (Function.update S g s) O ⊢ WP defs 𝒱 d (k (L.get s)) Q) :
    Own τ d c I (Function.update S g s) O ⊢ WP defs 𝒱 d ((b.ld g : PP nD τ sig Λ F _) >>= k) Q := by
  refine BIBase.Entails.trans ?_ (show WP defs 𝒱 d (.op (.load b.m (rg g).toLoadRect (View.loadsAt_vmem b.pos)) k) Q ⊢ _ from .rfl)
  refine (L.split _ _).trans ?_
  iintro ⟨H, HK⟩
  iapply (owns_load (defs := defs) 𝒱 d b.m (rg g)) $$ H
  iintro H
  rw [glue_emb]
  simp only [Function.update_self]
  iapply h
  have e1 : (fun g' => L.set (L.get (Function.update S g s g')) (Function.update S g s g')) = Function.update S g s := by
    funext g'; exact L.set_get _
  ispecialize HK $$ H
  rw [e1]
  iexact HK

theorem Lens.st {R C : Nat} {e : EltTy} {b : GBuf sig R C e} (L : Lens (F := F) τ d c I b) {S : Fin 8 → Grp F} {O} {g : Fin 8} {s : Grp F}
    {w : (SS R C).Idx → Elt F e} {α : Type} {k : PUnit → PP nD τ sig Λ F α} {Q : α → sProp 𝕄G}
    (h : Own τ d c I (Function.update S g (L.set w s)) O ⊢ WP defs 𝒱 d (k ⟨⟩) Q) :
    Own τ d c I (Function.update S g s) O ⊢ WP defs 𝒱 d ((b.st g w : PP nD τ sig Λ F _) >>= k) Q := by
  show _ ⊢ WP defs 𝒱 d (.op (.store b.m (rg g) w Finset.univ (b.sts g) (.inl rfl)) k) Q
  refine (L.split _ _).trans ?_
  iintro ⟨H, HK⟩
  iapply (owns_store (defs := defs) 𝒱 d b.m (rg g) _ (glue (Function.update (fun g' => L.get (Function.update S g s g')) g w)) w
    (glue_update_in _ _ _) (glue_update_out _ _ _)) $$ H
  iintro H
  iapply h
  have e1 : (fun g' => L.set (Function.update (fun g' => L.get (Function.update S g s g')) g w g') (Function.update S g s g'))
      = Function.update S g (L.set w s) := by
    funext g'
    by_cases hg : g' = g
    · subst hg; simp
    · simp only [Function.update_of_ne hg]; exact L.set_get _
  ispecialize HK $$ H
  rw [e1]
  iexact HK

/-- The same at the end of a piece. -/
theorem Lens.st_last {R C : Nat} {e : EltTy} {b : GBuf sig R C e} (L : Lens (F := F) τ d c I b) {S : Fin 8 → Grp F} {O} {g : Fin 8} {s : Grp F}
    {w : (SS R C).Idx → Elt F e} :
    Own τ d c I (Function.update S g s) O ⊢ WP defs 𝒱 d (b.st g w : PP nD τ sig Λ F _) fun _ => Own τ d c I (Function.update S g (L.set w s)) O := by
  have := L.st (defs := defs) (𝒱 := 𝒱) (S := S) (O := O) (g := g) (s := s) (w := w) (k := fun x => .ret x)
    (Q := fun _ => Own τ d c I (Function.update S g (L.set w s)) O) fupd_intro
  exact this

end

end FlashD

end
-- ==== Proof.Pieces.lean ====
/-
  One statement per piece of the body: the state of one group after it as a function of the state before.
-/
module

public import proofs.«01_k».proof.Proof.Triples

@[expose] public section

set_option maxRecDepth 16384

noncomputable section

namespace FlashD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Λ : Labels} {F : FTy → Type} [FloatOps F]

local notation "𝕄G" => MT nD τ sig Unit (Elt F) ℕ (UR sig nD τ) ℕ

variable {defs : Defs nD τ sig (Elt F) Λ} {𝒱 : Variants} {d : Dev nD} {c : Ctx sig} {I : Ins F}

/-! ## The buffers as fields -/

theorem split_q2 (S : Fin 8 → Grp F) (O : Fin 4 → Vec F (SS 256 128) .bf16) : (Own τ d c I S O : sProp 𝕄G)
    ⊢ iprop(Slabs τ d c.q2 (fun g => (S g).q2) ∗ (∀ A, Slabs τ d c.q2 A -∗ Own τ d c I (fun g => { S g with q2 := A g }) O)) := by
  unfold Own
  iintro ⟨Hq, Hk, Hv, Ho, Hq2, Hm, Hr, Hacc, Hpa, Hsa, Hsb, Hra, Hrb, Hpb, Hlag, Hmu⟩
  isplitl [Hq2]
  · iexact Hq2
  · iintro %A Hq2
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_q2 : Lens (F := F) τ d c I c.q2 where
  get s := s.q2
  set w s := { s with q2 := w }
  set_get _ := rfl
  get_set _ _ := rfl
  set_set _ _ _ := rfl
  split := split_q2

theorem split_m (S : Fin 8 → Grp F) (O : Fin 4 → Vec F (SS 256 128) .bf16) : (Own τ d c I S O : sProp 𝕄G)
    ⊢ iprop(Slabs τ d c.m (fun g => (S g).m) ∗ (∀ A, Slabs τ d c.m A -∗ Own τ d c I (fun g => { S g with m := A g }) O)) := by
  unfold Own
  iintro ⟨Hq, Hk, Hv, Ho, Hq2, Hm, Hr, Hacc, Hpa, Hsa, Hsb, Hra, Hrb, Hpb, Hlag, Hmu⟩
  isplitl [Hm]
  · iexact Hm
  · iintro %A Hm
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_m : Lens (F := F) τ d c I c.m where
  get s := s.m
  set w s := { s with m := w }
  set_get _ := rfl
  get_set _ _ := rfl
  set_set _ _ _ := rfl
  split := split_m

theorem split_r (S : Fin 8 → Grp F) (O : Fin 4 → Vec F (SS 256 128) .bf16) : (Own τ d c I S O : sProp 𝕄G)
    ⊢ iprop(Slabs τ d c.r (fun g => (S g).r) ∗ (∀ A, Slabs τ d c.r A -∗ Own τ d c I (fun g => { S g with r := A g }) O)) := by
  unfold Own
  iintro ⟨Hq, Hk, Hv, Ho, Hq2, Hm, Hr, Hacc, Hpa, Hsa, Hsb, Hra, Hrb, Hpb, Hlag, Hmu⟩
  isplitl [Hr]
  · iexact Hr
  · iintro %A Hr
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_r : Lens (F := F) τ d c I c.r where
  get s := s.r
  set w s := { s with r := w }
  set_get _ := rfl
  get_set _ _ := rfl
  set_set _ _ _ := rfl
  split := split_r

theorem split_acc (S : Fin 8 → Grp F) (O : Fin 4 → Vec F (SS 256 128) .bf16) : (Own τ d c I S O : sProp 𝕄G)
    ⊢ iprop(Slabs τ d c.acc (fun g => (S g).acc) ∗ (∀ A, Slabs τ d c.acc A -∗ Own τ d c I (fun g => { S g with acc := A g }) O)) := by
  unfold Own
  iintro ⟨Hq, Hk, Hv, Ho, Hq2, Hm, Hr, Hacc, Hpa, Hsa, Hsb, Hra, Hrb, Hpb, Hlag, Hmu⟩
  isplitl [Hacc]
  · iexact Hacc
  · iintro %A Hacc
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_acc : Lens (F := F) τ d c I c.acc where
  get s := s.acc
  set w s := { s with acc := w }
  set_get _ := rfl
  get_set _ _ := rfl
  set_set _ _ _ := rfl
  split := split_acc

theorem split_pa (S : Fin 8 → Grp F) (O : Fin 4 → Vec F (SS 256 128) .bf16) : (Own τ d c I S O : sProp 𝕄G)
    ⊢ iprop(Slabs τ d c.pa (fun g => (S g).pa) ∗ (∀ A, Slabs τ d c.pa A -∗ Own τ d c I (fun g => { S g with pa := A g }) O)) := by
  unfold Own
  iintro ⟨Hq, Hk, Hv, Ho, Hq2, Hm, Hr, Hacc, Hpa, Hsa, Hsb, Hra, Hrb, Hpb, Hlag, Hmu⟩
  isplitl [Hpa]
  · iexact Hpa
  · iintro %A Hpa
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_pa : Lens (F := F) τ d c I c.pa where
  get s := s.pa
  set w s := { s with pa := w }
  set_get _ := rfl
  get_set _ _ := rfl
  set_set _ _ _ := rfl
  split := split_pa

theorem split_sa (S : Fin 8 → Grp F) (O : Fin 4 → Vec F (SS 256 128) .bf16) : (Own τ d c I S O : sProp 𝕄G)
    ⊢ iprop(Slabs τ d c.sa (fun g => (S g).sa) ∗ (∀ A, Slabs τ d c.sa A -∗ Own τ d c I (fun g => { S g with sa := A g }) O)) := by
  unfold Own
  iintro ⟨Hq, Hk, Hv, Ho, Hq2, Hm, Hr, Hacc, Hpa, Hsa, Hsb, Hra, Hrb, Hpb, Hlag, Hmu⟩
  isplitl [Hsa]
  · iexact Hsa
  · iintro %A Hsa
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_sa : Lens (F := F) τ d c I c.sa where
  get s := s.sa
  set w s := { s with sa := w }
  set_get _ := rfl
  get_set _ _ := rfl
  set_set _ _ _ := rfl
  split := split_sa

theorem split_sb (S : Fin 8 → Grp F) (O : Fin 4 → Vec F (SS 256 128) .bf16) : (Own τ d c I S O : sProp 𝕄G)
    ⊢ iprop(Slabs τ d c.sb (fun g => (S g).sb) ∗ (∀ A, Slabs τ d c.sb A -∗ Own τ d c I (fun g => { S g with sb := A g }) O)) := by
  unfold Own
  iintro ⟨Hq, Hk, Hv, Ho, Hq2, Hm, Hr, Hacc, Hpa, Hsa, Hsb, Hra, Hrb, Hpb, Hlag, Hmu⟩
  isplitl [Hsb]
  · iexact Hsb
  · iintro %A Hsb
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_sb : Lens (F := F) τ d c I c.sb where
  get s := s.sb
  set w s := { s with sb := w }
  set_get _ := rfl
  get_set _ _ := rfl
  set_set _ _ _ := rfl
  split := split_sb

theorem split_ra (S : Fin 8 → Grp F) (O : Fin 4 → Vec F (SS 256 128) .bf16) : (Own τ d c I S O : sProp 𝕄G)
    ⊢ iprop(Slabs τ d c.ra (fun g => (S g).ra) ∗ (∀ A, Slabs τ d c.ra A -∗ Own τ d c I (fun g => { S g with ra := A g }) O)) := by
  unfold Own
  iintro ⟨Hq, Hk, Hv, Ho, Hq2, Hm, Hr, Hacc, Hpa, Hsa, Hsb, Hra, Hrb, Hpb, Hlag, Hmu⟩
  isplitl [Hra]
  · iexact Hra
  · iintro %A Hra
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_ra : Lens (F := F) τ d c I c.ra where
  get s := s.ra
  set w s := { s with ra := w }
  set_get _ := rfl
  get_set _ _ := rfl
  set_set _ _ _ := rfl
  split := split_ra

theorem split_rb (S : Fin 8 → Grp F) (O : Fin 4 → Vec F (SS 256 128) .bf16) : (Own τ d c I S O : sProp 𝕄G)
    ⊢ iprop(Slabs τ d c.rb (fun g => (S g).rb) ∗ (∀ A, Slabs τ d c.rb A -∗ Own τ d c I (fun g => { S g with rb := A g }) O)) := by
  unfold Own
  iintro ⟨Hq, Hk, Hv, Ho, Hq2, Hm, Hr, Hacc, Hpa, Hsa, Hsb, Hra, Hrb, Hpb, Hlag, Hmu⟩
  isplitl [Hrb]
  · iexact Hrb
  · iintro %A Hrb
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_rb : Lens (F := F) τ d c I c.rb where
  get s := s.rb
  set w s := { s with rb := w }
  set_get _ := rfl
  get_set _ _ := rfl
  set_set _ _ _ := rfl
  split := split_rb

theorem split_pb (S : Fin 8 → Grp F) (O : Fin 4 → Vec F (SS 256 128) .bf16) : (Own τ d c I S O : sProp 𝕄G)
    ⊢ iprop(Slabs τ d c.pb (fun g => (S g).pb) ∗ (∀ A, Slabs τ d c.pb A -∗ Own τ d c I (fun g => { S g with pb := A g }) O)) := by
  unfold Own
  iintro ⟨Hq, Hk, Hv, Ho, Hq2, Hm, Hr, Hacc, Hpa, Hsa, Hsb, Hra, Hrb, Hpb, Hlag, Hmu⟩
  isplitl [Hpb]
  · iexact Hpb
  · iintro %A Hpb
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_pb : Lens (F := F) τ d c I c.pb where
  get s := s.pb
  set w s := { s with pb := w }
  set_get _ := rfl
  get_set _ _ := rfl
  set_set _ _ _ := rfl
  split := split_pb

theorem split_lag (S : Fin 8 → Grp F) (O : Fin 4 → Vec F (SS 256 128) .bf16) : (Own τ d c I S O : sProp 𝕄G)
    ⊢ iprop(Slabs τ d c.lag (fun g => (S g).lag) ∗ (∀ A, Slabs τ d c.lag A -∗ Own τ d c I (fun g => { S g with lag := A g }) O)) := by
  unfold Own
  iintro ⟨Hq, Hk, Hv, Ho, Hq2, Hm, Hr, Hacc, Hpa, Hsa, Hsb, Hra, Hrb, Hpb, Hlag, Hmu⟩
  isplitl [Hlag]
  · iexact Hlag
  · iintro %A Hlag
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_lag : Lens (F := F) τ d c I c.lag where
  get s := s.lag
  set w s := { s with lag := w }
  set_get _ := rfl
  get_set _ _ := rfl
  set_set _ _ _ := rfl
  split := split_lag

theorem split_mu (S : Fin 8 → Grp F) (O : Fin 4 → Vec F (SS 256 128) .bf16) : (Own τ d c I S O : sProp 𝕄G)
    ⊢ iprop(Slabs τ d c.mu (fun g => (S g).mu) ∗ (∀ A, Slabs τ d c.mu A -∗ Own τ d c I (fun g => { S g with mu := A g }) O)) := by
  unfold Own
  iintro ⟨Hq, Hk, Hv, Ho, Hq2, Hm, Hr, Hacc, Hpa, Hsa, Hsb, Hra, Hrb, Hpb, Hlag, Hmu⟩
  isplitl [Hmu]
  · iexact Hmu
  · iintro %A Hmu
    isplitl [Hq]
    · iexact Hq
    isplitl [Hk]
    · iexact Hk
    isplitl [Hv]
    · iexact Hv
    isplitl [Ho]
    · iexact Ho
    isplitl [Hq2]
    · iexact Hq2
    isplitl [Hm]
    · iexact Hm
    isplitl [Hr]
    · iexact Hr
    isplitl [Hacc]
    · iexact Hacc
    isplitl [Hpa]
    · iexact Hpa
    isplitl [Hsa]
    · iexact Hsa
    isplitl [Hsb]
    · iexact Hsb
    isplitl [Hra]
    · iexact Hra
    isplitl [Hrb]
    · iexact Hrb
    isplitl [Hpb]
    · iexact Hpb
    isplitl [Hlag]
    · iexact Hlag
    iexact Hmu

def lens_mu : Lens (F := F) τ d c I c.mu where
  get s := s.mu
  set w s := { s with mu := w }
  set_get _ := rfl
  get_set _ _ := rfl
  set_set _ _ _ := rfl
  split := split_mu

/-! ## Programs one after another -/

theorem seqw {A B : sProp 𝕄G} {α : Type} {p : PP nD τ sig Λ F PUnit} {q : PP nD τ sig Λ F α} {C : α → sProp 𝕄G}
    (h : A ⊢ WP defs 𝒱 d p fun _ => B) (h' : B ⊢ WP defs 𝒱 d q C) : A ⊢ WP defs 𝒱 d (p >>= fun _ => q) C := by
  unfold WP
  rw [wp_bind]
  exact h.trans (wp_mono _ _ _ fun _ => h')

variable (defs 𝒱 d c I) in
/-- The program takes the state of the scratch and the result to another. -/
abbrev Takes (p : PP nD τ sig Λ F PUnit) (S : Fin 8 → Grp F) (O : Fin 4 → Vec F (SS 256 128) .bf16) (S' : Fin 8 → Grp F)
    (O' : Fin 4 → Vec F (SS 256 128) .bf16) : Prop := Own τ d c I S O ⊢ WP defs 𝒱 d p fun _ => Own τ d c I S' O'

variable (defs 𝒱 d c I) in
/-- A piece changes its own group's state alone, by `t`. -/
abbrev Piece (P : Fin 8 → PP nD τ sig Λ F PUnit) (t : Grp F → Grp F) : Prop :=
  ∀ S O g, Takes defs 𝒱 d c I (P g) S O (Function.update S g (t (S g))) O

theorem own_self (S : Fin 8 → Grp F) (O : Fin 4 → Vec F (SS 256 128) .bf16) (g : Fin 8) :
    (Own τ d c I S O : sProp 𝕄G) ⊢ Own τ d c I (Function.update S g (S g)) O := by
  rw [Function.update_eq_self]

theorem seq8_takes {P : Fin 8 → PP nD τ sig Λ F PUnit} {t : Grp F → Grp F} (h : Piece defs 𝒱 d c I P t) (S : Fin 8 → Grp F)
    (O : Fin 4 → Vec F (SS 256 128) .bf16) : Takes defs 𝒱 d c I (seq8 P) S O (fun g => t (S g)) O := by
  unfold seq8
  refine seqw (h _ _ 0) (seqw (h _ _ 1) (seqw (h _ _ 2) (seqw (h _ _ 3) (seqw (h _ _ 4) (seqw (h _ _ 5) (seqw (h _ _ 6) ((h _ _ 7).trans (wp_mono _ _ _ fun _ => ?_))))))))
  refine BIBase.Entails.of_eq (congrArg (Own τ d c I · O) ?_)
  funext g
  fin_cases g <;> rfl

/-! ## Loads of the inputs -/

/-- A block of keys. -/
def kblk (I : Ins F) (off : Fin 3 → Nat) (h : KOff off) : Vec F (SS 1024 128) .bf16 := fun j => I.k ((Rect.unit (s := SS 8192 128) off (SS 1024 128).size h).emb j)
/-- A block of values. -/
def vblk (I : Ins F) (off : Fin 3 → Nat) (h : VOff off) : Vec F (SS 144 1024) .bf16 := fun j => I.v ((Rect.unit (s := SS 144 8192) off (SS 144 1024).size h).emb j)
/-- A chunk of queries. -/
def qchk (I : Ins F) (w : Fin 4) : Vec F (SS 128 256) .bf16 := fun j => I.q ((rq w).emb j)
theorem probe_inb : ∀ a, (![0, 0, 0] : Fin 3 → Nat) a + (SS 128 128).size a ≤ (SS 8192 128).size a := by decide
/-- The keys of the probe. -/
def kprb (I : Ins F) : Vec F (SS 128 128) .bf16 := fun j => I.k ((Rect.unit (s := SS 8192 128) ![0, 0, 0] (SS 128 128).size probe_inb).emb j)

variable {S : Fin 8 → Grp F} {O : Fin 4 → Vec F (SS 256 128) .bf16}

theorem ld_k {α : Type} (r : Rect (SS 8192 128)) {hl : c.k.view.LoadsAt r.toLoadRect} {k : (r.shape.Idx → Elt F .bf16) → PP nD τ sig Λ F α} {Q : α → sProp 𝕄G}
    (h : Own τ d c I S O ⊢ WP defs 𝒱 d (k fun j => I.k (r.emb j)) Q) : Own τ d c I S O ⊢ WP defs 𝒱 d (Prog.lift (.load c.k r.toLoadRect hl) >>= k) Q := by
  refine BIBase.Entails.trans ?_ (show WP defs 𝒱 d (.op (.load c.k r.toLoadRect hl) k) Q ⊢ _ from .rfl)
  have hs : (Own τ d c I S O : sProp 𝕄G) ⊢ iprop(owns (d : Thread nD τ) c.k fullShare I.k ∗ (owns (d : Thread nD τ) c.k fullShare I.k -∗ Own τ d c I S O)) := by
    unfold Own
    iintro ⟨Hq, Hk, H⟩
    isplitl [Hk]
    · iexact Hk
    · iintro Hk
      isplitl [Hq]
      · iexact Hq
      isplitl [Hk]
      · iexact Hk
      iexact H
  refine hs.trans ?_
  iintro ⟨H, HK⟩
  iapply (owns_load (defs := defs) 𝒱 d c.k r) $$ H
  iintro H
  iapply h
  iapply HK
  iexact H

theorem ld_v {α : Type} (r : Rect (SS 144 8192)) {hl : c.vt.view.LoadsAt r.toLoadRect} {k : (r.shape.Idx → Elt F .bf16) → PP nD τ sig Λ F α} {Q : α → sProp 𝕄G}
    (h : Own τ d c I S O ⊢ WP defs 𝒱 d (k fun j => I.v (r.emb j)) Q) : Own τ d c I S O ⊢ WP defs 𝒱 d (Prog.lift (.load c.vt r.toLoadRect hl) >>= k) Q := by
  refine BIBase.Entails.trans ?_ (show WP defs 𝒱 d (.op (.load c.vt r.toLoadRect hl) k) Q ⊢ _ from .rfl)
  have hs : (Own τ d c I S O : sProp 𝕄G) ⊢ iprop(owns (d : Thread nD τ) c.vt fullShare I.v ∗ (owns (d : Thread nD τ) c.vt fullShare I.v -∗ Own τ d c I S O)) := by
    unfold Own
    iintro ⟨Hq, Hk, Hv, H⟩
    isplitl [Hv]
    · iexact Hv
    · iintro Hv
      isplitl [Hq]
      · iexact Hq
      isplitl [Hk]
      · iexact Hk
      isplitl [Hv]
      · iexact Hv
      iexact H
  refine hs.trans ?_
  iintro ⟨H, HK⟩
  iapply (owns_load (defs := defs) 𝒱 d c.vt r) $$ H
  iintro H
  iapply h
  iapply HK
  iexact H

theorem ld_q {α : Type} (r : Rect (SS 512 256)) {hl : c.qt.view.LoadsAt r.toLoadRect} {k : (r.shape.Idx → Elt F .bf16) → PP nD τ sig Λ F α} {Q : α → sProp 𝕄G}
    (h : Own τ d c I S O ⊢ WP defs 𝒱 d (k fun j => I.q (r.emb j)) Q) : Own τ d c I S O ⊢ WP defs 𝒱 d (Prog.lift (.load c.qt r.toLoadRect hl) >>= k) Q := by
  refine BIBase.Entails.trans ?_ (show WP defs 𝒱 d (.op (.load c.qt r.toLoadRect hl) k) Q ⊢ _ from .rfl)
  have hs : (Own τ d c I S O : sProp 𝕄G) ⊢ iprop(owns (d : Thread nD τ) c.qt fullShare I.q ∗ (owns (d : Thread nD τ) c.qt fullShare I.q -∗ Own τ d c I S O)) := by
    unfold Own
    iintro ⟨Hq, H⟩
    isplitl [Hq]
    · iexact Hq
    · iintro Hq
      isplitl [Hq]
      · iexact Hq
      iexact H
  refine hs.trans ?_
  iintro ⟨H, HK⟩
  iapply (owns_load (defs := defs) 𝒱 d c.qt r) $$ H
  iintro H
  iapply h
  iapply HK
  iexact H

/-! ## The result's buffer -/

theorem split_o (S : Fin 8 → Grp F) (O : Fin 4 → Vec F (SS 256 128) .bf16) : (Own τ d c I S O : sProp 𝕄G)
    ⊢ iprop(owns (d : Thread nD τ) c.o fullShare (glueO O) ∗ (∀ O', owns (d : Thread nD τ) c.o fullShare (glueO O') -∗ Own τ d c I S O')) := by
  unfold Own
  iintro ⟨Hq, Hk, Hv, Ho, H⟩
  isplitl [Ho]
  · iexact Ho
  · iintro %A Ho
    isplitl [Hq]
    · iexact Hq
    isplitl [Hk]
    · iexact Hk
    isplitl [Hv]
    · iexact Hv
    isplitl [Ho]
    · iexact Ho
    iexact H

theorem ld_o {α : Type} (r : Rect (SS 256 512)) {hl : c.o.view.LoadsAt r.toLoadRect} {k : (r.shape.Idx → Elt F .bf16) → PP nD τ sig Λ F α} {Q : α → sProp 𝕄G}
    (h : ∀ v, Own τ d c I S O ⊢ WP defs 𝒱 d (k v) Q) : Own τ d c I S O ⊢ WP defs 𝒱 d (Prog.lift (.load c.o r.toLoadRect hl) >>= k) Q := by
  refine BIBase.Entails.trans ?_ (show WP defs 𝒱 d (.op (.load c.o r.toLoadRect hl) k) Q ⊢ _ from .rfl)
  refine (split_o _ _).trans ?_
  iintro ⟨H, HK⟩
  iapply (owns_load (defs := defs) 𝒱 d c.o r) $$ H
  iintro H
  iapply h
  iapply HK
  iexact H

theorem glueO_update_in (A : Fin 4 → Vec F (SS 256 128) .bf16) (w : Fin 4) (x : Vec F (SS 256 128) .bf16) (j : (SS 256 128).Idx) :
    glueO (Function.update A w x) ((ro w).emb j) = x j := by
  rw [ro_emb]
  have hj : (j 2).val < 128 := (j 2).isLt
  have hw : (⟨(128 * w.val + (j 2).val) / 128, by have := w.isLt; omega⟩ : Fin 4) = w := Fin.ext (by show _ / 128 = _; omega)
  have hl : (⟨(128 * w.val + (j 2).val) % 128, Nat.mod_lt _ (by decide)⟩ : Fin 128) = j 2 := Fin.ext (by show _ % 128 = _; omega)
  show Function.update A w x ⟨(128 * w.val + (j 2).val) / 128, _⟩ (ix3 0 (j 1) ⟨(128 * w.val + (j 2).val) % 128, _⟩) = x j
  rw [hw, hl, Function.update_self]
  exact congrArg x (slab_eta j)

theorem glueO_update_out (A : Fin 4 → Vec F (SS 256 128) .bf16) (w : Fin 4) (x : Vec F (SS 256 128) .bf16) (i : (SS 256 512).Idx)
    (hi : ∀ j, (ro w).emb j ≠ i) : glueO (Function.update A w x) i = glueO A i := by
  have hi2 : (i 2).val < 512 := (i 2).isLt
  have h : (⟨(i 2).val / 128, by omega⟩ : Fin 4) ≠ w := by
    intro h
    refine hi (ix3 0 (i 1) ⟨(i 2).val % 128, Nat.mod_lt _ (by decide)⟩) ?_
    rw [ro_emb, ← h]
    funext a
    fin_cases a
    · exact Subsingleton.elim (α := Fin 1) _ _
    · rfl
    · apply Fin.ext
      show 128 * ((i 2).val / 128) + (i 2).val % 128 = (i 2).val
      omega
  exact congrFun (Function.update_of_ne (f := A) (v := x) h) _

theorem st_o (w : Fin 4) (x : Vec F (SS 256 128) .bf16) :
    Takes defs 𝒱 d c I (Prog.lift (.store c.o (ro w) x Finset.univ (c.sto w) (.inl rfl))) S O S (Function.update O w x) := by
  show _ ⊢ WP defs 𝒱 d (.op (.store c.o (ro w) x Finset.univ (c.sto w) (.inl rfl)) fun y => .ret y) _
  refine (split_o _ _).trans ?_
  iintro ⟨H, HK⟩
  iapply (owns_store (defs := defs) 𝒱 d c.o (ro w) _ (glueO (Function.update O w x)) x (glueO_update_in _ _ _) (glueO_update_out _ _ _)) $$ H
  iintro H
  iapply (show Own τ d c I S (Function.update O w x) ⊢ WP defs 𝒱 d (.ret ⟨⟩) fun _ => Own τ d c I S (Function.update O w x) from fupd_intro)
  iapply HK
  iexact H

/-! ## Loads and stores of a scratch buffer, by whole or in part -/

theorem Lens.ld_rect {α : Type} {R C : Nat} {e : EltTy} {b : GBuf sig R C e} (L : Lens (F := F) τ d c I b) (r : Rect (SG R C)) {hl : b.m.view.LoadsAt r.toLoadRect}
    {k : (r.shape.Idx → Elt F e) → PP nD τ sig Λ F α} {Q : α → sProp 𝕄G}
    (h : Own τ d c I S O ⊢ WP defs 𝒱 d (k fun j => glue (fun g => L.get (S g)) (r.emb j)) Q) :
    Own τ d c I S O ⊢ WP defs 𝒱 d (Prog.lift (.load b.m r.toLoadRect hl) >>= k) Q := by
  refine BIBase.Entails.trans ?_ (show WP defs 𝒱 d (.op (.load b.m r.toLoadRect hl) k) Q ⊢ _ from .rfl)
  refine (L.split _ _).trans ?_
  iintro ⟨H, HK⟩
  iapply (owns_load (defs := defs) 𝒱 d b.m r) $$ H
  iintro H
  iapply h
  have e1 : (fun g' => L.set (L.get (S g')) (S g')) = S := by
    funext g'; exact L.set_get _
  ispecialize HK $$ H
  rw [e1]
  iexact HK

theorem rw_emb {R C : Nat} (j : (SG R C).Idx) : (rw' (R := R) (C := C)).emb j = j := by
  funext x
  apply Fin.ext
  rw [Rect.emb_apply]
  fin_cases x
  · show 0 + 1 * (j 0).val = (j 0).val; omega
  · show 0 + 1 * (j 1).val = (j 1).val; omega
  · show 0 + 1 * (j 2).val = (j 2).val; omega

theorem Lens.st_all {α : Type} {R C : Nat} {b : GBuf sig R C .f32} (L : Lens (F := F) τ d c I b) {w : (SG R C).Idx → Elt F .f32} {k : PUnit → PP nD τ sig Λ F α} {Q : α → sProp 𝕄G}
    (h : Own τ d c I (fun g => L.set (cutG w g) (S g)) O ⊢ WP defs 𝒱 d (k ⟨⟩) Q) : Own τ d c I S O ⊢ WP defs 𝒱 d ((b.stAll w : PP nD τ sig Λ F _) >>= k) Q := by
  show _ ⊢ WP defs 𝒱 d (.op (.store b.m rw' w Finset.univ (View.stores_vmem_bits_univ b.posG rfl) (.inl rfl)) k) Q
  refine (L.split _ _).trans ?_
  iintro ⟨H, HK⟩
  iapply (owns_store (defs := defs) 𝒱 d b.m rw' _ (glue (cutG w)) w (fun j => by rw [rw_emb, glue_cutG]) (fun i hi => absurd (rw_emb i) (hi i))) $$ H
  iintro H
  iapply h
  iapply HK
  iexact H

end

end FlashD

end
-- ==== Proof.Steps.lean ====
/-
  The body as a function: what every piece does to a group's state, the pieces put together, and that
  what is written out does not depend on what the scratch held before.
-/
module

public import proofs.«01_k».proof.Proof.Pieces

@[expose] public section

set_option maxRecDepth 16384

noncomputable section

namespace FlashD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Λ : Labels} {F : FTy → Type} [FloatOps F]

local notation "𝕄G" => MT nD τ sig Unit (Elt F) ℕ (UR sig nD τ) ℕ

variable {defs : Defs nD τ sig (Elt F) Λ} {𝒱 : Variants} {d : Dev nD} {c : Ctx sig} {I : Ins F}

/-! ## The pieces as functions of a group's state -/

def tProbe (K : Vec F (SS 128 128) .bf16) (s : Grp F) : Grp F :=
  { s with m := payFirst K s.q2, mu := payFirstMu K s.q2, r := payFirst K s.q2 }
def tScoreA (K : Vec F (SS 1024 128) .bf16) (s : Grp F) : Grp F :=
  { s with ra := payRef s.m s.mu, pa := payP K s.q2 s.m s.mu, lag := payLag K s.q2 s.m s.mu s.lag, m := payM K s.q2 s.m, mu := payMu K s.q2 s.mu }
def tScoreB (K : Vec F (SS 1024 128) .bf16) (s : Grp F) : Grp F :=
  { s with rb := payRef s.m s.mu, pb := payP K s.q2 s.m s.mu, lag := payLag K s.q2 s.m s.mu s.lag, m := payM K s.q2 s.m, mu := payMu K s.q2 s.mu }
def tValueA (V : Vec F (SS 144 1024) .bf16) (s : Grp F) : Grp F := { s with acc := payAcc V s.ra s.acc s.r s.pa, r := payR s.ra }
def tValueB (V : Vec F (SS 144 1024) .bf16) (s : Grp F) : Grp F := { s with acc := payAcc V s.rb s.acc s.r s.pb, r := payR s.rb }
def tFScoreA (K : Vec F (SS 1024 128) .bf16) (s : Grp F) : Grp F := { s with sa := paySF K s.q2, ra := payMxF K s.q2 }
def tFScoreB (K : Vec F (SS 1024 128) .bf16) (s : Grp F) : Grp F := { s with sb := paySF K s.q2, rb := payMxF K s.q2 }
def tFProbA (s : Grp F) : Grp F := { s with m := payMF s.m s.ra, r := payAF s.m s.ra, pa := payPF s.m s.ra s.sa }
def tFProbB (s : Grp F) : Grp F := { s with m := payMF s.m s.rb, r := payAF s.m s.rb, pa := payPF s.m s.rb s.sb }
def tFValue (V : Vec F (SS 144 1024) .bf16) (s : Grp F) : Grp F := { s with acc := payAccF V s.acc s.r s.pa }

/-- The zeros the accumulator starts at. -/
def acc0 (g : Fin 8) : Vec F (SS 144 256) .f32 := cutG (fill 144 256 0x00000000#32 casts_144) g
/-- The zeros the lag starts at. -/
def lag0 (g : Fin 8) : Vec F (SS 1 256) .f32 := cutG (fill 1 256 0x00000000#32 casts_1) g
/-- What the careful pass's maximum starts at. -/
def m0 (g : Fin 8) : Vec F (SS 1 256) .f32 := cutG (fill 1 256 0xF149F2CA#32 casts_1) g

theorem probe_piece : Piece defs 𝒱 d c I (probeP c) (tProbe (kprb I)) := by
  intro S O g
  refine (own_self S O g).trans ?_
  generalize S g = s
  unfold probeP
  refine ld_k _ ?_
  refine lens_q2.ld ?_
  refine lens_m.ld ?_
  refine lens_m.st ?_
  refine lens_mu.ld ?_
  refine lens_mu.st ?_
  refine lens_r.ld ?_
  exact lens_r.st_last

theorem scoreA_piece (off : Fin 3 → Nat) (h : KOff off) : Piece defs 𝒱 d c I (scoresP c off h c.pa c.ra) (tScoreA (kblk I off h)) := by
  intro S O g
  refine (own_self S O g).trans ?_
  generalize S g = s
  unfold scoresP ldK
  refine ld_k _ ?_
  refine lens_q2.ld ?_
  refine lens_m.ld ?_
  refine lens_mu.ld ?_
  refine lens_ra.ld ?_
  refine lens_ra.st ?_
  refine lens_pa.ld ?_
  refine lens_pa.st ?_
  refine lens_lag.ld ?_
  refine lens_lag.ld ?_
  refine lens_lag.st ?_
  refine lens_m.ld ?_
  refine lens_m.st ?_
  refine lens_mu.ld ?_
  refine lens_mu.ld ?_
  exact lens_mu.st_last

theorem scoreB_piece (off : Fin 3 → Nat) (h : KOff off) : Piece defs 𝒱 d c I (scoresP c off h c.pb c.rb) (tScoreB (kblk I off h)) := by
  intro S O g
  refine (own_self S O g).trans ?_
  generalize S g = s
  unfold scoresP ldK
  refine ld_k _ ?_
  refine lens_q2.ld ?_
  refine lens_m.ld ?_
  refine lens_mu.ld ?_
  refine lens_rb.ld ?_
  refine lens_rb.st ?_
  refine lens_pb.ld ?_
  refine lens_pb.st ?_
  refine lens_lag.ld ?_
  refine lens_lag.ld ?_
  refine lens_lag.st ?_
  refine lens_m.ld ?_
  refine lens_m.st ?_
  refine lens_mu.ld ?_
  refine lens_mu.ld ?_
  exact lens_mu.st_last

theorem valueA_piece (off : Fin 3 → Nat) (h : VOff off) : Piece defs 𝒱 d c I (valuesP c off h c.pa c.ra) (tValueA (vblk I off h)) := by
  intro S O g
  refine (own_self S O g).trans ?_
  generalize S g = s
  unfold valuesP ldV
  refine ld_v _ ?_
  refine lens_ra.ld ?_
  refine lens_acc.ld ?_
  refine lens_r.ld ?_
  refine lens_pa.ld ?_
  refine lens_acc.ld ?_
  refine lens_acc.st ?_
  refine lens_r.ld ?_
  exact lens_r.st_last

theorem valueB_piece (off : Fin 3 → Nat) (h : VOff off) : Piece defs 𝒱 d c I (valuesP c off h c.pb c.rb) (tValueB (vblk I off h)) := by
  intro S O g
  refine (own_self S O g).trans ?_
  generalize S g = s
  unfold valuesP ldV
  refine ld_v _ ?_
  refine lens_rb.ld ?_
  refine lens_acc.ld ?_
  refine lens_r.ld ?_
  refine lens_pb.ld ?_
  refine lens_acc.ld ?_
  refine lens_acc.st ?_
  refine lens_r.ld ?_
  exact lens_r.st_last

theorem fscoreA_piece (off : Fin 3 → Nat) (h : KOff off) : Piece defs 𝒱 d c I (fscoresP c off h c.sa c.ra) (tFScoreA (kblk I off h)) := by
  intro S O g
  refine (own_self S O g).trans ?_
  generalize S g = s
  unfold fscoresP ldK
  refine ld_k _ ?_
  refine lens_q2.ld ?_
  refine lens_sa.ld ?_
  refine lens_sa.st ?_
  refine lens_ra.ld ?_
  exact lens_ra.st_last

theorem fscoreB_piece (off : Fin 3 → Nat) (h : KOff off) : Piece defs 𝒱 d c I (fscoresP c off h c.sb c.rb) (tFScoreB (kblk I off h)) := by
  intro S O g
  refine (own_self S O g).trans ?_
  generalize S g = s
  unfold fscoresP ldK
  refine ld_k _ ?_
  refine lens_q2.ld ?_
  refine lens_sb.ld ?_
  refine lens_sb.st ?_
  refine lens_rb.ld ?_
  exact lens_rb.st_last

theorem fprobA_piece : Piece defs 𝒱 d c I (fprobsP c c.sa c.ra) tFProbA := by
  intro S O g
  refine (own_self S O g).trans ?_
  generalize S g = s
  unfold fprobsP
  refine lens_m.ld ?_
  refine lens_ra.ld ?_
  refine lens_m.ld ?_
  refine lens_m.st ?_
  refine lens_r.ld ?_
  refine lens_r.st ?_
  refine lens_sa.ld ?_
  refine lens_pa.ld ?_
  exact lens_pa.st_last

theorem fprobB_piece : Piece defs 𝒱 d c I (fprobsP c c.sb c.rb) tFProbB := by
  intro S O g
  refine (own_self S O g).trans ?_
  generalize S g = s
  unfold fprobsP
  refine lens_m.ld ?_
  refine lens_rb.ld ?_
  refine lens_m.ld ?_
  refine lens_m.st ?_
  refine lens_r.ld ?_
  refine lens_r.st ?_
  refine lens_sb.ld ?_
  refine lens_pa.ld ?_
  exact lens_pa.st_last

theorem fvalue_piece (off : Fin 3 → Nat) (h : VOff off) : Piece defs 𝒱 d c I (fvaluesP c off h) (tFValue (vblk I off h)) := by
  intro S O g
  refine (own_self S O g).trans ?_
  generalize S g = s
  unfold fvaluesP ldV
  refine ld_v _ ?_
  refine lens_acc.ld ?_
  refine lens_r.ld ?_
  refine lens_pa.ld ?_
  refine lens_acc.ld ?_
  exact lens_acc.st_last

/-- Two pieces of one group, one after the other. -/
theorem piece_seq {P P' : Fin 8 → PP nD τ sig Λ F PUnit} {t t' : Grp F → Grp F} (h : Piece defs 𝒱 d c I P t) (h' : Piece defs 𝒱 d c I P' t') :
    Piece defs 𝒱 d c I (fun g => do P g; P' g) (fun s => t' (t s)) := by
  intro S O g
  refine seqw (h S O g) ((h' _ O g).trans (wp_mono _ _ _ fun _ => BIBase.Entails.of_eq (congrArg (Own τ d c I · O) ?_)))
  rw [Function.update_self, Function.update_idem]

theorem stack_takes (w : Fin 4) (S : Fin 8 → Grp F) (O : Fin 4 → Vec F (SS 256 128) .bf16) : Takes defs 𝒱 d c I (stackP c w) S O
    (Function.update (Function.update S (gA w) { S (gA w) with q2 := payTop (qchk I w) }) (gB w)
      { (Function.update S (gA w) { S (gA w) with q2 := payTop (qchk I w) }) (gB w) with q2 := payBot (qchk I w) }) O := by
  unfold stackP
  refine ld_q _ ?_
  refine (own_self S O (gA w)).trans ?_
  refine lens_q2.ld ?_
  refine lens_q2.st ?_
  refine (own_self _ O (gB w)).trans ?_
  refine lens_q2.ld ?_
  exact lens_q2.st_last

/-- Group `g`'s masked queries. -/
def q2of (I : Ins F) : Fin 8 → Vec F (SS 128 256) .bf16
  | 0 => payTop (qchk I 0)
  | 1 => payBot (qchk I 0)
  | 2 => payTop (qchk I 1)
  | 3 => payBot (qchk I 1)
  | 4 => payTop (qchk I 2)
  | 5 => payBot (qchk I 2)
  | 6 => payTop (qchk I 3)
  | 7 => payBot (qchk I 3)

theorem stack4_takes {α : Type} {p : PP nD τ sig Λ F α} {Q : α → sProp 𝕄G} (S : Fin 8 → Grp F) (O : Fin 4 → Vec F (SS 256 128) .bf16)
    (h : Own τ d c I (fun g => { S g with q2 := q2of I g }) O ⊢ WP defs 𝒱 d p Q) :
    Own τ d c I S O ⊢ WP defs 𝒱 d (do stackP c 0; stackP c 1; stackP c 2; stackP c 3; p) Q := by
  refine seqw (stack_takes 0 _ _) (seqw (stack_takes 1 _ _) (seqw (stack_takes 2 _ _) (seqw (stack_takes 3 _ _) (BIBase.Entails.trans (BIBase.Entails.of_eq (congrArg (Own τ d c I · O) ?_)) h))))
  funext g
  fin_cases g <;> rfl

/-! ## The interleaved steps -/

theorem fstepA_takes (offK : Fin 3 → Nat) (hK : KOff offK) (offV : Fin 3 → Nat) (hV : VOff offV) (S : Fin 8 → Grp F) (O : Fin 4 → Vec F (SS 256 128) .bf16) :
    Takes defs 𝒱 d c I (fstepP c offK hK offV hV c.sa c.ra c.sb c.rb) S O
      (fun g => tFValue (vblk I offV hV) (tFProbA (tFScoreB (kblk I offK hK) (S g)))) O := by
  unfold fstepP
  refine seqw (fscoreB_piece _ _ _ _ 0) (seqw (fprobA_piece _ _ 0) ?_)
  refine seqw (fscoreB_piece _ _ _ _ 1) (seqw (fprobA_piece _ _ 1) (seqw (fvalue_piece _ _ _ _ 0) ?_))
  refine seqw (fscoreB_piece _ _ _ _ 2) (seqw (fprobA_piece _ _ 2) (seqw (fvalue_piece _ _ _ _ 1) ?_))
  refine seqw (fscoreB_piece _ _ _ _ 3) (seqw (fprobA_piece _ _ 3) (seqw (fvalue_piece _ _ _ _ 2) ?_))
  refine seqw (fscoreB_piece _ _ _ _ 4) (seqw (fprobA_piece _ _ 4) (seqw (fvalue_piece _ _ _ _ 3) ?_))
  refine seqw (fscoreB_piece _ _ _ _ 5) (seqw (fprobA_piece _ _ 5) (seqw (fvalue_piece _ _ _ _ 4) ?_))
  refine seqw (fscoreB_piece _ _ _ _ 6) (seqw (fprobA_piece _ _ 6) (seqw (fvalue_piece _ _ _ _ 5) ?_))
  refine seqw (fscoreB_piece _ _ _ _ 7) (seqw (fprobA_piece _ _ 7) (seqw (fvalue_piece _ _ _ _ 6) ?_))
  refine (fvalue_piece _ _ _ _ 7).trans (wp_mono _ _ _ fun _ => BIBase.Entails.of_eq (congrArg (Own τ d c I · O) ?_))
  funext g
  fin_cases g <;> simp [Function.update_apply]

theorem fstepB_takes (offK : Fin 3 → Nat) (hK : KOff offK) (offV : Fin 3 → Nat) (hV : VOff offV) (S : Fin 8 → Grp F) (O : Fin 4 → Vec F (SS 256 128) .bf16) :
    Takes defs 𝒱 d c I (fstepP c offK hK offV hV c.sb c.rb c.sa c.ra) S O
      (fun g => tFValue (vblk I offV hV) (tFProbB (tFScoreA (kblk I offK hK) (S g)))) O := by
  unfold fstepP
  refine seqw (fscoreA_piece _ _ _ _ 0) (seqw (fprobB_piece _ _ 0) ?_)
  refine seqw (fscoreA_piece _ _ _ _ 1) (seqw (fprobB_piece _ _ 1) (seqw (fvalue_piece _ _ _ _ 0) ?_))
  refine seqw (fscoreA_piece _ _ _ _ 2) (seqw (fprobB_piece _ _ 2) (seqw (fvalue_piece _ _ _ _ 1) ?_))
  refine seqw (fscoreA_piece _ _ _ _ 3) (seqw (fprobB_piece _ _ 3) (seqw (fvalue_piece _ _ _ _ 2) ?_))
  refine seqw (fscoreA_piece _ _ _ _ 4) (seqw (fprobB_piece _ _ 4) (seqw (fvalue_piece _ _ _ _ 3) ?_))
  refine seqw (fscoreA_piece _ _ _ _ 5) (seqw (fprobB_piece _ _ 5) (seqw (fvalue_piece _ _ _ _ 4) ?_))
  refine seqw (fscoreA_piece _ _ _ _ 6) (seqw (fprobB_piece _ _ 6) (seqw (fvalue_piece _ _ _ _ 5) ?_))
  refine seqw (fscoreA_piece _ _ _ _ 7) (seqw (fprobB_piece _ _ 7) (seqw (fvalue_piece _ _ _ _ 6) ?_))
  refine (fvalue_piece _ _ _ _ 7).trans (wp_mono _ _ _ fun _ => BIBase.Entails.of_eq (congrArg (Own τ d c I · O) ?_))
  funext g
  fin_cases g <;> simp [Function.update_apply]

theorem flast_takes (offV : Fin 3 → Nat) (hV : VOff offV) (S : Fin 8 → Grp F) (O : Fin 4 → Vec F (SS 256 128) .bf16) :
    Takes defs 𝒱 d c I (flastP c offV hV c.sb c.rb) S O (fun g => tFValue (vblk I offV hV) (tFProbB (S g))) O := by
  unfold flastP
  refine seqw (fprobB_piece _ _ 0) ?_
  refine seqw (fprobB_piece _ _ 1) (seqw (fvalue_piece _ _ _ _ 0) ?_)
  refine seqw (fprobB_piece _ _ 2) (seqw (fvalue_piece _ _ _ _ 1) ?_)
  refine seqw (fprobB_piece _ _ 3) (seqw (fvalue_piece _ _ _ _ 2) ?_)
  refine seqw (fprobB_piece _ _ 4) (seqw (fvalue_piece _ _ _ _ 3) ?_)
  refine seqw (fprobB_piece _ _ 5) (seqw (fvalue_piece _ _ _ _ 4) ?_)
  refine seqw (fprobB_piece _ _ 6) (seqw (fvalue_piece _ _ _ _ 5) ?_)
  refine seqw (fprobB_piece _ _ 7) (seqw (fvalue_piece _ _ _ _ 6) ?_)
  refine (fvalue_piece _ _ _ _ 7).trans (wp_mono _ _ _ fun _ => BIBase.Entails.of_eq (congrArg (Own τ d c I · O) ?_))
  funext g
  fin_cases g <;> simp [Function.update_apply]

theorem stepA_takes (offK : Fin 3 → Nat) (hK : KOff offK) (offV : Fin 3 → Nat) (hV : VOff offV) (S : Fin 8 → Grp F) (O : Fin 4 → Vec F (SS 256 128) .bf16) :
    Takes defs 𝒱 d c I (stepP c offK hK offV hV c.pa c.ra c.pb c.rb) S O (fun g => tValueA (vblk I offV hV) (tScoreB (kblk I offK hK) (S g))) O :=
  seq8_takes (piece_seq (scoreB_piece offK hK) (valueA_piece offV hV)) S O
theorem stepB_takes (offK : Fin 3 → Nat) (hK : KOff offK) (offV : Fin 3 → Nat) (hV : VOff offV) (S : Fin 8 → Grp F) (O : Fin 4 → Vec F (SS 256 128) .bf16) :
    Takes defs 𝒱 d c I (stepP c offK hK offV hV c.pb c.rb c.pa c.ra) S O (fun g => tValueB (vblk I offV hV) (tScoreA (kblk I offK hK) (S g))) O :=
  seq8_takes (piece_seq (scoreA_piece offK hK) (valueB_piece offV hV)) S O

/-! ## A loop -/

/-- The first `n` of a list of changes, one after another. -/
def iter (T : Nat → Grp F → Grp F) : Nat → Grp F → Grp F
  | 0, s => s
  | n + 1, s => T n (iter T n s)

theorem for_takes (l : Scf.Loop 32) (ok : l.OK) (body : Fin l.trips → PUnit → PP nD τ sig Λ F PUnit) (T : Nat → Grp F → Grp F)
    (h : ∀ k S O, Takes defs 𝒱 d c I (body k ⟨⟩) S O (fun g => T k.val (S g)) O) (S : Fin 8 → Grp F) (O : Fin 4 → Vec F (SS 256 128) .bf16) :
    Takes defs 𝒱 d c I (Scf.Loop.for l ok ⟨⟩ body) S O (fun g => iter T l.trips (S g)) O := by
  have := Scf.wp_for frame (wpE (Ix := Unit) (Name := ℕ) (U := UR sig nD τ) (Lvl := ℕ) defs 𝒱 (d : Thread nD τ) none) Set.univ l.lb l.ub l.st ok (⟨⟩ : PUnit) body
    (fun k _ => Own τ d c I (fun g => iter T k (S g)) O) (fun k acc => h k _ O) (Q := fun _ => Own τ d c I (fun g => iter T l.trips (S g)) O)
  refine BIBase.Entails.trans ?_ this
  iintro H
  isplitl [H]
  · iexact H
  · iintro %acc H
    iexact H

end

end FlashD

end
-- ==== Proof.Whole.lean ====
/-
  The whole body as a function of the inputs' blocks.
-/
module

public import proofs.«01_k».proof.Proof.Steps

@[expose] public section

set_option maxRecDepth 16384

noncomputable section

namespace FlashD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {F : FTy → Type} [FloatOps F] (I : Ins F)

/-- The `n`-th block of keys. -/
def kb (n : Nat) : Vec F (SS 1024 128) .bf16 := fun j => I.k (ix3 0 ⟨(1024 * n + (j 1).val) % 8192, Nat.mod_lt _ (by decide)⟩ (j 2))
/-- The `n`-th block of values. -/
def vb (n : Nat) : Vec F (SS 144 1024) .bf16 := fun j => I.v (ix3 0 (j 1) ⟨(1024 * n + (j 2).val) % 8192, Nat.mod_lt _ (by decide)⟩)

theorem kblk_eq (off : Fin 3 → Nat) (h : KOff off) (n : Nat) (ho : off = ![0, 1024 * n, 0]) : kblk I off h = kb I n := by
  subst ho
  funext j
  refine congrArg I.k ?_
  funext a
  apply Fin.ext
  rw [Rect.emb_apply]
  have h1 : 1024 * n + 1024 ≤ 8192 := h 1
  have hj : (j 1).val < 1024 := (j 1).isLt
  fin_cases a
  · show 0 + 1 * (j 0).val = 0
    have : (j 0).val < 1 := (j 0).isLt
    omega
  · show 1024 * n + 1 * (j 1).val = (1024 * n + (j 1).val) % 8192; omega
  · show 0 + 1 * (j 2).val = (j 2).val; omega

theorem vblk_eq (off : Fin 3 → Nat) (h : VOff off) (n : Nat) (ho : off = ![0, 0, 1024 * n]) : vblk I off h = vb I n := by
  subst ho
  funext j
  refine congrArg I.v ?_
  funext a
  apply Fin.ext
  rw [Rect.emb_apply]
  have h1 : 1024 * n + 1024 ≤ 8192 := h 2
  have hj : (j 2).val < 1024 := (j 2).isLt
  fin_cases a
  · show 0 + 1 * (j 0).val = 0
    have : (j 0).val < 1 := (j 0).isLt
    omega
  · show 0 + 1 * (j 1).val = (j 1).val; omega
  · show 1024 * n + 1 * (j 2).val = (1024 * n + (j 2).val) % 8192; omega

/-- One trip of the main loop. -/
def trip (n : Nat) (s : Grp F) : Grp F :=
  tValueB (vb I (2 * n + 1)) (tScoreA (kb I (2 * n + 2)) (tValueA (vb I (2 * n)) (tScoreB (kb I (2 * n + 1)) s)))
/-- One trip of the careful pass's loop. -/
def ftrip (n : Nat) (s : Grp F) : Grp F :=
  tFValue (vb I (2 * n + 1)) (tFProbB (tFScoreA (kb I (2 * n + 2)) (tFValue (vb I (2 * n)) (tFProbA (tFScoreB (kb I (2 * n + 1)) s)))))
/-- A group's state before the main loop. -/
def tStart (g : Fin 8) (s : Grp F) : Grp F :=
  tScoreA (kb I 0) { tProbe (kprb I) { s with q2 := q2of I g } with acc := acc0 g, lag := lag0 g }
/-- A group's state after the main pass. -/
def tMain (g : Fin 8) (s : Grp F) : Grp F :=
  tValueB (vb I 7) (tValueA (vb I 6) (tScoreB (kb I 7) (iter (trip I) 3 (tStart I g s))))
/-- A group's state after the careful pass. -/
def tCare (g : Fin 8) (s : Grp F) : Grp F :=
  tFValue (vb I 7) (tFProbB (tFValue (vb I 6) (tFProbA (tFScoreB (kb I 7) (iter (ftrip I) 3 (tFScoreA (kb I 0) { s with m := m0 g, acc := acc0 g }))))))
/-- All groups' lags. -/
def lags (S : Fin 8 → Grp F) : Vec F (SG 1 256) .f32 := glue (fun g => (S g).lag)
/-- The state at the end, the main pass's given. -/
def tLast (S : Fin 8 → Grp F) : Fin 8 → Grp F := if lagged (lags S) = 1#1 then fun g => tCare I g (S g) else S
/-- The state at the end. -/
def tEnd (S : Fin 8 → Grp F) : Fin 8 → Grp F := tLast I fun g => tMain I g (S g)
/-- `R` rows of a group's accumulator. -/
def accRows (R r : Nat) (h : r + R ≤ 144) (A : Fin 8 → Vec F (SS 144 256) .f32) (g : Fin 8) : Vec F (SS R 256) .f32 :=
  fun j => glue A ((rpt R r h g).emb j)
/-- What is written out, from the accumulators. -/
def outOf (A : Fin 8 → Vec F (SS 144 256) .f32) (w : Fin 4) : Vec F (SS 256 128) .bf16 :=
  payO (accRows 64 0 (by decide) A (gA w)) (accRows 1 128 (by decide) A (gA w)) (accRows 64 64 (by decide) A (gB w)) (accRows 1 128 (by decide) A (gB w))

/-! ## What was in the scratch before does not matter -/

/-- Equal where the main loop reads. -/
def Agree (s s' : Grp F) : Prop :=
  s.q2 = s'.q2 ∧ s.m = s'.m ∧ s.r = s'.r ∧ s.acc = s'.acc ∧ s.pa = s'.pa ∧ s.ra = s'.ra ∧ s.lag = s'.lag ∧ s.mu = s'.mu
/-- Equal where the careful pass's loop reads. -/
def AgreeF (s s' : Grp F) : Prop := s.q2 = s'.q2 ∧ s.m = s'.m ∧ s.acc = s'.acc ∧ s.sa = s'.sa ∧ s.ra = s'.ra

theorem agree_trip (n : Nat) {s s' : Grp F} (h : Agree s s') : Agree (trip I n s) (trip I n s') := by
  obtain ⟨q2, m, r, acc, pa, sa, sb, ra, rb, pb, lag, mu⟩ := s
  obtain ⟨q2', m', r', acc', pa', sa', sb', ra', rb', pb', lag', mu'⟩ := s'
  obtain ⟨h1, h2, h3, h4, h5, h6, h7, h8⟩ := h
  dsimp only at h1 h2 h3 h4 h5 h6 h7 h8
  subst h1 h2 h3 h4 h5 h6 h7 h8
  exact ⟨rfl, rfl, rfl, rfl, rfl, rfl, rfl, rfl⟩

theorem agree_ftrip (n : Nat) {s s' : Grp F} (h : AgreeF s s') : AgreeF (ftrip I n s) (ftrip I n s') := by
  obtain ⟨q2, m, r, acc, pa, sa, sb, ra, rb, pb, lag, mu⟩ := s
  obtain ⟨q2', m', r', acc', pa', sa', sb', ra', rb', pb', lag', mu'⟩ := s'
  obtain ⟨h1, h2, h3, h4, h5⟩ := h
  dsimp only at h1 h2 h3 h4 h5
  subst h1 h2 h3 h4 h5
  exact ⟨rfl, rfl, rfl, rfl, rfl⟩

theorem agree_iter {R : Grp F → Grp F → Prop} {T : Nat → Grp F → Grp F} (h : ∀ n s s', R s s' → R (T n s) (T n s')) (n : Nat) {s s' : Grp F}
    (hs : R s s') : R (iter T n s) (iter T n s') := by
  induction n with
  | zero => exact hs
  | succ n ih => exact h n _ _ ih

theorem main_agree (g : Fin 8) (s s' : Grp F) : (tMain I g s).q2 = (tMain I g s').q2 ∧ (tMain I g s).acc = (tMain I g s').acc ∧ (tMain I g s).lag = (tMain I g s').lag := by
  have h : Agree (iter (trip I) 3 (tStart I g s)) (iter (trip I) 3 (tStart I g s')) :=
    agree_iter (fun n _ _ => agree_trip I n) 3 ⟨rfl, rfl, rfl, rfl, rfl, rfl, rfl, rfl⟩
  unfold tMain
  generalize iter (trip I) 3 (tStart I g s) = s at h
  generalize iter (trip I) 3 (tStart I g s') = s' at h
  obtain ⟨q2, m, r, acc, pa, sa, sb, ra, rb, pb, lag, mu⟩ := s
  obtain ⟨q2', m', r', acc', pa', sa', sb', ra', rb', pb', lag', mu'⟩ := s'
  obtain ⟨h1, h2, h3, h4, h5, h6, h7, h8⟩ := h
  dsimp only at h1 h2 h3 h4 h5 h6 h7 h8
  subst h1 h2 h3 h4 h5 h6 h7 h8
  exact ⟨rfl, rfl, rfl⟩

theorem care_agree (g : Fin 8) (s s' : Grp F) (hq : s.q2 = s'.q2) : (tCare I g s).acc = (tCare I g s').acc := by
  have h : AgreeF (iter (ftrip I) 3 (tFScoreA (kb I 0) { s with m := m0 g, acc := acc0 g })) (iter (ftrip I) 3 (tFScoreA (kb I 0) { s' with m := m0 g, acc := acc0 g })) := by
    refine agree_iter (fun n _ _ => agree_ftrip I n) 3 ⟨hq, rfl, rfl, ?_, ?_⟩
    · simp only [tFScoreA, hq]
    · simp only [tFScoreA, hq]
  unfold tCare
  generalize iter (ftrip I) 3 (tFScoreA (kb I 0) { s with m := m0 g, acc := acc0 g }) = s at h
  generalize iter (ftrip I) 3 (tFScoreA (kb I 0) { s' with m := m0 g, acc := acc0 g }) = s' at h
  obtain ⟨q2, m, r, acc, pa, sa, sb, ra, rb, pb, lag, mu⟩ := s
  obtain ⟨q2', m', r', acc', pa', sa', sb', ra', rb', pb', lag', mu'⟩ := s'
  obtain ⟨h1, h2, h3, h4, h5⟩ := h
  dsimp only at h1 h2 h3 h4 h5
  subst h1 h2 h3 h4 h5
  rfl

theorem end_acc (S S' : Fin 8 → Grp F) : (fun g => (tEnd I S g).acc) = fun g => (tEnd I S' g).acc := by
  have hl : lags (fun g => tMain I g (S g)) = lags (fun g => tMain I g (S' g)) :=
    congrArg glue (funext fun g => (main_agree I g (S g) (S' g)).2.2)
  unfold tEnd tLast
  rw [hl]
  split
  · funext g; exact care_agree I g _ _ (main_agree I g (S g) (S' g)).1
  · funext g; exact (main_agree I g (S g) (S' g)).2.1

/-- A group's state of zeros. -/
def zGrp : Grp F where
  q2 _ := Scalar.ofBits .bf16 0#16
  m _ := Scalar.ofBits .f32 0#32
  r _ := Scalar.ofBits .f32 0#32
  acc _ := Scalar.ofBits .f32 0#32
  pa _ := Scalar.ofBits .bf16 0#16
  sa _ := Scalar.ofBits .f32 0#32
  sb _ := Scalar.ofBits .f32 0#32
  ra _ := Scalar.ofBits .f32 0#32
  rb _ := Scalar.ofBits .f32 0#32
  pb _ := Scalar.ofBits .bf16 0#16
  lag _ := Scalar.ofBits .f32 0#32
  mu _ := Scalar.ofBits .f32 0#32

/-- The body's result, of the inputs' blocks. -/
def result : Vec F (SS 256 512) .bf16 := glueO (outOf fun g => (tEnd I (fun _ => zGrp) g).acc)

end

section

variable {nD : Nat} {τ : Topo} {sig : RefSig} {Λ : Labels} {F : FTy → Type} [FloatOps F]

local notation "𝕄G" => MT nD τ sig Unit (Elt F) ℕ (UR sig nD τ) ℕ

variable {defs : Defs nD τ sig (Elt F) Λ} {𝒱 : Variants} {d : Dev nD} {c : Ctx sig} {I : Ins F}

theorem Piece.at {P : Fin 8 → PP nD τ sig Λ F PUnit} {t t' : Grp F → Grp F} (h : Piece defs 𝒱 d c I P t) (e : t = t') : Piece defs 𝒱 d c I P t' := e ▸ h

theorem out_takes (w : Fin 4) (S : Fin 8 → Grp F) (O : Fin 4 → Vec F (SS 256 128) .bf16) :
    Takes defs 𝒱 d c I (outP c w) S O S (Function.update O w (outOf (fun g => (S g).acc) w)) := by
  unfold outP
  refine lens_acc.ld_rect _ ?_
  refine lens_acc.ld_rect _ ?_
  refine lens_acc.ld_rect _ ?_
  refine lens_acc.ld_rect _ ?_
  refine ld_o _ fun _ => ?_
  exact st_o w _

theorem care_takes {loop2 : PP nD τ sig Λ F PUnit} (h2 : ∀ S O, Takes defs 𝒱 d c I loop2 S O (fun g => iter (ftrip I) 3 (S g)) O)
    (S : Fin 8 → Grp F) (O : Fin 4 → Vec F (SS 256 128) .bf16) : Takes defs 𝒱 d c I (carefulP c loop2) S O (fun g => tCare I g (S g)) O := by
  unfold carefulP GBuf.ldAll
  refine lens_m.ld_rect _ ?_
  refine lens_m.st_all ?_
  refine lens_acc.ld_rect _ ?_
  refine lens_acc.st_all ?_
  refine seqw (seq8_takes (fscoreA_piece _ _) _ _) ?_
  refine seqw (h2 _ _) ?_
  refine seqw (fstepA_takes _ _ _ _ _ _) ?_
  refine (flast_takes _ _ _ _).trans (wp_mono _ _ _ fun _ => BIBase.Entails.of_eq (congrArg (Own τ d c I · O) ?_))
  rw [kblk_eq I _ k0_inb 0 rfl, kblk_eq I _ k7_inb 7 rfl, vblk_eq I _ v6_inb 6 rfl, vblk_eq I _ v7_inb 7 rfl]
  rfl

theorem body_takes {loop1 loop2 : PP nD τ sig Λ F PUnit} (h1 : ∀ S O, Takes defs 𝒱 d c I loop1 S O (fun g => iter (trip I) 3 (S g)) O)
    (h2 : ∀ S O, Takes defs 𝒱 d c I loop2 S O (fun g => iter (ftrip I) 3 (S g)) O) (S : Fin 8 → Grp F) (O : Fin 4 → Vec F (SS 256 128) .bf16) :
    Takes defs 𝒱 d c I (bodyP c loop1 loop2) S O (tEnd I S) (outOf fun g => (tEnd I S g).acc) := by
  unfold bodyP GBuf.ldAll
  refine stack4_takes _ _ ?_
  refine seqw (seq8_takes probe_piece _ _) ?_
  refine lens_acc.ld_rect _ ?_
  refine lens_acc.st_all ?_
  refine lens_lag.ld_rect _ ?_
  refine lens_lag.st_all ?_
  refine seqw (seq8_takes (scoreA_piece _ _) _ _) ?_
  refine seqw (h1 _ _) ?_
  refine seqw (stepA_takes _ _ _ _ _ _) ?_
  refine seqw (seq8_takes (valueB_piece _ _) _ _) ?_
  rw [kblk_eq I _ k0_inb 0 rfl, kblk_eq I _ k7_inb 7 rfl, vblk_eq I _ v6_inb 6 rfl, vblk_eq I _ v7_inb 7 rfl]
  refine BIBase.Entails.trans (BIBase.Entails.of_eq (show _ = Own τ d c I (fun g => tMain I g (S g)) O from rfl)) ?_
  have hS : tEnd I S = tLast I fun g => tMain I g (S g) := rfl
  rw [hS]
  generalize (fun g => tMain I g (S g)) = S'
  refine lens_lag.ld_rect _ ?_
  have hw : ∀ l, l = lags S' → Takes defs 𝒱 d c I (whenP l (carefulP c loop2)) S' O (tLast I S') O := by
    intro l hl
    subst hl
    unfold whenP tLast
    split
    · exact care_takes h2 _ _
    · exact fupd_intro
  refine seqw (hw _ (by funext j; rw [rw_emb]; rfl)) ?_
  refine seqw (out_takes 0 _ _) (seqw (out_takes 1 _ _) (seqw (out_takes 2 _ _) ((out_takes 3 _ _).trans (wp_mono _ _ _ fun _ => BIBase.Entails.of_eq (congrArg (Own τ d c I _ ·) ?_)))))
  funext w
  fin_cases w <;> rfl

end

end FlashD

end
-- ==== Proof.KernelIdealBody.lean ====
/-
  The printed body of the attention kernel is the body of `Blocks.lean`, put together for any group
  of columns and any block of keys.
-/
module

public import proofs.«01_k».proof.Proof.Blocks
public import proofs.«01_k».proof.Proof.Gen.KernelIdeal.Skeleton

@[expose] public section

set_option maxRecDepth 1000000

noncomputable section

namespace Cert.KernelIdeal.Body

open Idealize.ShloMosaic Idealize.SL.Sem
open Cert.KernelIdeal Cert.KernelIdeal.Gen FlashD

variable {F : FTy → Type} [FloatOps F]

theorem packQ : ∀ g : Fin 8, (rg (R := 128) (C := 256) g).PackedRows (EltTy.packing .bf16) := by decide
theorem packO : ∀ w : Fin 4, (ro w).PackedRows (EltTy.packing .bf16) := by decide
theorem packP : ∀ g : Fin 8, (rg (R := 1024) (C := 256) g).PackedRows (EltTy.packing .bf16) := by decide

/-- A buffer of eight slabs of words. -/
abbrev gb {R C : Nat} (b : Memref sig .tc .vmem (SG R C) .f32) (h : b.IsWhole) (hp : 0 < (SS R C).numel) (hg : 0 < (SG R C).numel) : GBuf sig R C .f32 :=
  ⟨b, h, hp, hg, fun _ => View.stores_vmem_bits_univ hp rfl⟩
/-- A buffer of eight slabs of half words. -/
abbrev gb16 {R C : Nat} (b : Memref sig .tc .vmem (SG R C) .bf16) (h : b.IsWhole) (hp : 0 < (SS R C).numel) (hg : 0 < (SG R C).numel)
    (hq : ∀ g : Fin 8, (rg (R := R) (C := C) g).PackedRows (EltTy.packing .bf16)) : GBuf sig R C .bf16 :=
  ⟨b, h, hp, hg, fun g => View.stores_vmem hp (h.storeExact_slice rfl _ (hq g)) (fun _ => rfl)⟩

section
variable (arg2 : Memref sig .tc .vmem S1x512x256 .bf16) (harg2 : arg2.IsWhole)
    (arg3 : Memref sig .tc .vmem S1x8192x128 .bf16) (harg3 : arg3.IsWhole)
    (arg4 : Memref sig .tc .vmem S1x144x8192 .bf16) (harg4 : arg4.IsWhole)
    (arg5 : Memref sig .tc .vmem S1x256x512 .bf16) (harg5 : arg5.IsWhole)
    (arg6 : Memref sig .tc .vmem S8x128x256 .bf16) (harg6 : arg6.IsWhole)
    (arg7 : Memref sig .tc .vmem S8x1x256 .f32) (harg7 : arg7.IsWhole)
    (arg8 : Memref sig .tc .vmem S8x1x256 .f32) (harg8 : arg8.IsWhole)
    (arg9 : Memref sig .tc .vmem S8x144x256 .f32) (harg9 : arg9.IsWhole)
    (arg10 : Memref sig .tc .vmem S8x1024x256 .bf16) (harg10 : arg10.IsWhole)
    (arg11 : Memref sig .tc .vmem S8x1024x256 .f32) (harg11 : arg11.IsWhole)
    (arg12 : Memref sig .tc .vmem S8x1024x256 .f32) (harg12 : arg12.IsWhole)
    (arg13 : Memref sig .tc .vmem S8x1x256 .f32) (harg13 : arg13.IsWhole)
    (arg14 : Memref sig .tc .vmem S8x1x256 .f32) (harg14 : arg14.IsWhole)
    (arg15 : Memref sig .tc .vmem S8x1024x256 .bf16) (harg15 : arg15.IsWhole)
    (arg16 : Memref sig .tc .vmem S8x1x256 .f32) (harg16 : arg16.IsWhole)
    (arg17 : Memref sig .tc .vmem S8x1x256 .f32) (harg17 : arg17.IsWhole)

/-- The kernel's buffers. -/
abbrev ctx : Ctx sig where
  qt := arg2
  k := arg3
  vt := arg4
  o := arg5
  hqt := harg2
  hk := harg3
  hvt := harg4
  ho := harg5
  sto := fun w => View.stores_vmem pos_256_128 (harg5.storeExact_slice rfl _ (packO w)) (fun _ => rfl)
  q2 := gb16 arg6 harg6 (by decide) (by decide) packQ
  m := gb arg7 harg7 (by decide) (by decide)
  r := gb arg8 harg8 (by decide) (by decide)
  acc := gb arg9 harg9 (by decide) (by decide)
  pa := gb16 arg10 harg10 (by decide) (by decide) packP
  sa := gb arg11 harg11 (by decide) (by decide)
  sb := gb arg12 harg12 (by decide) (by decide)
  ra := gb arg13 harg13 (by decide) (by decide)
  rb := gb arg14 harg14 (by decide) (by decide)
  pb := gb16 arg15 harg15 (by decide) (by decide) packP
  lag := gb arg16 harg16 (by decide) (by decide)
  mu := gb arg17 harg17 (by decide) (by decide)

/-- The main loop: two blocks' steps a trip. -/
abbrev loop1 : PP nD τ sig Λ₀ F PUnit :=
  Scf.Loop.for k0_t1_loop k0_t1_ok ⟨⟩ fun t _ => do
    stepP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (k0_off1 t) (k0_off1_inb t) (k0_off2 t) (k0_off2_inb t) (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).pa (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).ra (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).pb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb
    stepP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (k0_off3 t) (k0_off3_inb t) (k0_off4 t) (k0_off4_inb t) (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).pb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).pa (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).ra
/-- The careful pass's loop. -/
abbrev loop2 : PP nD τ sig Λ₀ F PUnit :=
  Scf.Loop.for k0_t2_loop k0_t2_ok ⟨⟩ fun t _ => do
    fstepP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (k0_off5 t) (k0_off5_inb t) (k0_off6 t) (k0_off6_inb t) (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sa (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).ra (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb
    fstepP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (k0_off7 t) (k0_off7_inb t) (k0_off8 t) (k0_off8_inb t) (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sa (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).ra

variable (i : grid0.Coords)

set_option maxHeartbeats 8000000 in
/-- The printed body is `bodyP` at its buffers and its two loops. -/
theorem body_eq : cc0_flash_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = bodyP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (loop1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  unfold cc0_flash_gqa k0_part148 k0_part120 k0_part145 k0_part74 bodyP
  simp only [Prog.bind_assoc]
  repeat (refine op_congr fun x => ?_)
  refine bind_congr rfl fun _ => ?_
  refine bind_congr rfl fun _ => ?_
  repeat (refine op_congr fun x => ?_)
  repeat (refine ret_bind_left ?_)
  refine (if_bind_congr (p' := carefulP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)) (k' := fun _ => do
    outP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) 0; outP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) 1; outP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) 2; outP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) 3) ?_ fun _ => ?_).trans rfl
  · unfold carefulP
    repeat (refine op_congr fun x => ?_)
    repeat (refine ret_bind_left ?_)
    refine (bind_congr (p' := loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (k' := fun _ => do
      fstepP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) ![0, 7168, 0] k7_inb ![0, 0, 6144] v6_inb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sa (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).ra (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb
      flastP (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) ![0, 0, 7168] v7_inb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).sb (ctx arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17).rb) rfl fun _ => ?_).trans rfl
    repeat (refine op_congr fun x => ?_)
    rfl
  · repeat (refine op_congr fun x => ?_)
    rfl

end

end Cert.KernelIdeal.Body

end
-- ==== Proof.KernelIdealRun.lean ====
/-
  The launch: the body's triple at every point of the grid, the run, and the frame.
-/
module

public import proofs.«01_k».proof.Proof.KernelIdealBody
public import proofs.«01_k».proof.Proof.Whole
public import proofs.«01_k».proof.Proof.Gen.KernelIdeal.Frame
public import proofs.«01_k».proof.Proof.Gen.KernelIdeal.Launch
public import Idealize.ShloMosaic.Adequacy
public import Idealize.ShloMosaic.Init
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen FlashD

variable {F : FTy → Type} [FloatOps F]

local notation "𝕄" => MT nD τ sig Unit (Elt F) ℕ (UR sig nD τ) ℕ

section
variable (arg2 : Memref sig .tc .vmem S1x512x256 .bf16) (harg2 : arg2.IsWhole)
    (arg3 : Memref sig .tc .vmem S1x8192x128 .bf16) (harg3 : arg3.IsWhole)
    (arg4 : Memref sig .tc .vmem S1x144x8192 .bf16) (harg4 : arg4.IsWhole)
    (arg5 : Memref sig .tc .vmem S1x256x512 .bf16) (harg5 : arg5.IsWhole)

/-- The kernel's buffers, the scratch being the launch's. -/
abbrev cx : Ctx sig :=
  ctx arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
/-- The main loop on these buffers. -/
abbrev lp1 : PP nD τ sig Λ₀ F PUnit :=
  loop1 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
/-- The careful pass's loop on these buffers. -/
abbrev lp2 : PP nD τ sig Λ₀ F PUnit :=
  loop2 arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)

variable {𝒱 : Variants} {d : Dev nD} {I : Ins F}

/-- Three trips of the main loop. -/
theorem lp1_takes (S : Fin 8 → Grp F) (O : Fin 4 → Vec F (SS 256 128) .bf16) :
    Takes (τ := τ) (defs₀ (F := F)) 𝒱 d (cx arg2 harg2 arg3 harg3 arg4 harg4 arg5 harg5) I (lp1 arg2 harg2 arg3 harg3 arg4 harg4 arg5 harg5) S O (fun g => iter (trip I) 3 (S g)) O := by
  refine for_takes k0_t1_loop k0_t1_ok _ (trip I) (fun k S O => ?_) S O
  refine seqw (stepA_takes _ _ _ _ _ _) ?_
  refine (stepB_takes _ _ _ _ _ _).trans (wp_mono _ _ _ fun _ => BIBase.Entails.of_eq (congrArg (Own τ d (cx arg2 harg2 arg3 harg3 arg4 harg4 arg5 harg5) I · O) ?_))
  rw [kblk_eq I _ _ (2 * k.val + 1) ((k0_off1_eq k).trans (by congr 2; omega)), vblk_eq I _ _ (2 * k.val) ((k0_off2_eq k).trans (by congr 3; omega)),
    kblk_eq I _ _ (2 * k.val + 2) ((k0_off3_eq k).trans (by congr 2; omega)), vblk_eq I _ _ (2 * k.val + 1) ((k0_off4_eq k).trans (by congr 3; omega))]
  rfl

/-- Three trips of the careful pass's loop. -/
theorem lp2_takes (S : Fin 8 → Grp F) (O : Fin 4 → Vec F (SS 256 128) .bf16) :
    Takes (τ := τ) (defs₀ (F := F)) 𝒱 d (cx arg2 harg2 arg3 harg3 arg4 harg4 arg5 harg5) I (lp2 arg2 harg2 arg3 harg3 arg4 harg4 arg5 harg5) S O (fun g => iter (ftrip I) 3 (S g)) O := by
  refine for_takes k0_t2_loop k0_t2_ok _ (ftrip I) (fun k S O => ?_) S O
  refine seqw (fstepA_takes _ _ _ _ _ _) ?_
  refine (fstepB_takes _ _ _ _ _ _).trans (wp_mono _ _ _ fun _ => BIBase.Entails.of_eq (congrArg (Own τ d (cx arg2 harg2 arg3 harg3 arg4 harg4 arg5 harg5) I · O) ?_))
  rw [kblk_eq I _ _ (2 * k.val + 1) ((k0_off5_eq k).trans (by congr 2; omega)), vblk_eq I _ _ (2 * k.val) ((k0_off6_eq k).trans (by congr 3; omega)),
    kblk_eq I _ _ (2 * k.val + 2) ((k0_off7_eq k).trans (by congr 2; omega)), vblk_eq I _ _ (2 * k.val + 1) ((k0_off8_eq k).trans (by congr 3; omega))]
  rfl

end

/-- Eight slabs of a whole scratch buffer are the buffer, at whatever it holds. -/
theorem slabs_of (d : Dev nD) {R C : Nat} {e : EltTy} (b : GBuf sig R C e) (X : Vec F (SG R C) e) :
    (owns (d : Thread nD τ) b.m fullShare X : sProp 𝕄) ⊢ Slabs τ d b (cutG X) := by
  unfold Slabs; rw [glue_cutG]

/-- What the body touches, the scratch at anything and the result read out. -/
theorem own_open (d : Dev nD) (arg2 : Memref sig .tc .vmem S1x512x256 .bf16) (harg2 : arg2.IsWhole)
    (arg3 : Memref sig .tc .vmem S1x8192x128 .bf16) (harg3 : arg3.IsWhole)
    (arg4 : Memref sig .tc .vmem S1x144x8192 .bf16) (harg4 : arg4.IsWhole)
    (arg5 : Memref sig .tc .vmem S1x256x512 .bf16) (harg5 : arg5.IsWhole) (I : Ins F) (S : Fin 8 → Grp F) (O : Fin 4 → Vec F (SS 256 128) .bf16) :
    (Own τ d (cx arg2 harg2 arg3 harg3 arg4 harg4 arg5 harg5) I S O : sProp 𝕄)
      ⊢ iprop(Pipeline.scopedRest spec0 d ∗ owns (d : Thread nD τ) arg2 fullShare I.q ∗ owns (d : Thread nD τ) arg3 fullShare I.k ∗ owns (d : Thread nD τ) arg4 fullShare I.v
            ∗ owns (d : Thread nD τ) arg5 fullShare (glueO O)) := by
  rw [scopedRest0_eq]
  unfold Own Slabs
  simp only [owns_whole]
  iintro ⟨Hq, Hk, Hv, Ho, H0, H1, H2, H3, H4, H5, H6, H7, H8, H9, H10, H11⟩
  isplitr [Hq Hk Hv Ho]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  isplitl [Hq]; · iexact Hq
  isplitl [Hk]; · iexact Hk
  isplitl [Hv]; · iexact Hv
  iexact Ho

/-- At the body's end: the result is `result I`, whatever was in the scratch. -/
theorem own_end (d : Dev nD) (arg2 : Memref sig .tc .vmem S1x512x256 .bf16) (harg2 : arg2.IsWhole)
    (arg3 : Memref sig .tc .vmem S1x8192x128 .bf16) (harg3 : arg3.IsWhole)
    (arg4 : Memref sig .tc .vmem S1x144x8192 .bf16) (harg4 : arg4.IsWhole)
    (arg5 : Memref sig .tc .vmem S1x256x512 .bf16) (harg5 : arg5.IsWhole) (I : Ins F) (S : Fin 8 → Grp F) :
    (Own τ d (cx arg2 harg2 arg3 harg3 arg4 harg4 arg5 harg5) I (tEnd I S) (outOf fun g => (tEnd I S g).acc) : sProp 𝕄)
      ⊢ iprop(Pipeline.scopedRest spec0 d ∗ owns (d : Thread nD τ) arg2 fullShare I.q ∗ owns (d : Thread nD τ) arg3 fullShare I.k ∗ owns (d : Thread nD τ) arg4 fullShare I.v
            ∗ owns (d : Thread nD τ) arg5 fullShare (result I)) := by
  rw [show result I = glueO (outOf fun g => (tEnd I S g).acc) from congrArg (fun A => glueO (outOf A)) (end_acc I _ _)]
  exact own_open d arg2 harg2 arg3 harg3 arg4 harg4 arg5 harg5 I _ _

/-- Everything the launch gives the body, and what it wants back. -/
theorem body_triple (d : Dev nD) (i : grid0.Coords) (arg2 : Memref sig .tc .vmem S1x512x256 .bf16) (harg2 : arg2.IsWhole)
    (arg3 : Memref sig .tc .vmem S1x8192x128 .bf16) (harg3 : arg3.IsWhole)
    (arg4 : Memref sig .tc .vmem S1x144x8192 .bf16) (harg4 : arg4.IsWhole)
    (arg5 : Memref sig .tc .vmem S1x256x512 .bf16) (harg5 : arg5.IsWhole) (I : Ins F) (K : PUnit → sProp 𝕄) :
    iprop(Pipeline.scopedRest spec0 d ∗ owns (d : Thread nD τ) arg2 fullShare I.q ∗ owns (d : Thread nD τ) arg3 fullShare I.k ∗ owns (d : Thread nD τ) arg4 fullShare I.v
        ∗ (∃ o, owns (d : Thread nD τ) arg5 fullShare o)
        ∗ (iprop(Pipeline.scopedRest spec0 d ∗ owns (d : Thread nD τ) arg2 fullShare I.q ∗ owns (d : Thread nD τ) arg3 fullShare I.k ∗ owns (d : Thread nD τ) arg4 fullShare I.v
            ∗ owns (d : Thread nD τ) arg5 fullShare (result I)) -∗ K ⟨⟩))
      ⊢ wp frame (wpE (defs₀ (F := F)) Variants.none (d : Thread nD τ) none) Set.univ
        (cc0_flash_gqa i arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)) K := by
  rw [body_eq, scopedRest0_eq]
  iintro ⟨⟨⟨%f0, H0⟩ , ⟨%f1, H1⟩ , ⟨%f2, H2⟩ , ⟨%f3, H3⟩ , ⟨%f4, H4⟩ , ⟨%f5, H5⟩ , ⟨%f6, H6⟩ , ⟨%f7, H7⟩ , ⟨%f8, H8⟩ , ⟨%f9, H9⟩ , ⟨%f10, H10⟩ , ⟨%f11, H11⟩⟩, Hq, Hk, Hv, ⟨%o, Ho⟩, HK⟩
  iapply (wp_wand_r frame (wpE (defs₀ (F := F)) Variants.none (d : Thread nD τ) none) Set.univ)
  isplitl [Hq Hk Hv Ho H0 H1 H2 H3 H4 H5 H6 H7 H8 H9 H10 H11]
  · iapply (body_takes (τ := τ) (defs := defs₀ (F := F)) (𝒱 := Variants.none) (d := d) (c := cx arg2 harg2 arg3 harg3 arg4 harg4 arg5 harg5) (I := I)
      (lp1_takes arg2 harg2 arg3 harg3 arg4 harg4 arg5 harg5) (lp2_takes arg2 harg2 arg3 harg3 arg4 harg4 arg5 harg5)
      (fun g => ⟨cutG f0 g, cutG f1 g, cutG f2 g, cutG f3 g, cutG f4 g, cutG f5 g, cutG f6 g, cutG f7 g, cutG f8 g, cutG f9 g, cutG f10 g, cutG f11 g⟩) (cutO o))
    unfold Own
    isplitl [Hq]; · iexact Hq
    isplitl [Hk]; · iexact Hk
    isplitl [Hv]; · iexact Hv
    isplitl [Ho]
    · rw [glueO_cutO]; iexact Ho
    isplitl [H0]; · iapply slabs_of d (cx arg2 harg2 arg3 harg3 arg4 harg4 arg5 harg5).q2 f0; rw [owns_whole]; iexact H0
    isplitl [H1]; · iapply slabs_of d (cx arg2 harg2 arg3 harg3 arg4 harg4 arg5 harg5).m f1; rw [owns_whole]; iexact H1
    isplitl [H2]; · iapply slabs_of d (cx arg2 harg2 arg3 harg3 arg4 harg4 arg5 harg5).r f2; rw [owns_whole]; iexact H2
    isplitl [H3]; · iapply slabs_of d (cx arg2 harg2 arg3 harg3 arg4 harg4 arg5 harg5).acc f3; rw [owns_whole]; iexact H3
    isplitl [H4]; · iapply slabs_of d (cx arg2 harg2 arg3 harg3 arg4 harg4 arg5 harg5).pa f4; rw [owns_whole]; iexact H4
    isplitl [H5]; · iapply slabs_of d (cx arg2 harg2 arg3 harg3 arg4 harg4 arg5 harg5).sa f5; rw [owns_whole]; iexact H5
    isplitl [H6]; · iapply slabs_of d (cx arg2 harg2 arg3 harg3 arg4 harg4 arg5 harg5).sb f6; rw [owns_whole]; iexact H6
    isplitl [H7]; · iapply slabs_of d (cx arg2 harg2 arg3 harg3 arg4 harg4 arg5 harg5).ra f7; rw [owns_whole]; iexact H7
    isplitl [H8]; · iapply slabs_of d (cx arg2 harg2 arg3 harg3 arg4 harg4 arg5 harg5).rb f8; rw [owns_whole]; iexact H8
    isplitl [H9]; · iapply slabs_of d (cx arg2 harg2 arg3 harg3 arg4 harg4 arg5 harg5).pb f9; rw [owns_whole]; iexact H9
    isplitl [H10]; · iapply slabs_of d (cx arg2 harg2 arg3 harg3 arg4 harg4 arg5 harg5).lag f10; rw [owns_whole]; iexact H10
    iapply slabs_of d (cx arg2 harg2 arg3 harg3 arg4 harg4 arg5 harg5).mu f11; rw [owns_whole]; iexact H11
  · iintro %x H
    iapply HK
    rw [← scopedRest0_eq d]
    iapply (own_end d arg2 harg2 arg3 harg3 arg4 harg4 arg5 harg5 I _)
    iexact H

variable (m : (ℓ : Loc nD τ sig) → Buf (Elt F) ℓ) (ρ : Dev nD → PrngReg)

/-- The inputs' blocks at a point. -/
def ins (c : Dev nD) (t : Fin cfg0.N) : Ins F := ⟨iblk m c 0 t, iblk m c 1 t, iblk m c 2 t⟩

/-- The launch's proof data: after the body each input's buffer at its block and the result's at `result` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result (ins m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = result (ins m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at any point of the grid. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl]
  unfold Pipeline.ΦA
  iintro ⟨⟨HS, HP⟩, Ho, ⟨%d0, H0⟩, ⟨%d1, H1⟩, ⟨%d2, H2⟩, ⟨%d3, H3⟩⟩
  iapply (body_triple c _ _ _ _ _ _ _ _ _ (ins m c t) _)
  isplitl [HS]; · iexact HS
  isplitl [H0]; · iexact H0
  isplitl [H1]; · iexact H1
  isplitl [H2]; · iexact H2
  isplitl [H3]; · iexists _; iexact H3
  iintro ⟨HS, H0, H1, H2, H3⟩
  isplitl [HS HP]
  · isplitl [HS]; · iexact HS
    iexact HP
  isplitl [Ho]; · iexact Ho
  isplitl [H0]; · iexact H0
  isplitl [H1]; · iexact H1
  isplitl [H2]; · iexact H2
  iexact H3

set_option backward.isDefEq.respectTransparency.types false in
/-- The run: the arrays end as the proof data has them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.States.lean ====
/-
  The state of a group through the two passes, on extended reals: the running maxima stay real, the
  weights are powers of two of the scores less a real reference point, and the accumulator is the
  weighted sum of the values seen so far.
-/
module

public import proofs.«01_k».proof.Proof.Reads
public import proofs.«01_k».proof.Proof.Whole

@[expose] public section

set_option maxRecDepth 16384

noncomputable section

namespace FlashD

open Idealize.ShloMosaic
open scoped BigOperators

/-- Row `i`, column `c` of a slab. -/
abbrev jx {R C : Nat} (i : Fin R) (c : Fin C) : (SS R C).Idx := Idealize.ShloMosaic.ix3 0 i c

theorem jx_eq {R C : Nat} (z : Fin 1) (i : Fin R) (c : Fin C) : (ix3 z i c : (SS R C).Idx) = jx i c := by
  funext a; fin_cases a
  · exact Subsingleton.elim (α := Fin 1) _ _
  · rfl
  · rfl

/-- A column's maximum of real scores is real. -/
theorem max_scores {n : Nat} (hn : 0 < n) (f : Fin n → EReal) (h : ∀ j, ∃ x : ℝ, f j = (x : EReal)) :
    ∃ x : ℝ, (Finset.univ : Finset (Fin n)).fold max (⊥ : EReal) f = (x : EReal) := by
  choose g hg using h
  rw [funext hg]
  exact fold_max_real hn g

variable (I : Ins Ideal) (q : FVec Ideal (SS 128 256) .bf16) (σ : ℕ → Fin 256 → ℝ)

/-- Row `i` of the values at key `j`. -/
def vAt (j : ℕ) (i : Fin 144) : EReal := I.v (ix3 0 i ⟨j % 8192, Nat.mod_lt _ (by decide)⟩)

theorem vb_apply (n : ℕ) (i : Fin 144) (j : Fin 1024) : vb I n (jx i j) = vAt I (1024 * n + j.val) i := rfl

/-- The scores of every block are the reals `σ`. -/
def Scores : Prop := ∀ n < 8, ∀ (j : Fin 1024) (c : Fin 256), score (F := Ideal) (kb I n) q (ix2 j c) = (σ (1024 * n + j.val) c : EReal)

/-- The two running maxima are one real. -/
def Base (s : Grp Ideal) : Prop := s.q2 = q ∧ ∀ c : Fin 256, ∃ x : ℝ, s.m (jx 0 c) = (x : EReal) ∧ s.mu (jx 0 c) = (x : EReal)
/-- The weights of block `n`, from a real reference point. -/
def Wt (n : ℕ) (p : FVec Ideal (SS 1024 256) .bf16) (rp : FVec Ideal (SS 1 256) .f32) : Prop :=
  ∀ c : Fin 256, ∃ ρ : ℝ, rp (jx 0 c) = (ρ : EReal) ∧ ∀ j : Fin 1024, p (jx j c) = Ideal.exp2 ((σ (1024 * n + j.val) c - ρ : ℝ) : EReal)
/-- The scores of block `n`. -/
def Sco (n : ℕ) (s : FVec Ideal (SS 1024 256) .f32) : Prop := ∀ (j : Fin 1024) (c : Fin 256), s (jx j c) = (σ (1024 * n + j.val) c : EReal)
/-- A row of reals. -/
def Reals (r : FVec Ideal (SS 1 256) .f32) : Prop := ∀ c : Fin 256, ∃ x : ℝ, r (jx 0 c) = (x : EReal)
/-- The values of the first `n` blocks, weighted. -/
def Acc (n : ℕ) (acc : FVec Ideal (SS 144 256) .f32) (r : FVec Ideal (SS 1 256) .f32) : Prop :=
  ∀ c : Fin 256, ∃ ρ : ℝ, r (jx 0 c) = (ρ : EReal) ∧ ∀ i : Fin 144, acc (jx i c) = wsum (fun j => σ j c) (fun j => vAt I j i) (1024 * n) ρ

variable {I q σ}

theorem smax_real (h : Scores I q σ) {n : ℕ} (hn : n < 8) (c : Fin 256) : ∃ x : ℝ, smax (F := Ideal) (score (kb I n) q) (ix2 0 c) = (x : EReal) := by
  rw [smax_apply]
  exact max_scores (by decide) _ fun j => ⟨_, h n hn j c⟩

/-- A block's scores taken. -/
theorem score_step (h : Scores I q σ) {n : ℕ} (hn : n < 8) {m mu : FVec Ideal (SS 1 256) .f32}
    (hm : ∀ c : Fin 256, ∃ x : ℝ, m (jx 0 c) = (x : EReal) ∧ mu (jx 0 c) = (x : EReal)) :
    (∀ c : Fin 256, ∃ x : ℝ, payM (F := Ideal) (kb I n) q m (jx 0 c) = (x : EReal) ∧ payMu (F := Ideal) (kb I n) q mu (jx 0 c) = (x : EReal))
      ∧ Wt σ n (payP (F := Ideal) (kb I n) q m mu) (payRef (F := Ideal) m mu) := by
  constructor
  · intro c
    obtain ⟨x, h1, h2⟩ := hm c
    obtain ⟨y, hy⟩ := smax_real h hn c
    refine ⟨max x y, ?_, ?_⟩
    · unfold payM
      rw [slab_apply]
      show max (row (F := Ideal) m (ix2 0 c)) (smax (F := Ideal) (score (kb I n) q) (ix2 0 c) + zrow (F := Ideal) (ix2 0 c)) = _
      rw [row_apply, hy, zrow_apply, h1, add_zero, max_coe]
    · unfold payMu
      rw [slab_apply]
      show max (row (F := Ideal) mu (ix2 0 c)) (smax (F := Ideal) (score (kb I n) q) (ix2 0 c) + zrow (F := Ideal) (ix2 0 c) - zrow (F := Ideal) (ix2 0 c)) = _
      rw [row_apply, hy, zrow_apply, h2, add_zero, sub_zero, max_coe]
  · intro c
    obtain ⟨x, h1, h2⟩ := hm c
    have hr : refRow (F := Ideal) m mu (ix2 0 c) = (x : EReal) := by
      show max (row (F := Ideal) m (ix2 0 c)) (row (F := Ideal) mu (ix2 0 c) + zrow (F := Ideal) (ix2 0 c)) = _
      rw [row_apply, row_apply, zrow_apply, h1, h2, add_zero, max_self]
    refine ⟨x, ?_, fun j => ?_⟩
    · unfold payRef
      rw [slab_apply, hr]
    · unfold payP
      rw [weigh_apply, h n hn j c]
      show Ideal.exp2 (_ - (refRow (F := Ideal) m mu (ix2 0 c) - zrow (F := Ideal) (ix2 0 c))) = _
      rw [hr, zrow_apply, sub_zero, ← EReal.coe_sub]

/-- A block's values added. -/
theorem value_step {n : ℕ} {p : FVec Ideal (SS 1024 256) .bf16} {rp r : FVec Ideal (SS 1 256) .f32} {acc : FVec Ideal (SS 144 256) .f32}
    (hp : Wt σ n p rp) (ha : Acc I σ n acc r) : Acc I σ (n + 1) (payAcc (F := Ideal) (vb I n) rp acc r p) (payR (F := Ideal) rp) := by
  intro c
  obtain ⟨ρ', h1, h2⟩ := hp c
  obtain ⟨ρ, h3, h4⟩ := ha c
  refine ⟨ρ', ?_, fun i => ?_⟩
  · unfold payR
    rw [slab_apply, row_apply, h1]
  · unfold payAcc
    rw [accum_apply, h4 i]
    show _ * Ideal.exp2 (row (F := Ideal) r (ix2 0 c) - row (F := Ideal) rp (ix2 0 c)) + _ = _
    rw [row_apply, row_apply, h1, h3, ← EReal.coe_sub, Nat.mul_succ, ← wsum_step _ _ _ _ ρ ρ']
    refine congrArg _ (Finset.sum_congr rfl fun j _ => ?_)
    rw [h2 j]
    rfl

/-- The careful pass: a block's values added. -/
theorem care_step {n : ℕ} {s : FVec Ideal (SS 1024 256) .f32} {mx m : FVec Ideal (SS 1 256) .f32} {acc : FVec Ideal (SS 144 256) .f32}
    (hs : Sco σ n s) (hx : Reals mx)
    (ha : Acc I σ n acc m) :
    Acc I σ (n + 1) (payAccF (F := Ideal) (vb I n) acc (payAF (F := Ideal) m mx) (payPF (F := Ideal) m mx s)) (payMF (F := Ideal) m mx) := by
  intro c
  obtain ⟨y, hy⟩ := hx c
  obtain ⟨ρ, h3, h4⟩ := ha c
  have hr : maximumf (row (F := Ideal) m) (row (F := Ideal) mx) (ix2 0 c) = ((max ρ y : ℝ) : EReal) := by
    show max (row (F := Ideal) m (ix2 0 c)) (row (F := Ideal) mx (ix2 0 c)) = _
    rw [row_apply, row_apply, h3, hy, max_coe]
  refine ⟨max ρ y, ?_, fun i => ?_⟩
  · unfold payMF
    rw [slab_apply, hr]
  · unfold payAccF
    rw [accum_apply, h4 i, row_apply]
    unfold payAF
    rw [slab_apply]
    show _ * Ideal.exp2 (row (F := Ideal) m (ix2 0 c) - maximumf (row (F := Ideal) m) (row (F := Ideal) mx) (ix2 0 c)) + _ = _
    rw [row_apply, h3, hr, ← EReal.coe_sub, Nat.mul_succ, ← wsum_step _ _ _ _ ρ (max ρ y)]
    refine congrArg _ (Finset.sum_congr rfl fun j _ => ?_)
    unfold payPF
    rw [weigh_apply, hr]
    have hc : (shapeCast (SM 1024 256) s (by decide) : FVec Ideal (SM 1024 256) .f32) (ix2 j c) = s (jx j c) := by pointwise
    rw [hc, hs j c, ← EReal.coe_sub]
    rfl

theorem scoreF_step (h : Scores I q σ) {n : ℕ} (hn : n < 8) :
    Sco σ n (paySF (F := Ideal) (kb I n) q) ∧ Reals (payMxF (F := Ideal) (kb I n) q) := by
  constructor
  · intro j c
    have hc : paySF (F := Ideal) (kb I n) q (jx j c) = score (F := Ideal) (kb I n) q (ix2 j c) := by
      unfold paySF
      generalize score (F := Ideal) (kb I n) q = x
      pointwise
    rw [hc, h n hn j c]
  · intro c
    unfold payMxF
    rw [slab_apply]
    exact smax_real h hn c

theorem fill_zero {R C : Nat} (hc : (SG R C).ShapeCasts (SG R C)) (j : (SG R C).Idx) : fill (F := Ideal) R C 0x00000000#32 hc j = 0 := by
  show Ideal.ofBits .f32 0x00000000#32 = 0
  exact Ideal.ofBits_zero_f32

theorem acc0_zero (g : Fin 8) (j : (SS 144 256).Idx) : acc0 (F := Ideal) g j = 0 := fill_zero casts_144 (ix3 g (j 1) (j 2))

theorem acc_start {g : Fin 8} {r : FVec Ideal (SS 1 256) .f32} (h : Reals r) : Acc I σ 0 (acc0 (F := Ideal) g) r := by
  intro c
  obtain ⟨x, hx⟩ := h c
  refine ⟨x, hx, fun i => ?_⟩
  rw [acc0_zero, Nat.mul_zero, wsum_zero]

/-- The main pass before block `n`'s values. -/
def MainAt (I : Ins Ideal) (q : FVec Ideal (SS 128 256) .bf16) (σ : ℕ → Fin 256 → ℝ) (n : ℕ) (s : Grp Ideal) : Prop :=
  Base q s ∧ Wt σ n s.pa s.ra ∧ Acc I σ n s.acc s.r
/-- The careful pass before block `n`'s values. -/
def CareAt (I : Ins Ideal) (q : FVec Ideal (SS 128 256) .bf16) (σ : ℕ → Fin 256 → ℝ) (n : ℕ) (s : Grp Ideal) : Prop :=
  s.q2 = q ∧ Sco σ n s.sa ∧ Reals s.ra ∧ Acc I σ n s.acc s.m

attribute [local irreducible] payMxF paySF payM payMu payP payRef payAcc payAccF payAF payPF payMF payR payLag kb vb

theorem trip_at (h : Scores I q σ) {n : ℕ} (hn : 2 * n + 2 < 8) {s : Grp Ideal} (hs : MainAt I q σ (2 * n) s) : MainAt I q σ (2 * n + 2) (trip I n s) := by
  obtain ⟨⟨hq, hm⟩, hp, ha⟩ := hs
  obtain ⟨q2, m, r, acc, pa, sa, sb, ra, rb, pb, lag, mu⟩ := s
  dsimp only at hq hm hp ha
  subst hq
  obtain ⟨hm1, hp1⟩ := score_step h (n := 2 * n + 1) (by omega) hm
  obtain ⟨hm2, hp2⟩ := score_step h (n := 2 * n + 2) hn hm1
  exact ⟨⟨rfl, hm2⟩, hp2, value_step hp1 (value_step hp ha)⟩

theorem ftrip_at (h : Scores I q σ) {n : ℕ} (hn : 2 * n + 2 < 8) {s : Grp Ideal} (hs : CareAt I q σ (2 * n) s) : CareAt I q σ (2 * n + 2) (ftrip I n s) := by
  obtain ⟨hq, hsa, hra, ha⟩ := hs
  obtain ⟨q2, m, r, acc, pa, sa, sb, ra, rb, pb, lag, mu⟩ := s
  dsimp only at hq hsa hra ha
  subst hq
  obtain ⟨hs1, hx1⟩ := scoreF_step h (n := 2 * n + 1) (by omega)
  obtain ⟨hs2, hx2⟩ := scoreF_step h (n := 2 * n + 2) hn
  exact ⟨rfl, hs2, hx2, care_step hs1 hx1 (care_step hsa hra ha)⟩

theorem trips_at (h : Scores I q σ) (k : ℕ) (hk : k ≤ 3) {s : Grp Ideal} (hs : MainAt I q σ 0 s) : MainAt I q σ (2 * k) (iter (trip I) k s) := by
  induction k with
  | zero => exact hs
  | succ k ih => exact trip_at h (n := k) (by omega) (ih (by omega))

theorem ftrips_at (h : Scores I q σ) (k : ℕ) (hk : k ≤ 3) {s : Grp Ideal} (hs : CareAt I q σ 0 s) : CareAt I q σ (2 * k) (iter (ftrip I) k s) := by
  induction k with
  | zero => exact hs
  | succ k ih => exact ftrip_at h (n := k) (by omega) (ih (by omega))

/-- After the main pass. -/
theorem main_at (g : Fin 8) (h : Scores I (q2of I g) σ) (hf : ∀ c : Fin 256, ∃ x : ℝ, probeMax (F := Ideal) (kprb I) (q2of I g) (ix2 0 c) = (x : EReal))
    (s : Grp Ideal) : (tMain I g s).q2 = q2of I g ∧ Acc I σ 8 (tMain I g s).acc (tMain I g s).r := by
  have h0 : MainAt I (q2of I g) σ 0 (tStart I g s) := by
    have hm : ∀ c : Fin 256, ∃ x : ℝ, payFirst (F := Ideal) (kprb I) (q2of I g) (jx 0 c) = (x : EReal) ∧ payFirstMu (F := Ideal) (kprb I) (q2of I g) (jx 0 c) = (x : EReal) := by
      intro c
      obtain ⟨x, hx⟩ := hf c
      refine ⟨x, ?_, ?_⟩
      · unfold payFirst
        rw [slab_apply, hx]
      · unfold payFirstMu
        rw [slab_apply]
        show probeMax (F := Ideal) (kprb I) (q2of I g) (ix2 0 c) - zrow (F := Ideal) (ix2 0 c) = _
        rw [hx, zrow_apply, sub_zero]
    obtain ⟨hm1, hp1⟩ := score_step h (n := 0) (by decide) hm
    exact ⟨⟨rfl, hm1⟩, hp1, acc_start (g := g) fun c => ⟨_, (hm c).choose_spec.1⟩⟩
  have h6 := trips_at h 3 le_rfl h0
  unfold tMain
  generalize iter (trip I) 3 (tStart I g s) = s' at h6
  obtain ⟨⟨hq, hm⟩, hp, ha⟩ := h6
  obtain ⟨q2, m, r, acc, pa, sa, sb, ra, rb, pb, lag, mu⟩ := s'
  dsimp only at hq hm hp ha
  subst hq
  obtain ⟨hm1, hp1⟩ := score_step h (n := 7) (by decide) hm
  exact ⟨rfl, value_step hp1 (value_step hp ha)⟩

/-- After the careful pass. -/
theorem care_at (g : Fin 8) (h : Scores I q σ) (s : Grp Ideal) (hq : s.q2 = q) : Acc I σ 8 (tCare I g s).acc (tCare I g s).m := by
  have h0 : CareAt I q σ 0 (tFScoreA (kb I 0) { s with m := m0 g, acc := acc0 g }) := by
    subst hq
    obtain ⟨hs1, hx1⟩ := scoreF_step h (n := 0) (by decide)
    exact ⟨rfl, hs1, hx1, acc_start (g := g) fun c => ofBits_low⟩
  have h6 := ftrips_at h 3 le_rfl h0
  unfold tCare
  generalize iter (ftrip I) 3 (tFScoreA (kb I 0) { s with m := m0 g, acc := acc0 g }) = s' at h6
  obtain ⟨hq, hsa, hra, ha⟩ := h6
  obtain ⟨q2, m, r, acc, pa, sa, sb, ra, rb, pb, lag, mu⟩ := s'
  dsimp only at hq hsa hra ha
  subst hq
  obtain ⟨hs1, hx1⟩ := scoreF_step h (n := 7) (by decide)
  exact care_step hs1 hx1 (care_step hsa hra ha)

theorem last_cases (P : Grp Ideal → Prop) (S : Fin 8 → Grp Ideal) (g : Fin 8) (h1 : P (tCare I g (S g))) (h2 : P (S g)) : P (tLast I S g) := by
  unfold tLast
  split
  · exact h1
  · exact h2

/-- A column of an accumulator at the end: every value, weighted. -/
def Done (I : Ins Ideal) (σ : ℕ → Fin 256 → ℝ) (acc : FVec Ideal (SS 144 256) .f32) : Prop :=
  ∀ c : Fin 256, ∃ ρ : ℝ, ∀ i : Fin 144, acc (jx i c) = wsum (fun j => σ j c) (fun j => vAt I j i) (1024 * 8) ρ

theorem Acc.done {acc : FVec Ideal (SS 144 256) .f32} {r : FVec Ideal (SS 1 256) .f32} (h : Acc I σ 8 acc r) : Done I σ acc := by
  intro c
  obtain ⟨ρ, -, h'⟩ := h c
  exact ⟨ρ, h'⟩

/-- At the end, whichever pass was the last. -/
theorem last_at (g : Fin 8) (h : Scores I (q2of I g) σ) (S : Fin 8 → Grp Ideal) (hq : (S g).q2 = q2of I g) (ha : Acc I σ 8 (S g).acc (S g).r) :
    Done I σ (tLast I S g).acc :=
  last_cases (fun s => Done I σ s.acc) S g (care_at g h (S g) hq).done ha.done

theorem end_at (g : Fin 8) (h : Scores I (q2of I g) σ) (hf : ∀ c : Fin 256, ∃ x : ℝ, probeMax (F := Ideal) (kprb I) (q2of I g) (ix2 0 c) = (x : EReal))
    (S : Fin 8 → Grp Ideal) : Done I σ (tEnd I S g).acc := by
  unfold tEnd
  exact last_at g h (fun g => tMain I g (S g)) (main_at g h hf (S g)).1 (main_at g h hf (S g)).2

end FlashD

end
-- ==== Proof.Value.lean ====
/-
  The body's result at an index, on extended reals: the average of a head's values, weighted by the
  powers of two of the scores.
-/
module

public import proofs.«01_k».proof.Proof.States

@[expose] public section

set_option maxRecDepth 16384

noncomputable section

namespace FlashD

open Idealize.ShloMosaic
open scoped BigOperators

variable (I : Ins Ideal)

theorem qchk_apply (w : Fin 4) (i : Fin 128) (c : Fin 256) : qchk I w (jx i c) = I.q (jx ⟨128 * w.val + i.val, by omega⟩ c) := by
  refine congrArg I.q ?_
  funext a
  apply Fin.ext
  rw [Rect.emb_apply]
  fin_cases a
  · rfl
  · show 128 * w.val + 1 * i.val = 128 * w.val + i.val; omega
  · show 0 + 1 * c.val = c.val; omega

theorem kprb_apply (j i : Fin 128) : kprb I (jx j i) = I.k (jx ⟨j.val, by omega⟩ i) := by
  refine congrArg I.k ?_
  funext a
  apply Fin.ext
  rw [Rect.emb_apply]
  fin_cases a
  · rfl
  · show 0 + 1 * j.val = j.val; omega
  · show 0 + 1 * i.val = i.val; omega

theorem kb_apply (n : ℕ) (j : Fin 1024) (i : Fin 128) : kb I n (jx j i) = I.k (jx ⟨(1024 * n + j.val) % 8192, Nat.mod_lt _ (by decide)⟩ i) :=
  congrArg I.k (jx_eq _ _ _)

/-- The group of chunk `w` and half `s`. -/
def grp (w : Fin 4) (s : Fin 2) : Fin 8 := ⟨2 * w.val + s.val, by omega⟩

theorem q2of_apply (w : Fin 4) (s : Fin 2) (i : Fin 128) (c : Fin 256) :
    q2of I (grp w s) (jx i c) = if i.val / 64 = s.val then I.q (jx ⟨128 * w.val + i.val, by omega⟩ c) else 0 := by
  have hT : ∀ w : Fin 4, payTop (F := Ideal) (qchk I w) (jx i c) = if i.val / 64 = 0 then I.q (jx ⟨128 * w.val + i.val, by omega⟩ c) else 0 := by
    intro w
    rw [payTop_apply, qchk_apply]
    by_cases h : i.val < 64
    · rw [if_pos h, if_pos (by omega)]
    · rw [if_neg h, if_neg (by omega)]
  have hB : ∀ w : Fin 4, payBot (F := Ideal) (qchk I w) (jx i c) = if i.val / 64 = 1 then I.q (jx ⟨128 * w.val + i.val, by omega⟩ c) else 0 := by
    intro w
    rw [payBot_apply, qchk_apply]
    by_cases h : i.val < 64
    · rw [if_pos h, if_neg (by omega)]
    · rw [if_neg h, if_pos (by omega)]
  have e : ∀ w : Fin 4, q2of I (grp w 0) = payTop (qchk I w) ∧ q2of I (grp w 1) = payBot (qchk I w) := by
    intro w
    fin_cases w <;> exact ⟨rfl, rfl⟩
  obtain rfl | rfl : s = 0 ∨ s = 1 := by omega
  · rw [(e w).1]; exact hT w
  · rw [(e w).2]; exact hB w

/-- A half of the columns of a product. -/
theorem half_sum (s : Fin 2) (f : Fin 128 → ℝ) : (∑ i : Fin 128, if i.val / 64 = s.val then f i else 0) = ∑ d : Fin 64, f ⟨64 * s.val + d.val, by omega⟩ := by
  have e := Fin.sum_univ_add (a := 64) (b := 64) (fun i : Fin (64 + 64) => if i.val / 64 = s.val then f i else 0)
  refine Eq.trans e ?_
  obtain rfl | rfl : s = 0 ∨ s = 1 := by omega
  · have h2 : (∑ i : Fin 64, if (Fin.natAdd 64 i : Fin (64 + 64)).val / 64 = (0 : Fin 2).val then f (Fin.natAdd 64 i) else 0) = 0 :=
      Finset.sum_eq_zero fun i _ => if_neg (by rw [Fin.val_natAdd]; show ¬ (64 + i.val) / 64 = 0; omega)
    rw [h2, add_zero]
    refine Finset.sum_congr rfl fun i _ => ?_
    rw [if_pos (by rw [Fin.val_castAdd]; show i.val / 64 = 0; omega)]
    refine congrArg f (Fin.ext ?_)
    show i.val = 64 * 0 + i.val; omega
  · have h2 : (∑ i : Fin 64, if (Fin.castAdd 64 i : Fin (64 + 64)).val / 64 = (1 : Fin 2).val then f (Fin.castAdd 64 i) else 0) = 0 :=
      Finset.sum_eq_zero fun i _ => if_neg (by rw [Fin.val_castAdd]; show ¬ i.val / 64 = 1; omega)
    rw [h2, zero_add]
    refine Finset.sum_congr rfl fun i _ => ?_
    rw [if_pos (by rw [Fin.val_natAdd]; show (64 + i.val) / 64 = 1; omega)]
    refine congrArg f (Fin.ext ?_)
    show 64 + i.val = 64 * 1 + i.val; omega

section

variable {I} {Q : Fin 512 → Fin 256 → ℝ} {K : Fin 8192 → Fin 128 → ℝ}

/-- The score of key `j` in a head's column `c`. -/
def sig (Q : Fin 512 → Fin 256 → ℝ) (K : Fin 8192 → Fin 128 → ℝ) (w : Fin 4) (s : Fin 2) (j : ℕ) (c : Fin 256) : ℝ :=
  ∑ d : Fin 64, K ⟨j % 8192, Nat.mod_lt _ (by decide)⟩ ⟨64 * s.val + d.val, by omega⟩ * Q ⟨128 * w.val + (64 * s.val + d.val), by omega⟩ c

theorem dot_real (hQ : ∀ i c, I.q (jx i c) = (Q i c : EReal)) (w : Fin 4) (s : Fin 2) (c : Fin 256) (k : Fin 128 → ℝ) :
    (∑ i : Fin 128, (k i : EReal) * q2of I (grp w s) (jx i c)) = ((∑ d : Fin 64, k ⟨64 * s.val + d.val, by omega⟩ * Q ⟨128 * w.val + (64 * s.val + d.val), by omega⟩ c : ℝ) : EReal) := by
  rw [← half_sum s (fun i => k i * Q ⟨128 * w.val + i.val, by omega⟩ c), ← sum_coe]
  refine Finset.sum_congr rfl fun i _ => ?_
  rw [q2of_apply]
  split
  · rw [hQ, EReal.coe_mul]
  · rw [mul_zero, EReal.coe_zero]

theorem scores (hQ : ∀ i c, I.q (jx i c) = (Q i c : EReal)) (hK : ∀ j i, I.k (jx j i) = (K j i : EReal)) (w : Fin 4) (s : Fin 2) :
    Scores I (q2of I (grp w s)) (sig Q K w s) := by
  intro n _ j c
  rw [score_apply]
  refine Eq.trans (Finset.sum_congr rfl fun i _ => ?_) (dot_real hQ w s c (K ⟨(1024 * n + j.val) % 8192, Nat.mod_lt _ (by decide)⟩))
  exact congrArg (· * _) ((kb_apply I n j i).trans (hK _ _))

theorem probes (hQ : ∀ i c, I.q (jx i c) = (Q i c : EReal)) (hK : ∀ j i, I.k (jx j i) = (K j i : EReal)) (w : Fin 4) (s : Fin 2) (c : Fin 256) :
    ∃ x : ℝ, probeMax (F := Ideal) (kprb I) (q2of I (grp w s)) (ix2 0 c) = (x : EReal) := by
  rw [probeMax_apply]
  refine max_scores (by decide) _ fun j => ⟨_, Eq.trans (Finset.sum_congr rfl fun i _ => ?_) (dot_real hQ w s c (K ⟨j.val, by omega⟩))⟩
  exact congrArg (· * _) ((kprb_apply I j i).trans (hK _ _))

theorem accRows_apply (R r : ℕ) (h : r + R ≤ 144) (A : Fin 8 → Vec Ideal (SS 144 256) .f32) (g : Fin 8) (i : Fin R) (c : Fin 256) :
    accRows (F := Ideal) R r h A g (jx i c) = A g (jx ⟨r + i.val, by omega⟩ c) := by
  have e : (rpt R r h g).emb (jx i c) = ix3 g ⟨r + i.val, by omega⟩ c := by
    funext a
    apply Fin.ext
    rw [Rect.emb_apply]
    fin_cases a
    · rfl
    · show r + 1 * i.val = r + i.val; omega
    · show 0 + 1 * c.val = c.val; omega
  show glue A ((rpt R r h g).emb (jx i c)) = _
  rw [e]
  exact congrArg (A g) (jx_eq _ _ _)

/-- One column of one group's quotient. -/
theorem quot_done {σ : ℕ → Fin 256 → ℝ} {acc : FVec Ideal (SS 144 256) .f32} (h : Done I σ acc) (h1 : ∀ j, I.v (jx 128 j) = 1) (i : Fin 144) (c : Fin 256) :
    Ideal.div (acc (jx i c)) (acc (jx 128 c)) = mean (fun j => Real.rpow 2 (σ j c)) (fun j => vAt I j i) (1024 * 8) := by
  obtain ⟨ρ, hρ⟩ := h c
  have e : (fun j => vAt I j 128) = fun _ => (1 : EReal) := funext fun j => (congrArg I.v (jx_eq _ _ _)).trans (h1 _)
  rw [hρ i, hρ 128, e]
  exact wsum_div (fun j => σ j c) (fun j => vAt I j i) (1024 * 8) (by decide) ρ

theorem out_apply (A : Fin 8 → Vec Ideal (SS 144 256) .f32) (w : Fin 4) (s : Fin 2) (d : Fin 64) (c : Fin 256) :
    outOf (F := Ideal) A w (jx c ⟨64 * s.val + d.val, by omega⟩) = Ideal.div (A (grp w s) (jx ⟨64 * s.val + d.val, by omega⟩ c)) (A (grp w s) (jx 128 c)) := by
  unfold outOf
  rw [payO_apply]
  obtain rfl | rfl : s = 0 ∨ s = 1 := by omega
  · refine (dif_pos (show 64 * 0 + d.val < 64 by omega)).trans ?_
    rw [accRows_apply, accRows_apply]
    refine congrArg₂ Ideal.div (congrArg (A (grp w 0)) (congrArg (jx · c) (Fin.ext ?_))) rfl
    show 0 + (64 * 0 + d.val) = 64 * 0 + d.val; omega
  · refine (dif_neg (show ¬ 64 * 1 + d.val < 64 by omega)).trans ?_
    rw [accRows_apply, accRows_apply]
    refine congrArg₂ Ideal.div (congrArg (A (grp w 1)) (congrArg (jx · c) (Fin.ext ?_))) rfl
    show 64 + (64 * 1 + d.val - 64) = 64 * 1 + d.val; omega

theorem result_apply (hQ : ∀ i c, I.q (jx i c) = (Q i c : EReal)) (hK : ∀ j i, I.k (jx j i) = (K j i : EReal)) (h1 : ∀ j, I.v (jx 128 j) = 1)
    (w : Fin 4) (s : Fin 2) (d : Fin 64) (c : Fin 256) :
    result I (jx c ⟨128 * w.val + (64 * s.val + d.val), by omega⟩)
      = mean (fun j => Real.rpow 2 (sig Q K w s j c)) (fun j => vAt I j ⟨64 * s.val + d.val, by omega⟩) (1024 * 8) := by
  have e : result I (jx c ⟨128 * w.val + (64 * s.val + d.val), by omega⟩) = outOf (F := Ideal) (fun g => (tEnd I (fun _ => zGrp) g).acc) w (jx c ⟨64 * s.val + d.val, by omega⟩) := by
    unfold result glueO
    generalize outOf (F := Ideal) (fun g => (tEnd I (fun _ => zGrp) g).acc) = O
    have hw : (⟨(128 * w.val + (64 * s.val + d.val)) / 128, by omega⟩ : Fin 4) = w := Fin.ext (by show (128 * w.val + (64 * s.val + d.val)) / 128 = w.val; omega)
    have hd : (⟨(128 * w.val + (64 * s.val + d.val)) % 128, Nat.mod_lt _ (by decide)⟩ : Fin 128) = ⟨64 * s.val + d.val, by omega⟩ :=
      Fin.ext (by show (128 * w.val + (64 * s.val + d.val)) % 128 = 64 * s.val + d.val; omega)
    show O ⟨(128 * w.val + (64 * s.val + d.val)) / 128, _⟩ (ix3 0 c ⟨(128 * w.val + (64 * s.val + d.val)) % 128, _⟩) = _
    rw [hw, hd, jx_eq]
  rw [e, out_apply]
  exact quot_done (end_at (grp w s) (scores hQ hK w s) (probes hQ hK w s) _) h1 _ c

end

end FlashD

end
-- ==== Proof.KernelIdealValue.lean ====
/-
  The ideal kernel's result: the operands that the launch finds, read at an index, and the result array
  after the run.
-/
module

public import proofs.«01_k».proof.Proof.KernelIdealRun
public import proofs.«01_k».proof.Proof.Value
public import proofs.«01_k».proof.Proof.RefValue
public import Idealize.ShloMosaic.Lib.Pipeline.ValueKit

@[expose] public section

set_option maxRecDepth 16384

noncomputable section

namespace Cert.KernelIdeal.AtIdeal

open Cert.KernelIdeal Cert.KernelIdeal.Gen Cert.KernelIdeal.Body Idealize.ShloMosaic Idealize.ShloMosaic.TcCoe
open Idealize.SL.Sem
open scoped BigOperators

variable (m : (ℓ : Loc nD τ sig) → Buf (Elt Ideal) ℓ)

/-- The arguments, as the reference's functions take them. -/
abbrev argQ (c : Dev nD) : FVec Ideal Cert.ReferenceIdeal.S8x8192x8x64 .f32 := m ((c : Thread nD τ).loc main_arg0)
abbrev argK (c : Dev nD) : FVec Ideal Cert.ReferenceIdeal.S8x8192x2x64 .f32 := m ((c : Thread nD τ).loc main_arg1)
abbrev argV (c : Dev nD) : FVec Ideal Cert.ReferenceIdeal.S8x8192x2x64 .f32 := m ((c : Thread nD τ).loc main_arg2)

/-- The literal two. -/
theorem ofBits_two : Ideal.ofBits .f32 0x40000000#32 = ((2 : ℝ) : EReal) := by
  simp [Ideal.ofBits, Ideal.ieee, -EReal.coe_mul]; norm_num

theorem log_two_ne : Real.log 2 ≠ 0 := (Real.log_pos (by norm_num)).ne'

/-- An eighth over the logarithm of two. -/
theorem ratio : Ideal.div (Ideal.ofBits .f32 0x3E000000#32) (Ideal.log (Ideal.ofBits .f32 0x40000000#32)) = ((0.125 / Real.log 2 : ℝ) : EReal) := by
  rw [ofBits_two, Cert.ReferenceIdeal.AtIdeal.ofBits_eighth, Ideal.log_coe, if_neg (by norm_num), Ideal.div_coe log_two_ne, ← EReal.coe_mul]
  congr 1
  rw [mul_one_div]

theorem v7_apply (c : Dev nD) (b : Fin 8) (w : Fin 4) (s : Fin 2) (e : Fin 64) (t : Fin 8192) :
    V m c main_v7 (ix3 b ⟨128 * w.val + (64 * s.val + e.val), by omega⟩ t)
      = (argQ m c (ix4 b t ⟨4 * s.val + w.val, by omega⟩ e) : EReal) * ((0.125 / Real.log 2 : ℝ) : EReal) := by
  have hw := w.isLt
  have hs := s.isLt
  have he := e.isLt
  entry_read
  pointwise
  have e1 : (⟨(128 * w.val + (64 * s.val + e.val)) / 64 % 2 * 4 + (128 * w.val + (64 * s.val + e.val)) / 128, by omega⟩ : Fin 8) = ⟨4 * s.val + w.val, by omega⟩ :=
    Fin.ext (by show (128 * w.val + (64 * s.val + e.val)) / 64 % 2 * 4 + (128 * w.val + (64 * s.val + e.val)) / 128 = 4 * s.val + w.val; omega)
  have e2 : (⟨(128 * w.val + (64 * s.val + e.val)) % 64, by omega⟩ : Fin 64) = e := Fin.ext (by show (128 * w.val + (64 * s.val + e.val)) % 64 = e.val; omega)
  rw [e1, e2, ratio]

theorem v9_apply (c : Dev nD) (b : Fin 8) (j : Fin 8192) (s : Fin 2) (e : Fin 64) :
    V m c main_v9 (ix3 b j ⟨64 * s.val + e.val, by omega⟩) = argK m c (ix4 b j s e) := by
  have hs := s.isLt
  have he := e.isLt
  entry_read
  pointwise
  have e1 : (⟨(64 * s.val + e.val) / 64, by omega⟩ : Fin 2) = s := Fin.ext (by show (64 * s.val + e.val) / 64 = s.val; omega)
  have e2 : (⟨(64 * s.val + e.val) % 64, by omega⟩ : Fin 64) = e := Fin.ext (by show (64 * s.val + e.val) % 64 = e.val; omega)
  rw [e1, e2]

theorem v14_apply (c : Dev nD) (b : Fin 8) (j : Fin 8192) (s : Fin 2) (e : Fin 64) :
    V m c main_v14 (ix3 b ⟨64 * s.val + e.val, by omega⟩ j) = argV m c (ix4 b j s e) := by
  have hs := s.isLt
  have he := e.isLt
  entry_read
  pointwise
  have e1 : (⟨(64 * s.val + e.val) / 64, by omega⟩ : Fin 2) = s := Fin.ext (by show (64 * s.val + e.val) / 64 = s.val; omega)
  have e2 : (⟨(64 * s.val + e.val) % 64, by omega⟩ : Fin 64) = e := Fin.ext (by show (64 * s.val + e.val) % 64 = e.val; omega)
  have h : 64 * s.val + e.val < 128 := by omega
  simp only [h, ↓reduceDIte, e1, e2]

theorem v14_one (c : Dev nD) (b : Fin 8) (j : Fin 8192) : V m c main_v14 (ix3 b (128 : Fin 144) j) = (1 : EReal) := by
  entry_read
  pointwise

/-! ## The blocks at a point -/

theorem pt_lt (t : Fin cfg0.N) : t.val < 256 := lt_of_lt_of_eq t.isLt N_0

/-- A point's batch. -/
def bt (t : Fin cfg0.N) : Fin 8 := ⟨t.val / 32, by have := pt_lt t; omega⟩
/-- A point's query of a column of its block. -/
def qt (t : Fin cfg0.N) (u : Fin 256) : Fin 8192 := ⟨t.val % 32 * 256 + u.val, by omega⟩

theorem idx : ∀ t : Fin cfg0.N, win0_0.index t = ![t.val / 32, 0, t.val % 32] ∧ win0_1.index t = ![t.val / 32, 0, 0]
    ∧ win0_2.index t = ![t.val / 32, 0, 0] ∧ win0_3.index t = ![t.val / 32, t.val % 32, 0] :=
  (by decide +kernel : ∀ t : Fin grid0.N, _)

theorem iblk0_apply (c : Dev nD) (t : Fin cfg0.N) (i : Fin 512) (u : Fin 256) :
    (ins m c t).q (FlashD.jx i u) = V m c main_v7 (ix3 (bt t) i (qt t u)) := by
  show iblk m c 0 t (ix3 (0 : Fin 1) i u) = _
  unfold bt qt
  blk_ext [iblk, idx t]

theorem iblk1_apply (c : Dev nD) (t : Fin cfg0.N) (j : Fin 8192) (i : Fin 128) :
    (ins m c t).k (FlashD.jx j i) = V m c main_v9 (ix3 (bt t) j i) := by
  show iblk m c 1 t (ix3 (0 : Fin 1) j i) = _
  unfold bt
  blk_ext [iblk, idx t]

theorem iblk2_apply (c : Dev nD) (t : Fin cfg0.N) (i : Fin 144) (j : Fin 8192) :
    (ins m c t).v (FlashD.jx i j) = V m c main_v14 (ix3 (bt t) i j) := by
  show iblk m c 2 t (ix3 (0 : Fin 1) i j) = _
  unfold bt
  blk_ext [iblk, idx t]

/-! ## The result -/

/-- Two to the score in base two is the exponential of the score. -/
theorem rpow_two_div (x : ℝ) : Real.rpow 2 (x / Real.log 2) = Real.exp x := by
  show (2 : ℝ) ^ (x / Real.log 2) = _
  rw [Real.rpow_def_of_pos (by norm_num), mul_div_cancel₀ _ log_two_ne]

section

variable (c : Dev nD) {qr : Fin 8 → Fin 8192 → Fin 8 → Fin 64 → ℝ} {kr : Fin 8 → Fin 8192 → Fin 2 → Fin 64 → ℝ}

/-- A point's queries, scaled, a query a column. -/
def Qt (qr : Fin 8 → Fin 8192 → Fin 8 → Fin 64 → ℝ) (t : Fin cfg0.N) (i : Fin 512) (u : Fin 256) : ℝ :=
  qr (bt t) (qt t u) ⟨4 * (i.val / 64 % 2) + i.val / 128, by omega⟩ ⟨i.val % 64, by omega⟩ * (0.125 / Real.log 2)

/-- A point's keys, a key a row. -/
def Kt (kr : Fin 8 → Fin 8192 → Fin 2 → Fin 64 → ℝ) (t : Fin cfg0.N) (j : Fin 8192) (i : Fin 128) : ℝ :=
  kr (bt t) j ⟨i.val / 64, by omega⟩ ⟨i.val % 64, by omega⟩

theorem Qt_at (t : Fin cfg0.N) (w : Fin 4) (s : Fin 2) (e : Fin 64) (u : Fin 256) :
    Qt qr t ⟨128 * w.val + (64 * s.val + e.val), by omega⟩ u = qr (bt t) (qt t u) ⟨4 * s.val + w.val, by omega⟩ e * (0.125 / Real.log 2) := by
  have hw := w.isLt
  have hs := s.isLt
  have he := e.isLt
  unfold Qt
  congr 2
  · apply Fin.ext
    show 4 * ((128 * w.val + (64 * s.val + e.val)) / 64 % 2) + (128 * w.val + (64 * s.val + e.val)) / 128 = 4 * s.val + w.val
    omega
  · apply Fin.ext
    show (128 * w.val + (64 * s.val + e.val)) % 64 = e.val
    omega

theorem Kt_at (t : Fin cfg0.N) (j : Fin 8192) (s : Fin 2) (e : Fin 64) :
    Kt kr t j ⟨64 * s.val + e.val, by omega⟩ = kr (bt t) j s e := by
  have hs := s.isLt
  have he := e.isLt
  unfold Kt
  congr 1
  · apply Fin.ext
    show (64 * s.val + e.val) / 64 = s.val
    omega
  · apply Fin.ext
    show (64 * s.val + e.val) % 64 = e.val
    omega

theorem split128 (i : Fin 128) : ∃ (s : Fin 2) (e : Fin 64), i = ⟨64 * s.val + e.val, by omega⟩ :=
  ⟨⟨i.val / 64, by omega⟩, ⟨i.val % 64, by omega⟩, Fin.ext (by show i.val = 64 * (i.val / 64) + i.val % 64; omega)⟩

theorem split512 (i : Fin 512) : ∃ (w : Fin 4) (s : Fin 2) (e : Fin 64), i = ⟨128 * w.val + (64 * s.val + e.val), by omega⟩ :=
  ⟨⟨i.val / 128, by omega⟩, ⟨i.val / 64 % 2, by omega⟩, ⟨i.val % 64, by omega⟩,
    Fin.ext (by show i.val = 128 * (i.val / 128) + (64 * (i.val / 64 % 2) + i.val % 64); omega)⟩

/-- The kernel's score is the reference's over the logarithm of two. -/
theorem sig_eq (t : Fin cfg0.N) (w : Fin 4) (s : Fin 2) (u : Fin 256) (j : ℕ) :
    FlashD.sig (Qt qr t) (Kt kr t) w s j u = Cert.ReferenceIdeal.AtIdeal.tau qr kr (bt t) s w (qt t u) j / Real.log 2 := by
  unfold FlashD.sig Cert.ReferenceIdeal.AtIdeal.tau
  rw [mul_div_assoc, Finset.sum_mul]
  refine Finset.sum_congr rfl fun d _ => ?_
  rw [Qt_at, Kt_at, mul_assoc]

variable (hq : ∀ b t h d, argQ m c (ix4 b t h d) = (qr b t h d : EReal)) (hk : ∀ b j g d, argK m c (ix4 b j g d) = (kr b j g d : EReal))
include hq hk

/-- The block that a point leaves. -/
theorem block_apply (t : Fin cfg0.N) (w : Fin 4) (s : Fin 2) (d : Fin 64) (u : Fin 256) :
    FlashD.result (ins m c t) (FlashD.jx u ⟨128 * w.val + (64 * s.val + d.val), by omega⟩)
      = Cert.ReferenceIdeal.Read.val_main_v20 (F := Ideal) (argQ m c) (argK m c) (argV m c) (ix3 (bt t) (qt t u) ⟨128 * w.val + (64 * s.val + d.val), by omega⟩) := by
  have hQ : ∀ i u, (ins m c t).q (FlashD.jx i u) = (Qt qr t i u : EReal) := by
    intro i u
    obtain ⟨w, s, e, rfl⟩ := split512 i
    rw [iblk0_apply, v7_apply, hq, Qt_at, EReal.coe_mul]
  have hK : ∀ j i, (ins m c t).k (FlashD.jx j i) = (Kt kr t j i : EReal) := by
    intro j i
    obtain ⟨s, e, rfl⟩ := split128 i
    rw [iblk1_apply, v9_apply, hk, Kt_at]
  have h1 : ∀ j, (ins m c t).v (FlashD.jx 128 j) = (1 : EReal) := by
    intro j
    rw [iblk2_apply, v14_one]
  have hv : ∀ j : ℕ, FlashD.vAt (ins m c t) j ⟨64 * s.val + d.val, by omega⟩ = argV m c (ix4 (bt t) ⟨j % 8192, Nat.mod_lt _ (by decide)⟩ s d) := by
    intro j
    unfold FlashD.vAt
    rw [FlashD.jx_eq, iblk2_apply, v14_apply]
  refine (FlashD.result_apply hQ hK h1 w s d u).trans ?_
  rw [Cert.ReferenceIdeal.AtIdeal.result_apply hq hk, funext hv]
  congr 1
  funext j
  rw [sig_eq, rpow_two_div]

/-- The result array after the run: the reference's function of the arguments. -/
theorem final : (dats m 0 c).arrAt 3 cfg0.N = Cert.ReferenceIdeal.Read.val_main_v20 (F := Ideal) (argQ m c) (argK m c) (argV m c) := by
  refine (dats m 0 c).arrAt_eq_of_covers 3 _ (by decide +kernel) fun t hf y => ?_
  blk_simp
  rw [after0_3]
  have hy : ∃ (u : Fin 256) (i : Fin 512), y = ix3 (0 : Fin 1) u i :=
    ⟨⟨(y 1).val, (y 1).isLt⟩, ⟨(y 2).val, (y 2).isLt⟩, by
      funext a
      match a with
      | ⟨0, _⟩ => exact Fin.ext (Nat.lt_one_iff.mp (y 0).isLt)
      | ⟨1, _⟩ => rfl
      | ⟨2, _⟩ => rfl⟩
  obtain ⟨u, i, rfl⟩ := hy
  have he : (win0_3.blk t).view.emb (ix3 (0 : Fin 1) u i) = ix3 (bt t) (qt t u) i := by
    unfold bt qt
    blk_ext [idx t]
  rw [he]
  obtain ⟨w, s, d, rfl⟩ := split512 i
  exact block_apply m c hq hk t w s d u

end

/-- The kernel's run at the result: the reference's function of the arguments, given that the queries and the keys are real. -/
theorem run (ρ : Dev nD → PrngReg)
    (hq : ∀ c i, ∃ x : ℝ, argQ m c i = (x : EReal)) (hk : ∀ c i, ∃ x : ℝ, argK m c i = (x : EReal)) :
    θ_run defs (onTc (τ := τ) (main (F := Ideal))) ⟨m, fun _ => 0, ρ⟩ (fun r => ∀ c : Dev nD,
      r.2.mem ((c.tc : Thread nD τ).loc main_v15) = Cert.ReferenceIdeal.Read.val_main_v20 (F := Ideal) (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2.1 c⟩) (θ_run_and (run_main m ρ) (frame m ρ))
  choose q hq' using hq
  choose k hk' using hk
  have e := final m c (qr := fun b t g d => q c (ix4 b t g d)) (kr := fun b j g d => k c (ix4 b j g d)) (fun b t g d => hq' c _) (fun b j g d => hk' c _)
  exact ((h.1.1 c).1 3).trans e

end Cert.KernelIdeal.AtIdeal

end
-- ==== Proof.Dense.lean ====
/-
  Rows of the two dense calls: the normalization, the hidden values of the channel mixer, the gate of the merge.
-/
module

public import Idealize.ShloMosaic.PureOps.Ideal
public import Idealize.ShloMosaic.Lib.Pipeline.ValueKit

@[expose] public section

noncomputable section

namespace Cert.Dense

open Idealize.ShloMosaic
open scoped BigOperators

/-- Column `j` of the `n`-th of four stretches of 1024. -/
def col (n : Fin 4) (j : Fin 1024) : Fin 4096 := ⟨n.val * 1024 + j.val, by omega⟩

/-- The four stretches, summed one by one. -/
theorem sum_cols (f : Fin 4096 → EReal) : ∑ n : Fin 4, ∑ j : Fin 1024, f (col n j) = ∑ k, f k := by
  obtain ⟨F, hF⟩ : ∃ F : ℕ → EReal, ∀ k : Fin 4096, f k = F k.val := ⟨fun n => if h : n < 4096 then f ⟨n, h⟩ else 0, fun k => by simp⟩
  simp only [hF]
  exact Fin.sum_univ_univ_mul_add 4 1024 F

/-- A row over the root of its mean square, times a gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A product with a weight, cut off below at zero and squared. -/
def relu2 (h w : Fin 1024 → EReal) : EReal := max (∑ k, h k * w k) 0 * max (∑ k, h k * w k) 0

/-- A gate: the logistic function of a product with a weight plus a bias. -/
def gate (h w : Fin 1024 → EReal) (b : EReal) : EReal := Ideal.div 1 (1 + Ideal.exp (-((∑ k, h k * w k) + b)))

/-- One branch's share of the merge, gated. -/
def branch (h w : Fin 1024 → EReal) (b : EReal) (y p : Fin 512 → EReal) : EReal := gate h w b * ∑ k, y k * p k

end Cert.Dense

end
-- ==== Proof.FfnValue.lean ====
/-
  The channel mixer with the final normalization: the ideal kernel's result array is the reference's function
  of the arguments.
-/
module

public import proofs.«01_k».proof.Proof.Dense
public import proofs.«01_k».proof.Proof.Gen.FfnIdeal.Value
public import proofs.«01_k».proof.Proof.Gen.FfnReferenceIdeal.Read
public import Idealize.ShloMosaic.Lib.Pipeline.ValueKit

@[expose] public section

set_option maxRecDepth 16384

noncomputable section

namespace Cert.FfnIdeal.AtIdeal

open Cert.FfnIdeal Cert.FfnIdeal.Gen Idealize.ShloMosaic Idealize.ShloMosaic.TcCoe
open Idealize.SL.Sem
open Cert.Dense
open scoped BigOperators

theorem pay2_apply (x : Vec Ideal S512x1024 .f32) (g : Vec Ideal S1x1024 .f32) (u : Fin 512) (j : Fin 1024) :
    k0_pay2 x g (ix2 u j) = rms (fun k => x (ix2 u k)) (fun k => g (ix2 (0 : Fin 1) k)) j := by
  unfold k0_pay2 k0_pay1 rms
  pointwise

theorem pay3_apply (x : Vec Ideal S512x1024 .f32) (g : Vec Ideal S1x1024 .f32) (w w' : Vec Ideal S1024x1024 .bf16) (u : Fin 512) (j : Fin 1024) :
    k0_pay3 x g w w' (ix2 u j) = x (ix2 u j) + ∑ f, relu2 (fun k => k0_pay2 x g (ix2 u k)) (fun k => w (ix2 k f)) * w' (ix2 f j) := by
  unfold k0_pay3 k0_pay1 relu2
  generalize k0_pay2 x g = h
  pointwise

theorem pay4_apply (x : Vec Ideal S512x1024 .f32) (g : Vec Ideal S1x1024 .f32) (w w' : Vec Ideal S1024x1024 .bf16) (u : Fin 512) (j : Fin 1024) :
    k0_pay4 x g w w' (ix2 u j) = ∑ f, relu2 (fun k => k0_pay2 x g (ix2 u k)) (fun k => w (ix2 k f)) * w' (ix2 f j) := by
  unfold k0_pay4 relu2
  generalize k0_pay2 x g = h
  pointwise

theorem pay5_apply (h : FVec Ideal S512x1024 .bf16) (y z : FVec Ideal S512x1024 .f32) (w w' v v' : Vec Ideal S1024x1024 .bf16) (g : Vec Ideal S1x1024 .f32)
    (u : Fin 512) (j : Fin 1024) :
    k0_pay5 h y z w w' v v' g (ix2 u j) = rms (fun j => y (ix2 u j) + z (ix2 u j)
      + (∑ f, relu2 (fun k => h (ix2 u k)) (fun k => w (ix2 k f)) * w' (ix2 f j))
      + ∑ f, relu2 (fun k => h (ix2 u k)) (fun k => v (ix2 k f)) * v' (ix2 f j)) (fun k => g (ix2 (0 : Fin 1) k)) j := by
  unfold k0_pay5 relu2 rms
  pointwise

/-! ## The block that a point leaves -/

/-- A row after the channel mixer: the row and its hidden values against the second weight. -/
def mixed (x g : Fin 1024 → EReal) (w : Fin 1024 → Fin 4096 → EReal) (w' : Fin 4096 → Fin 1024 → EReal) (j : Fin 1024) : EReal :=
  x j + ∑ f, relu2 (rms x g) (fun k => w k f) * w' f j

/-- A stretch of the first weight's columns. -/
theorem ld_cols (w : Vec Ideal S1024x4096 .bf16) {off : ℕ} (inb : ∀ a, ![0, off] a + S1024x1024.size a ≤ S1024x4096.size a) (n : Fin 4)
    (h : off = n.val * 1024) (k f : Fin 1024) :
    View.ld w (Rect.unit (s := S1024x4096) ![0, off] S1024x1024.size inb) (ix2 k f) = w (ix2 k (col n f)) := by
  subst h
  show w ((Rect.unit (s := S1024x4096) ![0, n.val * 1024] S1024x1024.size inb).idx (ix2 k f)) = _
  refine congrArg w (funext fun a => ?_)
  match a with
  | ⟨0, _⟩ => exact Fin.ext (by show 0 + 1 * k.val = k.val; omega)
  | ⟨1, _⟩ => exact Fin.ext (by show n.val * 1024 + 1 * f.val = n.val * 1024 + f.val; omega)

/-- A stretch of the second weight's rows. -/
theorem ld_rows (w : Vec Ideal S4096x1024 .bf16) {off : ℕ} (inb : ∀ a, ![off, 0] a + S1024x1024.size a ≤ S4096x1024.size a) (n : Fin 4)
    (h : off = n.val * 1024) (f k : Fin 1024) :
    View.ld w (Rect.unit (s := S4096x1024) ![off, 0] S1024x1024.size inb) (ix2 f k) = w (ix2 (col n f) k) := by
  subst h
  show w ((Rect.unit (s := S4096x1024) ![n.val * 1024, 0] S1024x1024.size inb).idx (ix2 f k)) = _
  refine congrArg w (funext fun a => ?_)
  match a with
  | ⟨0, _⟩ => exact Fin.ext (by show n.val * 1024 + 1 * f.val = n.val * 1024 + f.val; omega)
  | ⟨1, _⟩ => exact Fin.ext (by show 0 + 1 * k.val = k.val; omega)

theorem pay_apply (x : Vec Ideal S512x1024 .f32) (g : Vec Ideal S1x1024 .f32) (w : Fin 1024 → Fin 4096 → EReal) (w' : Fin 4096 → Fin 1024 → EReal)
    (g' : Vec Ideal S1x1024 .f32) (a₀ a₁ a₂ a₃ b₀ b₁ b₂ b₃ : Vec Ideal S1024x1024 .bf16)
    (ha₀ : ∀ k f : Fin 1024, a₀ (ix2 k f) = w k (col 0 f)) (ha₁ : ∀ k f : Fin 1024, a₁ (ix2 k f) = w k (col 1 f))
    (ha₂ : ∀ k f : Fin 1024, a₂ (ix2 k f) = w k (col 2 f)) (ha₃ : ∀ k f : Fin 1024, a₃ (ix2 k f) = w k (col 3 f))
    (hb₀ : ∀ f k : Fin 1024, b₀ (ix2 f k) = w' (col 0 f) k) (hb₁ : ∀ f k : Fin 1024, b₁ (ix2 f k) = w' (col 1 f) k)
    (hb₂ : ∀ f k : Fin 1024, b₂ (ix2 f k) = w' (col 2 f) k) (hb₃ : ∀ f k : Fin 1024, b₃ (ix2 f k) = w' (col 3 f) k)
    (u : Fin 512) (j : Fin 1024) :
    k0_pay5 (k0_pay2 x g) (k0_pay3 x g a₀ b₀) (k0_pay4 x g a₁ b₁) a₂ b₂ a₃ b₃ g' (ix2 u j)
      = rms (mixed (fun k => x (ix2 u k)) (fun k => g (ix2 (0 : Fin 1) k)) w w') (fun k => g' (ix2 (0 : Fin 1) k)) j := by
  rw [pay5_apply]
  refine congrArg (fun r => rms r (fun k => g' (ix2 (0 : Fin 1) k)) j) (funext fun j => ?_)
  rw [pay3_apply, pay4_apply]
  unfold mixed
  rw [← sum_cols, Fin.sum_univ_four, ← add_assoc, ← add_assoc, ← add_assoc]
  simp only [pay2_apply, ha₀, ha₁, ha₂, ha₃, hb₀, hb₁, hb₂, hb₃]

theorem out_apply (x : Vec Ideal S512x1024 .f32) (g : Vec Ideal S1x1024 .f32) (w : Vec Ideal S1024x4096 .bf16) (w' : Vec Ideal S4096x1024 .bf16)
    (g' : Vec Ideal S1x1024 .f32) (u : Fin 512) (j : Fin 1024) :
    out0_5 x g w w' g' (ix2 u j) = rms (mixed (fun k => x (ix2 u k)) (fun k => g (ix2 (0 : Fin 1) k)) (fun k f => w (ix2 k f)) (fun f k => w' (ix2 f k)))
      (fun k => g' (ix2 (0 : Fin 1) k)) j := by
  refine Eq.trans ?_ (pay_apply x g _ _ g' _ _ _ _ _ _ _ _ (ld_cols w inb_S1024x4096_S1024x1024_0_0 0 rfl)
    (ld_cols w inb_S1024x4096_S1024x1024_0_1024 1 rfl) (ld_cols w inb_S1024x4096_S1024x1024_0_2048 2 rfl)
    (ld_cols w inb_S1024x4096_S1024x1024_0_3072 3 rfl) (ld_rows w' inb_S4096x1024_S1024x1024_0_0 0 rfl)
    (ld_rows w' inb_S4096x1024_S1024x1024_1024_0 1 rfl) (ld_rows w' inb_S4096x1024_S1024x1024_2048_0 2 rfl)
    (ld_rows w' inb_S4096x1024_S1024x1024_3072_0 3 rfl) u j)
  frame_out

/-! ## The arrays that the launch finds -/

variable (m : (ℓ : Loc nD τ sig) → Buf (Elt Ideal) ℓ) (c : Dev nD)

/-- The arguments, as the reference's functions take them. -/
abbrev argX : FVec Ideal Cert.FfnReferenceIdeal.S8x8192x1024 .f32 := m ((c : Thread nD τ).loc main_arg0)
abbrev argG : FVec Ideal Cert.FfnReferenceIdeal.S1024 .f32 := m ((c : Thread nD τ).loc main_arg1)
abbrev argW : FVec Ideal Cert.FfnReferenceIdeal.S1024x4096 .f32 := m ((c : Thread nD τ).loc main_arg2)
abbrev argW' : FVec Ideal Cert.FfnReferenceIdeal.S4096x1024 .f32 := m ((c : Thread nD τ).loc main_arg3)
abbrev argG' : FVec Ideal Cert.FfnReferenceIdeal.S1024 .f32 := m ((c : Thread nD τ).loc main_arg4)

/-- A row's batch and its place in it. -/
abbrev bt (r : Fin 65536) : Fin 8 := ⟨r.val / 8192, by omega⟩
abbrev pl (r : Fin 65536) : Fin 8192 := ⟨r.val % 8192, by omega⟩

theorem v0_apply (r : Fin 65536) (k : Fin 1024) : V m c main_v0 (ix2 r k) = argX m c (ix3 (bt r) (pl r) k) := by
  entry_read
  pointwise

theorem v1_apply (k : Fin 1024) : V m c main_v1 (ix2 (0 : Fin 1) k) = argG m c (ix1 k) := by
  entry_read
  pointwise

theorem v2_apply (k : Fin 1024) (f : Fin 4096) : V m c main_v2 (ix2 k f) = argW m c (ix2 k f) := by
  entry_read
  pointwise

theorem v3_apply (f : Fin 4096) (k : Fin 1024) : V m c main_v3 (ix2 f k) = argW' m c (ix2 f k) := by
  entry_read
  pointwise

theorem v4_apply (k : Fin 1024) : V m c main_v4 (ix2 (0 : Fin 1) k) = argG' m c (ix1 k) := by
  entry_read
  pointwise

/-! ## The blocks at a point -/

theorem pt_lt (t : Fin cfg0.N) : t.val < 128 := lt_of_lt_of_eq t.isLt N_0

/-- A point's row. -/
def row (t : Fin cfg0.N) (u : Fin 512) : Fin 65536 := ⟨t.val * 512 + u.val, by have := pt_lt t; omega⟩

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem iblk0_apply (t : Fin cfg0.N) (u : Fin 512) (k : Fin 1024) :
    iblk m c 0 t (ix2 u k) = argX m c (ix3 (bt (row t u)) (pl (row t u)) k) := by
  rw [← v0_apply]
  unfold row
  blk_ext [iblk, idx t]

theorem iblk1_apply (t : Fin cfg0.N) (k : Fin 1024) : iblk m c 1 t (ix2 (0 : Fin 1) k) = argG m c (ix1 k) := by
  rw [← v1_apply]
  blk_ext [iblk, idx t]

theorem iblk2_apply (t : Fin cfg0.N) (k : Fin 1024) (f : Fin 4096) : iblk m c 2 t (ix2 k f) = argW m c (ix2 k f) := by
  rw [← v2_apply]
  blk_ext [iblk, idx t]

theorem iblk3_apply (t : Fin cfg0.N) (f : Fin 4096) (k : Fin 1024) : iblk m c 3 t (ix2 f k) = argW' m c (ix2 f k) := by
  rw [← v3_apply]
  blk_ext [iblk, idx t]

theorem iblk4_apply (t : Fin cfg0.N) (k : Fin 1024) : iblk m c 4 t (ix2 (0 : Fin 1) k) = argG' m c (ix1 k) := by
  rw [← v4_apply]
  blk_ext [iblk, idx t]

/-! ## The reference, at an index -/

section

open Cert.FfnReferenceIdeal.Read

variable (x : FVec Ideal Cert.FfnReferenceIdeal.S8x8192x1024 .f32) (g g' : FVec Ideal Cert.FfnReferenceIdeal.S1024 .f32)
  (w : FVec Ideal Cert.FfnReferenceIdeal.S1024x4096 .f32) (w' : FVec Ideal Cert.FfnReferenceIdeal.S4096x1024 .f32)

theorem ref12_apply (b : Fin 8) (s : Fin 8192) (j : Fin 1024) :
    val_main_v12 (F := Ideal) x g (ix3 b s j) = rms (fun k => x (ix3 b s k)) (fun k => g (ix1 k)) j := by
  unfold val_main_v12 val_main_v11 val_main_v10 val_main_v9 val_main_v8 val_main_v7 val_main_v6 val_main_v5 val_main_cst_1 val_main_v4 val_main_v3
    val_main_cst_0 val_main_v2 val_main_v1 val_main_cst val_main_v0 rms
  pointwise

theorem ref17_apply (b : Fin 8) (s : Fin 8192) (j : Fin 1024) :
    val_main_v17 (F := Ideal) x g w w' (ix3 b s j)
      = mixed (fun k => x (ix3 b s k)) (fun k => g (ix1 k)) (fun k f => w (ix2 k f)) (fun f k => w' (ix2 f k)) j := by
  unfold mixed relu2
  simp only [← ref12_apply]
  unfold val_main_v17 val_main_v16 val_main_v15 val_main_v14 val_main_call0_v0 val_main_call0_cst val_main_v13
  generalize val_main_v12 (F := Ideal) x g = h
  pointwise

theorem ref_apply (r : Fin 65536) (j : Fin 1024) :
    val_main_v31 (F := Ideal) x g w w' g' (ix2 r j)
      = rms (mixed (fun k => x (ix3 (bt r) (pl r) k)) (fun k => g (ix1 k)) (fun k f => w (ix2 k f)) (fun f k => w' (ix2 f k))) (fun k => g' (ix1 k)) j := by
  unfold rms
  simp only [← ref17_apply]
  unfold val_main_v31 val_main_v30 val_main_v29 val_main_v28 val_main_v27 val_main_v26 val_main_v25 val_main_v24 val_main_v23 val_main_cst_4
    val_main_v22 val_main_v21 val_main_cst_3 val_main_v20 val_main_v19 val_main_cst_2 val_main_v18
  generalize val_main_v17 (F := Ideal) x g w w' = y
  pointwise

end

/-! ## The result -/

/-- The result array after the run: the reference's function of the arguments. -/
theorem final : (dats m 0 c).arrAt 5 cfg0.N
    = Cert.FfnReferenceIdeal.Read.val_main_v31 (F := Ideal) (argX m c) (argG m c) (argW m c) (argW' m c) (argG' m c) := by
  refine (dats m 0 c).arrAt_eq_of_covers 5 _ (by decide +kernel) fun t hf y => ?_
  blk_simp
  rw [after0_5]
  have hy : ∃ (u : Fin 512) (j : Fin 1024), y = ix2 u j :=
    ⟨⟨(y 0).val, (y 0).isLt⟩, ⟨(y 1).val, (y 1).isLt⟩, by
      funext a
      match a with
      | ⟨0, _⟩ => rfl
      | ⟨1, _⟩ => rfl⟩
  obtain ⟨u, j, rfl⟩ := hy
  have he : (win0_5.blk t).view.emb (ix2 u j) = ix2 (row t u) j := by
    unfold row
    blk_ext [idx t]
  rw [he, ref_apply]
  refine (out_apply _ _ _ _ _ u j).trans ?_
  simp only [iblk0_apply, iblk1_apply, iblk2_apply, iblk3_apply, iblk4_apply]

end Cert.FfnIdeal.AtIdeal

end
-- ==== Proof.MergeValue.lean ====
/-
  The gated merge of the four branches: the ideal kernel's result array is the reference's function of the
  arguments.
-/
module

public import proofs.«01_k».proof.Proof.Dense
public import proofs.«01_k».proof.Proof.Gen.MergeIdeal.Value
public import proofs.«01_k».proof.Proof.Gen.MergeReferenceIdeal.Read
public import Idealize.ShloMosaic.Lib.Pipeline.ValueKit

@[expose] public section

set_option maxRecDepth 16384

noncomputable section

namespace Cert.MergeIdeal.AtIdeal

open Cert.MergeIdeal Cert.MergeIdeal.Gen Idealize.ShloMosaic Idealize.ShloMosaic.TcCoe
open Idealize.SL.Sem
open Cert.Dense
open scoped BigOperators

theorem pay3_apply (x : Vec Ideal S512x1024 .f32) (g : Vec Ideal S1x1024 .f32) (u : Fin 512) (j : Fin 1024) :
    k0_pay3 x g (ix2 u j) = rms (fun k => x (ix2 u k)) (fun k => g (ix2 (0 : Fin 1) k)) j := by
  unfold k0_pay3 k0_pay2 rms
  pointwise

theorem pay4_apply (x : Vec Ideal S512x1024 .f32) (g : Vec Ideal S1x1024 .f32) (w : Vec Ideal S1024x1024 .bf16) (b : Vec Ideal S1x1024 .f32)
    (y : Vec Ideal S512x512 .bf16) (p : Vec Ideal S1x512x1024 .bf16) (u : Fin 512) (j : Fin 1024) :
    k0_pay4 x g w b y p (ix2 u j)
      = branch (fun k => k0_pay3 x g (ix2 u k)) (fun k => w (ix2 k j)) (b (ix2 (0 : Fin 1) j)) (fun k => y (ix2 u k)) (fun k => p (ix3 (0 : Fin 1) k j)) := by
  unfold k0_pay4 branch gate
  generalize k0_pay3 x g = h
  pointwise
  simp only [zero_sub]

theorem pay5_apply (h : FVec Ideal S512x1024 .bf16) (z : FVec Ideal S512x1024 .f32) (w : Vec Ideal S1024x1024 .bf16) (b : Vec Ideal S1x1024 .f32)
    (y : Vec Ideal S512x512 .bf16) (p : Vec Ideal S1x512x1024 .bf16) (u : Fin 512) (j : Fin 1024) :
    k0_pay5 h z w b y p (ix2 u j)
      = z (ix2 u j) + branch (fun k => h (ix2 u k)) (fun k => w (ix2 k j)) (b (ix2 (0 : Fin 1) j)) (fun k => y (ix2 u k)) (fun k => p (ix3 (0 : Fin 1) k j)) := by
  unfold k0_pay5 branch gate
  pointwise
  simp only [zero_sub]

theorem pay6_apply (h : FVec Ideal S512x1024 .bf16) (w : Vec Ideal S1024x1024 .bf16) (b : Vec Ideal S1x1024 .f32) (u : Fin 512) (j : Fin 1024) :
    k0_pay6 h w b (ix2 u j) = gate (fun k => h (ix2 u k)) (fun k => w (ix2 k j)) (b (ix2 (0 : Fin 1) j)) := by
  unfold k0_pay6 gate
  pointwise
  simp only [zero_sub]

theorem pay7_apply (y : Vec Ideal S512x512 .bf16) (u k : Fin 512) : k0_pay7 y (ix2 u k) = y (ix2 u k) := by
  unfold k0_pay7
  pointwise

theorem pay2_apply (x : Vec Ideal S512x1024 .f32) (u : Fin 512) (k : Fin 1024) : k0_pay2 x (ix2 u k) = x (ix2 u k) := by
  unfold k0_pay2
  pointwise

theorem pay1_apply (x : FVec Ideal S512x1024 .f32) (h : FVec Ideal S512x1024 .bf16) (z q : FVec Ideal S512x1024 .f32) (y : FVec Ideal S512x512 .bf16)
    (p : Vec Ideal S1x512x1024 .bf16) (w : Vec Ideal S1024x1024 .bf16) (b : Vec Ideal S1x1024 .f32) (y' : Vec Ideal S512x512 .bf16)
    (p' : Vec Ideal S1x512x1024 .bf16) (o : Vec Ideal S1024x1024 .bf16) (u : Fin 512) (j : Fin 1024) :
    k0_pay1 x h z q y p w b y' p' o (ix2 u j)
      = x (ix2 u j) + ∑ i, (z (ix2 u i) + q (ix2 u i) * (∑ k : Fin 512, y (ix2 u k) * p (ix3 (0 : Fin 1) k i))
        + branch (fun k => h (ix2 u k)) (fun k => w (ix2 k i)) (b (ix2 (0 : Fin 1) i)) (fun k => y' (ix2 u k)) (fun k => p' (ix3 (0 : Fin 1) k i)))
          * o (ix2 i j) := by
  unfold k0_pay1 branch gate
  pointwise
  simp only [zero_sub]

/-! ## The pieces of the weights that the body reads -/

/-- A branch's columns of the gate's weight. -/
theorem ld_w (w : Vec Ideal S1024x4096 .bf16) {off : ℕ} (inb : ∀ a, ![0, off] a + S1024x1024.size a ≤ S1024x4096.size a) (n : Fin 4)
    (h : off = n.val * 1024) (k j : Fin 1024) :
    View.ld w (Rect.unit (s := S1024x4096) ![0, off] S1024x1024.size inb) (ix2 k j) = w (ix2 k (col n j)) := by
  subst h
  show w ((Rect.unit (s := S1024x4096) ![0, n.val * 1024] S1024x1024.size inb).idx (ix2 k j)) = _
  refine congrArg w (funext fun a => ?_)
  match a with
  | ⟨0, _⟩ => exact Fin.ext (by show 0 + 1 * k.val = k.val; omega)
  | ⟨1, _⟩ => exact Fin.ext (by show n.val * 1024 + 1 * j.val = n.val * 1024 + j.val; omega)

/-- A branch's columns of the gate's bias. -/
theorem ld_b (b : Vec Ideal S1x4096 .f32) {off : ℕ} (inb : ∀ a, ![0, off] a + S1x1024.size a ≤ S1x4096.size a) (n : Fin 4)
    (h : off = n.val * 1024) (j : Fin 1024) :
    View.ld b (Rect.unit (s := S1x4096) ![0, off] S1x1024.size inb) (ix2 (0 : Fin 1) j) = b (ix2 (0 : Fin 1) (col n j)) := by
  subst h
  show b ((Rect.unit (s := S1x4096) ![0, n.val * 1024] S1x1024.size inb).idx (ix2 (0 : Fin 1) j)) = _
  refine congrArg b (funext fun a => ?_)
  match a with
  | ⟨0, _⟩ => rfl
  | ⟨1, _⟩ => exact Fin.ext (by show n.val * 1024 + 1 * j.val = n.val * 1024 + j.val; omega)

/-- A branch's own weight. -/
theorem ld_p (p : Vec Ideal S4x512x1024 .bf16) {off : ℕ} (inb : ∀ a, ![off, 0, 0] a + S1x512x1024.size a ≤ S4x512x1024.size a) (n : Fin 4)
    (h : off = n.val) (k : Fin 512) (j : Fin 1024) :
    View.ld p (Rect.unit (s := S4x512x1024) ![off, 0, 0] S1x512x1024.size inb) (ix3 (0 : Fin 1) k j) = p (ix3 n k j) := by
  subst h
  show p ((Rect.unit (s := S4x512x1024) ![n.val, 0, 0] S1x512x1024.size inb).idx (ix3 (0 : Fin 1) k j)) = _
  refine congrArg p (funext fun a => ?_)
  match a with
  | ⟨0, _⟩ => exact Fin.ext (by show n.val + 1 * 0 = n.val; omega)
  | ⟨1, _⟩ => exact Fin.ext (by show 0 + 1 * k.val = k.val; omega)
  | ⟨2, _⟩ => exact Fin.ext (by show 0 + 1 * j.val = j.val; omega)

/-! ## The block that a point leaves -/

/-- The gated sum of the branches at a column. -/
def mix (h : Fin 1024 → EReal) (w : Fin 1024 → Fin 4096 → EReal) (b : Fin 4096 → EReal) (y : Fin 4 → Fin 512 → EReal)
    (p : Fin 4 → Fin 512 → Fin 1024 → EReal) (j : Fin 1024) : EReal :=
  branch h (fun k => w k (col 0 j)) (b (col 0 j)) (y 0) (fun k => p 0 k j)
    + branch h (fun k => w k (col 1 j)) (b (col 1 j)) (y 1) (fun k => p 1 k j)
    + branch h (fun k => w k (col 2 j)) (b (col 2 j)) (y 2) (fun k => p 2 k j)
    + branch h (fun k => w k (col 3 j)) (b (col 3 j)) (y 3) (fun k => p 3 k j)

/-- A row after the merge: the row and its mix against the output weight. -/
def merged (x g : Fin 1024 → EReal) (w : Fin 1024 → Fin 4096 → EReal) (b : Fin 4096 → EReal) (y : Fin 4 → Fin 512 → EReal)
    (p : Fin 4 → Fin 512 → Fin 1024 → EReal) (o : Fin 1024 → Fin 1024 → EReal) (j : Fin 1024) : EReal :=
  x j + ∑ i, mix (rms x g) w b y p i * o i j

theorem pay_apply (x : Vec Ideal S512x1024 .f32) (g : Vec Ideal S1x1024 .f32) (y₀ y₁ y₂ y₃ : Vec Ideal S512x512 .bf16)
    (w : Fin 1024 → Fin 4096 → EReal) (b : Fin 4096 → EReal) (p : Fin 4 → Fin 512 → Fin 1024 → EReal) (o : Vec Ideal S1024x1024 .bf16)
    (a₀ a₁ a₂ a₃ : Vec Ideal S1024x1024 .bf16) (b₀ b₁ b₂ b₃ : Vec Ideal S1x1024 .f32) (p₀ p₁ p₂ p₃ : Vec Ideal S1x512x1024 .bf16)
    (ha₀ : ∀ k j : Fin 1024, a₀ (ix2 k j) = w k (col 0 j)) (ha₁ : ∀ k j : Fin 1024, a₁ (ix2 k j) = w k (col 1 j)) (ha₂ : ∀ k j : Fin 1024, a₂ (ix2 k j) = w k (col 2 j)) (ha₃ : ∀ k j : Fin 1024, a₃ (ix2 k j) = w k (col 3 j))
    (hb₀ : ∀ j : Fin 1024, b₀ (ix2 (0 : Fin 1) j) = b (col 0 j)) (hb₁ : ∀ j : Fin 1024, b₁ (ix2 (0 : Fin 1) j) = b (col 1 j)) (hb₂ : ∀ j : Fin 1024, b₂ (ix2 (0 : Fin 1) j) = b (col 2 j)) (hb₃ : ∀ j : Fin 1024, b₃ (ix2 (0 : Fin 1) j) = b (col 3 j))
    (hp₀ : ∀ (k : Fin 512) (j : Fin 1024), p₀ (ix3 (0 : Fin 1) k j) = p 0 k j) (hp₁ : ∀ (k : Fin 512) (j : Fin 1024), p₁ (ix3 (0 : Fin 1) k j) = p 1 k j) (hp₂ : ∀ (k : Fin 512) (j : Fin 1024), p₂ (ix3 (0 : Fin 1) k j) = p 2 k j) (hp₃ : ∀ (k : Fin 512) (j : Fin 1024), p₃ (ix3 (0 : Fin 1) k j) = p 3 k j)
    (u : Fin 512) (j : Fin 1024) :
    k0_pay1 (k0_pay2 x) (k0_pay3 x g) (k0_pay5 (k0_pay3 x g) (k0_pay4 x g a₀ b₀ y₀ p₀) a₁ b₁ y₁ p₁) (k0_pay6 (k0_pay3 x g) a₂ b₂) (k0_pay7 y₂) p₂
        a₃ b₃ y₃ p₃ o (ix2 u j)
      = merged (fun k => x (ix2 u k)) (fun k => g (ix2 (0 : Fin 1) k)) w b
          (fun n k => (![y₀, y₁, y₂, y₃] n : Vec Ideal S512x512 .bf16) (ix2 u k)) p (fun i j => o (ix2 i j)) j := by
  rw [pay1_apply, pay2_apply]
  unfold merged
  refine congrArg (fun z => x (ix2 u j) + z) (Finset.sum_congr rfl fun i _ => congrArg (fun z => z * o (ix2 i j)) ?_)
  rw [pay5_apply, pay4_apply, pay6_apply]
  simp only [pay3_apply, pay7_apply, ha₀, ha₁, ha₂, ha₃, hb₀, hb₁, hb₂, hb₃, hp₀, hp₁, hp₂, hp₃]
  rfl

theorem out_apply (x : Vec Ideal S512x1024 .f32) (g : Vec Ideal S1x1024 .f32) (y₀ y₁ y₂ y₃ : Vec Ideal S512x512 .bf16)
    (w : Vec Ideal S1024x4096 .bf16) (b : Vec Ideal S1x4096 .f32) (p : Vec Ideal S4x512x1024 .bf16) (o : Vec Ideal S1024x1024 .bf16) (u : Fin 512) (j : Fin 1024) :
    out0_10 x g y₀ y₁ y₂ y₃ w b p o (ix2 u j)
      = merged (fun k => x (ix2 u k)) (fun k => g (ix2 (0 : Fin 1) k)) (fun k f => w (ix2 k f)) (fun f => b (ix2 (0 : Fin 1) f))
          (fun n k => (![y₀, y₁, y₂, y₃] n : Vec Ideal S512x512 .bf16) (ix2 u k)) (fun n k j => p (ix3 n k j)) (fun i j => o (ix2 i j)) j := by
  refine Eq.trans ?_ (pay_apply x g y₀ y₁ y₂ y₃ _ _ _ o _ _ _ _ _ _ _ _ _ _ _ _
    (ld_w w inb_S1024x4096_S1024x1024_0_0 0 rfl) (ld_w w inb_S1024x4096_S1024x1024_0_1024 1 rfl) (ld_w w inb_S1024x4096_S1024x1024_0_2048 2 rfl) (ld_w w inb_S1024x4096_S1024x1024_0_3072 3 rfl)
    (ld_b b inb_S1x4096_S1x1024_0_0 0 rfl) (ld_b b inb_S1x4096_S1x1024_0_1024 1 rfl) (ld_b b inb_S1x4096_S1x1024_0_2048 2 rfl) (ld_b b inb_S1x4096_S1x1024_0_3072 3 rfl)
    (ld_p p inb_S4x512x1024_S1x512x1024_0_0_0 0 rfl) (ld_p p inb_S4x512x1024_S1x512x1024_1_0_0 1 rfl) (ld_p p inb_S4x512x1024_S1x512x1024_2_0_0 2 rfl) (ld_p p inb_S4x512x1024_S1x512x1024_3_0_0 3 rfl) u j)
  have e : k0_pay8 x g y₀ y₁ y₂ y₃ w b p o = k0_pay3 x g := by
    unfold k0_pay8
    frame_out
  frame_out
  rw [e]

/-! ## The arrays that the launch finds -/

variable (m : (ℓ : Loc nD τ sig) → Buf (Elt Ideal) ℓ) (c : Dev nD)

/-- The arguments, as the reference's functions take them. -/
abbrev argX : FVec Ideal Cert.MergeReferenceIdeal.S8x8192x1024 .f32 := m ((c : Thread nD τ).loc main_arg0)
abbrev argG : FVec Ideal Cert.MergeReferenceIdeal.S1024 .f32 := m ((c : Thread nD τ).loc main_arg1)
abbrev argY₀ : FVec Ideal Cert.MergeReferenceIdeal.S8x8192x512 .f32 := m ((c : Thread nD τ).loc main_arg2)
abbrev argY₁ : FVec Ideal Cert.MergeReferenceIdeal.S8x8192x512 .f32 := m ((c : Thread nD τ).loc main_arg3)
abbrev argY₂ : FVec Ideal Cert.MergeReferenceIdeal.S8x8192x512 .f32 := m ((c : Thread nD τ).loc main_arg4)
abbrev argY₃ : FVec Ideal Cert.MergeReferenceIdeal.S8x8192x512 .f32 := m ((c : Thread nD τ).loc main_arg5)
abbrev argW : FVec Ideal Cert.MergeReferenceIdeal.S1024x4096 .f32 := m ((c : Thread nD τ).loc main_arg6)
abbrev argB : FVec Ideal Cert.MergeReferenceIdeal.S4096 .f32 := m ((c : Thread nD τ).loc main_arg7)
abbrev argP : FVec Ideal Cert.MergeReferenceIdeal.S4x512x1024 .f32 := m ((c : Thread nD τ).loc main_arg8)
abbrev argO : FVec Ideal Cert.MergeReferenceIdeal.S1024x1024 .f32 := m ((c : Thread nD τ).loc main_arg9)

/-- A row's batch and its place in it. -/
abbrev bt (r : Fin 65536) : Fin 8 := ⟨r.val / 8192, by omega⟩
abbrev pl (r : Fin 65536) : Fin 8192 := ⟨r.val % 8192, by omega⟩

theorem v8_apply (r : Fin 65536) (k : Fin 1024) : V m c main_v8 (ix2 r k) = argX m c (ix3 (bt r) (pl r) k) := by
  entry_read
  pointwise

theorem v9_apply (k : Fin 1024) : V m c main_v9 (ix2 (0 : Fin 1) k) = argG m c (ix1 k) := by
  entry_read
  pointwise

theorem v1_apply (r : Fin 65536) (k : Fin 512) : V m c main_v1 (ix2 r k) = argY₀ m c (ix3 (bt r) (pl r) k) := by
  entry_read
  pointwise

theorem v3_apply (r : Fin 65536) (k : Fin 512) : V m c main_v3 (ix2 r k) = argY₁ m c (ix3 (bt r) (pl r) k) := by
  entry_read
  pointwise

theorem v5_apply (r : Fin 65536) (k : Fin 512) : V m c main_v5 (ix2 r k) = argY₂ m c (ix3 (bt r) (pl r) k) := by
  entry_read
  pointwise

theorem v7_apply (r : Fin 65536) (k : Fin 512) : V m c main_v7 (ix2 r k) = argY₃ m c (ix3 (bt r) (pl r) k) := by
  entry_read
  pointwise

theorem v10_apply (k : Fin 1024) (f : Fin 4096) : V m c main_v10 (ix2 k f) = argW m c (ix2 k f) := by
  entry_read
  pointwise

theorem v11_apply (f : Fin 4096) : V m c main_v11 (ix2 (0 : Fin 1) f) = argB m c (ix1 f) := by
  entry_read
  pointwise

theorem v12_apply (n : Fin 4) (k : Fin 512) (j : Fin 1024) : V m c main_v12 (ix3 n k j) = argP m c (ix3 n k j) := by
  entry_read
  pointwise

theorem v13_apply (i j : Fin 1024) : V m c main_v13 (ix2 i j) = argO m c (ix2 i j) := by
  entry_read
  pointwise

/-! ## The blocks at a point -/

theorem pt_lt (t : Fin cfg0.N) : t.val < 128 := lt_of_lt_of_eq t.isLt N_0

/-- A point's row. -/
def row (t : Fin cfg0.N) (u : Fin 512) : Fin 65536 := ⟨t.val * 512 + u.val, by have := pt_lt t; omega⟩

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0, 0] ∧ win0_9.index t = ![0, 0] ∧ win0_10.index t = ![t.val, 0] :=
  (by decide +kernel : ∀ t : Fin grid0.N, _)

theorem iblk0_apply (t : Fin cfg0.N) (u : Fin 512) (k : Fin 1024) : iblk m c 0 t (ix2 u k) = argX m c (ix3 (bt (row t u)) (pl (row t u)) k) := by
  rw [← v8_apply]
  unfold row
  blk_ext [iblk, idx t]

theorem iblk1_apply (t : Fin cfg0.N) (k : Fin 1024) : iblk m c 1 t (ix2 (0 : Fin 1) k) = argG m c (ix1 k) := by
  rw [← v9_apply]
  blk_ext [iblk, idx t]

theorem iblk2_apply (t : Fin cfg0.N) (u k : Fin 512) : iblk m c 2 t (ix2 u k) = argY₀ m c (ix3 (bt (row t u)) (pl (row t u)) k) := by
  rw [← v1_apply]
  unfold row
  blk_ext [iblk, idx t]

theorem iblk3_apply (t : Fin cfg0.N) (u k : Fin 512) : iblk m c 3 t (ix2 u k) = argY₁ m c (ix3 (bt (row t u)) (pl (row t u)) k) := by
  rw [← v3_apply]
  unfold row
  blk_ext [iblk, idx t]

theorem iblk4_apply (t : Fin cfg0.N) (u k : Fin 512) : iblk m c 4 t (ix2 u k) = argY₂ m c (ix3 (bt (row t u)) (pl (row t u)) k) := by
  rw [← v5_apply]
  unfold row
  blk_ext [iblk, idx t]

theorem iblk5_apply (t : Fin cfg0.N) (u k : Fin 512) : iblk m c 5 t (ix2 u k) = argY₃ m c (ix3 (bt (row t u)) (pl (row t u)) k) := by
  rw [← v7_apply]
  unfold row
  blk_ext [iblk, idx t]

theorem iblk6_apply (t : Fin cfg0.N) (k : Fin 1024) (f : Fin 4096) : iblk m c 6 t (ix2 k f) = argW m c (ix2 k f) := by
  rw [← v10_apply]
  blk_ext [iblk, idx t]

theorem iblk7_apply (t : Fin cfg0.N) (f : Fin 4096) : iblk m c 7 t (ix2 (0 : Fin 1) f) = argB m c (ix1 f) := by
  rw [← v11_apply]
  blk_ext [iblk, idx t]

theorem iblk8_apply (t : Fin cfg0.N) (n : Fin 4) (k : Fin 512) (j : Fin 1024) : iblk m c 8 t (ix3 n k j) = argP m c (ix3 n k j) := by
  rw [← v12_apply]
  blk_ext [iblk, idx t]

theorem iblk9_apply (t : Fin cfg0.N) (i j : Fin 1024) : iblk m c 9 t (ix2 i j) = argO m c (ix2 i j) := by
  rw [← v13_apply]
  blk_ext [iblk, idx t]

/-! ## The reference, at an index -/

section

open Cert.MergeReferenceIdeal.Read

variable (x : FVec Ideal Cert.MergeReferenceIdeal.S8x8192x1024 .f32) (g : FVec Ideal Cert.MergeReferenceIdeal.S1024 .f32)
  (y₀ y₁ y₂ y₃ : FVec Ideal Cert.MergeReferenceIdeal.S8x8192x512 .f32)
  (w : FVec Ideal Cert.MergeReferenceIdeal.S1024x4096 .f32) (b : FVec Ideal Cert.MergeReferenceIdeal.S4096 .f32)
  (p : FVec Ideal Cert.MergeReferenceIdeal.S4x512x1024 .f32) (o : FVec Ideal Cert.MergeReferenceIdeal.S1024x1024 .f32)

theorem ref12_apply (d : Fin 8) (s : Fin 8192) (j : Fin 1024) :
    val_main_v12 (F := Ideal) x g (ix3 d s j) = rms (fun k => x (ix3 d s k)) (fun k => g (ix1 k)) j := by
  unfold val_main_v12 val_main_v11 val_main_v10 val_main_v9 val_main_v8 val_main_v7 val_main_v6 val_main_v5 val_main_cst_1 val_main_v4 val_main_v3
    val_main_cst_0 val_main_v2 val_main_v1 val_main_cst val_main_v0 rms
  pointwise

theorem ref22_apply (d : Fin 8) (s : Fin 8192) (f : Fin 4096) :
    val_main_v22 (F := Ideal) x g w b (ix3 d s f) = gate (rms (fun k => x (ix3 d s k)) (fun k => g (ix1 k))) (fun k => w (ix2 k f)) (b (ix1 f)) := by
  unfold gate
  simp only [← ref12_apply]
  unfold val_main_v22 val_main_v21 val_main_cst_3 val_main_v20 val_main_v19 val_main_cst_2 val_main_v18 val_main_v17 val_main_v16 val_main_v15
    val_main_v14 val_main_v13
  generalize val_main_v12 (F := Ideal) x g = h
  pointwise

theorem ref50_apply (d : Fin 8) (s : Fin 8192) (j : Fin 1024) :
    val_main_v50 (F := Ideal) x g y₀ y₁ y₂ y₃ w b p (ix3 d s j)
      = mix (rms (fun k => x (ix3 d s k)) (fun k => g (ix1 k))) (fun k f => w (ix2 k f)) (fun f => b (ix1 f))
          (fun n k => (![y₀, y₁, y₂, y₃] n : FVec Ideal Cert.MergeReferenceIdeal.S8x8192x512 .f32) (ix3 d s k)) (fun n k j => p (ix3 n k j)) j := by
  unfold mix branch
  simp only [← ref22_apply]
  unfold val_main_v50 val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32 val_main_v31
    val_main_v30 val_main_v29 val_main_v28 val_main_v27 val_main_v26 val_main_v25 val_main_v24 val_main_v23
  generalize val_main_v22 (F := Ideal) x g w b = h
  pointwise
  simp only [col, Fin.val_zero, Fin.val_one, Fin.val_two, show (3 : Fin 4).val = 3 from rfl, zero_mul, zero_add, one_mul, Nat.reduceMul]

theorem ref_apply (r : Fin 65536) (j : Fin 1024) :
    val_main_v53 (F := Ideal) x g y₀ y₁ y₂ y₃ w b p o (ix2 r j)
      = merged (fun k => x (ix3 (bt r) (pl r) k)) (fun k => g (ix1 k)) (fun k f => w (ix2 k f)) (fun f => b (ix1 f))
          (fun n k => (![y₀, y₁, y₂, y₃] n : FVec Ideal Cert.MergeReferenceIdeal.S8x8192x512 .f32) (ix3 (bt r) (pl r) k)) (fun n k j => p (ix3 n k j))
          (fun i j => o (ix2 i j)) j := by
  unfold merged
  simp only [← ref50_apply]
  unfold val_main_v53 val_main_v52 val_main_v51
  generalize val_main_v50 (F := Ideal) x g y₀ y₁ y₂ y₃ w b p = y
  pointwise

end

/-! ## The result -/

/-- The result array after the run: the reference's function of the arguments. -/
theorem final : (dats m 0 c).arrAt 10 cfg0.N
    = Cert.MergeReferenceIdeal.Read.val_main_v53 (F := Ideal) (argX m c) (argG m c) (argY₀ m c) (argY₁ m c) (argY₂ m c) (argY₃ m c) (argW m c) (argB m c)
        (argP m c) (argO m c) := by
  refine (dats m 0 c).arrAt_eq_of_covers 10 _ (by decide +kernel) fun t hf y => ?_
  blk_simp
  rw [after0_10]
  have hy : ∃ (u : Fin 512) (j : Fin 1024), y = ix2 u j :=
    ⟨⟨(y 0).val, (y 0).isLt⟩, ⟨(y 1).val, (y 1).isLt⟩, by
      funext a
      match a with
      | ⟨0, _⟩ => rfl
      | ⟨1, _⟩ => rfl⟩
  obtain ⟨u, j, rfl⟩ := hy
  have he : (win0_10.blk t).view.emb (ix2 u j) = ix2 (row t u) j := by
    unfold row
    blk_ext [idx t]
  rw [he, ref_apply]
  refine (out_apply _ _ _ _ _ _ _ _ _ _ u j).trans ?_
  have hy : (fun (n : Fin 4) (k : Fin 512) => (![iblk m c 2 t, iblk m c 3 t, iblk m c 4 t, iblk m c 5 t] n : Vec Ideal S512x512 .bf16) (ix2 u k))
      = fun n k => (![argY₀ m c, argY₁ m c, argY₂ m c, argY₃ m c] n : FVec Ideal Cert.MergeReferenceIdeal.S8x8192x512 .f32) (ix3 (bt (row t u)) (pl (row t u)) k) := by
    funext n k
    match n with
    | ⟨0, _⟩ => exact iblk2_apply m c t u k
    | ⟨1, _⟩ => exact iblk3_apply m c t u k
    | ⟨2, _⟩ => exact iblk4_apply m c t u k
    | ⟨3, _⟩ => exact iblk5_apply m c t u k
  refine Eq.trans (congrArg (fun y => merged _ _ _ _ y _ _ j) hy) ?_
  simp only [iblk0_apply, iblk1_apply, iblk6_apply, iblk7_apply, iblk8_apply, iblk9_apply]

end Cert.MergeIdeal.AtIdeal

end
-- ==== Proof.ProjectValue.lean ====
/-
  The input projection of one mixer: the ideal kernel's result arrays (the queries by columns, the keys by rows,
  the values by columns with rows of ones) are the reference's functions of the arguments.
-/
module

public import proofs.«01_k».proof.Proof.Dense
public import proofs.«01_k».proof.Proof.Gen.ProjectIdeal.Value
public import proofs.«01_k».proof.Proof.Gen.ProjectReferenceIdeal.Read
public import Idealize.ShloMosaic.Lib.Pipeline.ValueKit

@[expose] public section

set_option maxRecDepth 16384

noncomputable section

namespace Cert.ProjectIdeal.AtIdeal

open Cert.ProjectIdeal Cert.ProjectIdeal.Gen Idealize.ShloMosaic Idealize.ShloMosaic.TcCoe
open Idealize.SL.Sem
open Cert.Dense
open scoped BigOperators

/-- One projected value: a row against a column of the weight, times the column's scale. -/
def lin (h w : Fin 1024 → EReal) (c : EReal) : EReal := (∑ k, h k * w k) * c

theorem pay6_apply (x : Vec Ideal S1x1024x1024 .f32) (g : Vec Ideal S1x1024 .f32) (s j : Fin 1024) :
    k0_pay6 x g (ix2 s j) = rms (fun k => x (ix3 (0 : Fin 1) s k)) (fun k => g (ix2 (0 : Fin 1) k)) j := by
  unfold k0_pay6 rms
  pointwise

variable (h : Vec Ideal S1024x1024 .bf16) (w : Vec Ideal S1024x512 .bf16) (c : Vec Ideal S1x512 .f32)

theorem pay7_apply (d : Fin 512) (s : Fin 1024) :
    k0_pay7 h w c (ix4 (0 : Fin 1) (0 : Fin 1) d s) = lin (fun k => h (ix2 s k)) (fun k => w (ix2 k d)) (c (ix2 (0 : Fin 1) d)) := by
  unfold k0_pay7 lin
  pointwise

theorem pay8_apply (s : Fin 1024) (d : Fin 512) :
    k0_pay8 h w c (ix4 (0 : Fin 1) (0 : Fin 1) s d) = lin (fun k => h (ix2 s k)) (fun k => w (ix2 k d)) (c (ix2 (0 : Fin 1) d)) := by
  unfold k0_pay8 lin
  pointwise

theorem pay9_apply (d : Fin 512) (s : Fin 1024) :
    k0_pay9 h w c (ix2 d s) = lin (fun k => h (ix2 s k)) (fun k => w (ix2 k d)) (c (ix2 (0 : Fin 1) d)) := by
  unfold k0_pay9 lin
  pointwise

/-- The values' block: four stretches of 128 columns, sixteen rows of ones below each. -/
def rows {N : ℕ} (v : Fin 512 → Fin N → EReal) (r : Fin 576) (s : Fin N) : EReal :=
  if hr : r.val % 144 < 128 then v ⟨r.val / 144 * 128 + r.val % 144, by omega⟩ s else 1

theorem rows_data {N : ℕ} (v : Fin 512 → Fin N → EReal) (n i : ℕ) (hi : i < 128) (hn : n * 128 + i < 512) (r : Fin 576) (hr : r.val = n * 144 + i)
    (s : Fin N) :
    rows v r s = v ⟨n * 128 + i, hn⟩ s := by
  have e : r.val % 144 = i := by omega
  have e' : r.val / 144 = n := by omega
  unfold rows
  rw [dif_pos (by omega)]
  exact congrArg (fun d => v d s) (Fin.ext (by show r.val / 144 * 128 + r.val % 144 = _; rw [e, e']))

theorem rows_one {N : ℕ} (v : Fin 512 → Fin N → EReal) (r : Fin 576) (hr : 128 ≤ r.val % 144) (s : Fin N) : rows v r s = 1 := by
  unfold rows
  rw [dif_neg (by omega)]

/-- A stretch of the values, stored at its place. -/
theorem data_apply (v : FVec Ideal S512x1024 .bf16) (n : ℕ) {off : ℕ} (ho : off = n * 128) (hn : n < 4) (hs : S512x1024.Slices ![off, 0] S128x1024)
    (hc : S128x1024.ShapeCasts S1x1x128x1024) (x : S1x1x128x1024.Idx) (r : Fin 576) (s : Fin 1024) (hr : r.val = n * 144 + (x 2).val)
    (hx : s.val = (x 3).val) :
    shapeCast S1x1x128x1024 (extractStridedSlice S128x1024 ![off, 0] v hs) hc x = rows (fun d s => v (ix2 d s)) r s := by
  have hi : (x 2).val < 128 := (x 2).isLt
  subst ho
  rw [rows_data _ n (x 2).val hi (by omega) r hr]
  obtain ⟨a, b, i, j, rfl⟩ : ∃ (a b : Fin 1) (i : Fin 128) (j : Fin 1024), x = ix4 a b i j := ⟨x 0, x 1, x 2, x 3, by
    funext q
    match q with
    | ⟨0, _⟩ => rfl
    | ⟨1, _⟩ => rfl
    | ⟨2, _⟩ => rfl
    | ⟨3, _⟩ => rfl⟩
  obtain rfl : s = j := Fin.ext hx
  obtain rfl : a = 0 := Subsingleton.elim _ _
  obtain rfl : b = 0 := Subsingleton.elim _ _
  pointwise

/-- The rows of ones. -/
theorem ones_apply (hc : S16x1024.ShapeCasts S1x1x16x1024) (x : S1x1x16x1024.Idx) :
    shapeCast S1x1x16x1024 (broadcast S16x1024 (FloatOps.ofBits (F := Ideal) FTy.bf16 16256#16)) hc x = (1 : EReal) := by
  pointwise

/-- A stretch of the weight's columns, at an index. -/
theorem ld_w (w : Vec Ideal S1024x1536 .bf16) {off : ℕ} (inb : ∀ a, ![0, off] a + S1024x512.size a ≤ S1024x1536.size a) (k : Fin 1024) (d : Fin 512)
    (ho : off + d.val < 1536) :
    View.ld w (Rect.unit (s := S1024x1536) ![0, off] S1024x512.size inb) (ix2 k d) = w (ix2 k ⟨off + d.val, ho⟩) :=
  View.ld_unit_apply_of w _ _ inb _ _ fun a => by
    match a with
    | ⟨0, _⟩ => exact (Nat.zero_add k.val).symm
    | ⟨1, _⟩ => rfl

/-- A stretch of the scales, at an index. -/
theorem ld_c (c : Vec Ideal S1x1536 .f32) {off : ℕ} (inb : ∀ a, ![0, off] a + S1x512.size a ≤ S1x1536.size a) (d : Fin 512) (ho : off + d.val < 1536) :
    View.ld c (Rect.unit (s := S1x1536) ![0, off] S1x512.size inb) (ix2 (0 : Fin 1) d) = c (ix2 (0 : Fin 1) ⟨off + d.val, ho⟩) :=
  View.ld_unit_apply_of c _ _ inb _ _ fun a => by
    match a with
    | ⟨0, _⟩ => rfl
    | ⟨1, _⟩ => rfl

/-! ## The blocks that a point leaves -/

section

variable (m : (ℓ : Loc nD τ sig) → Buf (Elt Ideal) ℓ) (p : Dev nD) (t : Fin cfg0.N)

/-- One projected value of a point: row `s` of the block, column `e` of the weight. -/
def part {R : ℕ} (x : Vec Ideal ⟨3, ![1, R, 1024]⟩ .f32) (g : Vec Ideal S1x1024 .f32) (w : Vec Ideal S1024x1536 .bf16) (c : Vec Ideal S1x1536 .f32)
    (s : Fin R) (e : Fin 1536) : EReal :=
  lin (rms (fun k => x (ix3 (0 : Fin 1) s k)) (fun k => g (ix2 (0 : Fin 1) k))) (fun k => w (ix2 k e)) (c (ix2 (0 : Fin 1) e))

/-- The product with a stretch of the weight's columns, for the normalized row `s` of a block. -/
theorem lin_part {R : ℕ} (x : Vec Ideal ⟨3, ![1, R, 1024]⟩ .f32) (g : Vec Ideal S1x1024 .f32) (w : Vec Ideal S1024x1536 .bf16) (c : Vec Ideal S1x1536 .f32)
    {off : ℕ} (inb : ∀ a, ![0, off] a + S1024x512.size a ≤ S1024x1536.size a) (inb' : ∀ a, ![0, off] a + S1x512.size a ≤ S1x1536.size a)
    {h : Fin 1024 → EReal} (s : Fin R) (hh : ∀ k, h k = rms (fun k => x (ix3 (0 : Fin 1) s k)) (fun k => g (ix2 (0 : Fin 1) k)) k)
    (d : Fin 512) (ho : off + d.val < 1536) :
    lin h (fun k => View.ld w (Rect.unit (s := S1024x1536) ![0, off] S1024x512.size inb) (ix2 k d))
      (View.ld c (Rect.unit (s := S1x1536) ![0, off] S1x512.size inb') (ix2 (0 : Fin 1) d)) = part x g w c s ⟨off + d.val, ho⟩ := by
  have e2 : (fun k => View.ld w (Rect.unit (s := S1024x1536) ![0, off] S1024x512.size inb) (ix2 k d)) = fun k => w (ix2 k ⟨off + d.val, ho⟩) :=
    funext fun k => ld_w w inb k d ho
  rw [funext hh, e2, ld_c c inb' d ho]
  rfl

theorem outs4 (d : Fin 512) (s : Fin 1024) :
    (outsAt0 m p t).1 (ix4 (0 : Fin 1) (0 : Fin 1) d s) = part (iblk m p 0 t) (iblk m p 1 t) (iblk m p 2 t) (iblk m p 3 t) s ⟨0 + d.val, by omega⟩ := by
  refine Eq.trans ?_ ((pay7_apply _ _ _ d s).trans (lin_part (iblk m p 0 t) (iblk m p 1 t) (iblk m p 2 t) (iblk m p 3 t)
    inb_S1024x1536_S1024x512_0_0 inb_S1x1536_S1x512_0_0 s (pay6_apply _ _ s) d (by omega)))
  unfold outsAt0
  frame_out

theorem outs5 (s : Fin 1024) (d : Fin 512) :
    (outsAt0 m p t).2.1 (ix4 (0 : Fin 1) (0 : Fin 1) s d) = part (iblk m p 0 t) (iblk m p 1 t) (iblk m p 2 t) (iblk m p 3 t) s ⟨512 + d.val, by omega⟩ := by
  refine Eq.trans ?_ ((pay8_apply _ _ _ s d).trans (lin_part (iblk m p 0 t) (iblk m p 1 t) (iblk m p 2 t) (iblk m p 3 t)
    inb_S1024x1536_S1024x512_0_512 inb_S1x1536_S1x512_0_512 s (pay6_apply _ _ s) d (by omega)))
  unfold outsAt0
  frame_out

theorem outs6 (r : Fin 576) (s : Fin 1024) :
    (outsAt0 m p t).2.2 (ix4 (0 : Fin 1) (0 : Fin 1) r s)
      = rows (fun d s => part (iblk m p 0 t) (iblk m p 1 t) (iblk m p 2 t) (iblk m p 3 t) s ⟨1024 + d.val, by omega⟩) r s := by
  have e : (fun (d : Fin 512) (s : Fin 1024) => part (iblk m p 0 t) (iblk m p 1 t) (iblk m p 2 t) (iblk m p 3 t) s ⟨1024 + d.val, by omega⟩)
      = fun d s => k0_pay9 (k0_pay6 (iblk m p 0 t) (iblk m p 1 t))
        (View.ld (iblk m p 2 t) (Rect.unit ![0, 1024] ![1024, 512] inb_S1024x1536_S1024x512_0_1024))
        (View.ld (iblk m p 3 t) (Rect.unit ![0, 1024] ![1, 512] inb_S1x1536_S1x512_0_1024)) (ix2 d s) :=
    funext fun d => funext fun s => ((pay9_apply _ _ _ d s).trans (lin_part (iblk m p 0 t) (iblk m p 1 t) (iblk m p 2 t) (iblk m p 3 t)
      inb_S1024x1536_S1024x512_0_1024 inb_S1x1536_S1x512_0_1024 s (pay6_apply _ _ s) d (by omega))).symm
  rw [e]
  unfold outsAt0
  frame_out
  canon_tiles x hx using View.cover_of_tiledBy _ ![1, 1, 16, 1024] (by sl_kernel_rfl) (ix4 (0 : Fin 1) (0 : Fin 1) r s)
  all_goals
    open_payloads
    replace hx2 : r.val = _ := hx2
    replace hx3 : s.val = _ := hx3
  case piece0 | piece2 | piece4 | piece6 => exact (ones_apply _ x).trans (rows_one _ r (by omega) s).symm
  case piece1 => exact data_apply _ 3 rfl (by decide) _ _ x r s hx2 hx3
  case piece3 => exact data_apply _ 2 rfl (by decide) _ _ x r s hx2 hx3
  case piece5 => exact data_apply _ 1 rfl (by decide) _ _ x r s hx2 hx3
  case piece7 => exact data_apply _ 0 rfl (by decide) _ _ x r s (by omega) hx3

/-! ## The arrays that the launch finds -/

/-- The arguments, as the reference's functions take them. -/
abbrev argX : FVec Ideal Cert.ProjectReferenceIdeal.S8x8192x1024 .f32 := m ((p : Thread nD τ).loc main_arg0)
abbrev argG : FVec Ideal Cert.ProjectReferenceIdeal.S1024 .f32 := m ((p : Thread nD τ).loc main_arg1)
abbrev argW : FVec Ideal Cert.ProjectReferenceIdeal.S1024x1536 .f32 := m ((p : Thread nD τ).loc main_arg2)
abbrev argC : FVec Ideal Cert.ProjectReferenceIdeal.S1536 .f32 := m ((p : Thread nD τ).loc main_arg3)

theorem x_apply (b : Fin 8) (s : Fin 8192) (k : Fin 1024) : V m p main_arg0 (ix3 b s k) = argX m p (ix3 b s k) :=
  congrFun (V_main_arg0 m p) _

theorem v0_apply (k : Fin 1024) : V m p main_v0 (ix2 (0 : Fin 1) k) = argG m p (ix1 k) := by
  entry_read
  pointwise

theorem v1_apply (k : Fin 1024) (e : Fin 1536) : V m p main_v1 (ix2 k e) = argW m p (ix2 k e) := by
  entry_read
  pointwise

theorem v2_apply (e : Fin 1536) : V m p main_v2 (ix2 (0 : Fin 1) e) = argC m p (ix1 e) := by
  entry_read
  pointwise

/-! ## The blocks at a point -/

theorem pt_lt : t.val < 64 := lt_of_lt_of_eq t.isLt N_0

/-- A point's batch and its row there. -/
def bt : Fin 8 := ⟨t.val / 8, by have := pt_lt t; omega⟩
def place (s : Fin 1024) : Fin 8192 := ⟨t.val % 8 * 1024 + s.val, by omega⟩

theorem idx : ∀ t : Fin cfg0.N, win0_0.index t = ![t.val / 8, t.val % 8, 0] ∧ win0_1.index t = ![0, 0] ∧ win0_2.index t = ![0, 0]
    ∧ win0_3.index t = ![0, 0] ∧ win0_4.index t = ![t.val / 8, 0, 0, t.val % 8] ∧ win0_5.index t = ![t.val / 8, 0, t.val % 8, 0]
    ∧ win0_6.index t = ![t.val / 8, 0, 0, t.val % 8] :=
  (by decide +kernel : ∀ t : Fin grid0.N, _)

theorem iblk0_apply (s k : Fin 1024) : iblk m p 0 t (ix3 (0 : Fin 1) s k) = argX m p (ix3 (bt t) (place t s) k) := by
  rw [← x_apply]
  unfold bt place
  blk_ext [iblk, idx t]

theorem iblk1_apply (k : Fin 1024) : iblk m p 1 t (ix2 (0 : Fin 1) k) = argG m p (ix1 k) := by
  rw [← v0_apply]
  blk_ext [iblk, idx t]

theorem iblk2_apply (k : Fin 1024) (e : Fin 1536) : iblk m p 2 t (ix2 k e) = argW m p (ix2 k e) := by
  rw [← v1_apply]
  blk_ext [iblk, idx t]

theorem iblk3_apply (e : Fin 1536) : iblk m p 3 t (ix2 (0 : Fin 1) e) = argC m p (ix1 e) := by
  rw [← v2_apply]
  blk_ext [iblk, idx t]

end

/-! ## The reference, at an index -/

section

open Cert.ProjectReferenceIdeal.Read Cert.ProjectReferenceIdeal.Gen

variable (x : FVec Ideal Cert.ProjectReferenceIdeal.S8x8192x1024 .f32) (g : FVec Ideal Cert.ProjectReferenceIdeal.S1024 .f32)
  (w : FVec Ideal Cert.ProjectReferenceIdeal.S1024x1536 .f32) (c : FVec Ideal Cert.ProjectReferenceIdeal.S1536 .f32)

/-- One projected value of the reference. -/
def value (b : Fin 8) (s : Fin 8192) (e : Fin 1536) : EReal :=
  lin (rms (fun k => x (ix3 b s k)) (fun k => g (ix1 k))) (fun k => w (ix2 k e)) (c (ix1 e))

theorem ref12_apply (b : Fin 8) (s : Fin 8192) (j : Fin 1024) :
    val_main_v12 (F := Ideal) x g (ix3 b s j) = rms (fun k => x (ix3 b s k)) (fun k => g (ix1 k)) j := by
  unfold val_main_v12 val_main_v11 val_main_v10 val_main_v9 val_main_v8 val_main_v7 val_main_v6 val_main_v5 val_main_cst_1 val_main_v4 val_main_v3
    val_main_cst_0 val_main_v2 val_main_v1 val_main_cst val_main_v0 rms
  pointwise

theorem ref16_apply (b : Fin 8) (s : Fin 8192) (e : Fin 1536) : val_main_v16 (F := Ideal) x g w c (ix3 b s e) = value x g w c b s e := by
  have h : rms (fun k => x (ix3 b s k)) (fun k => g (ix1 k)) = fun k => val_main_v12 (F := Ideal) x g (ix3 b s k) :=
    funext fun k => (ref12_apply x g b s k).symm
  unfold value lin
  rw [h]
  unfold val_main_v16 val_main_v15 val_main_v14 val_main_v13
  generalize val_main_v12 (F := Ideal) x g = h
  pointwise

theorem ref26_apply (b : Fin 8) (d : Fin 512) (s : Fin 8192) :
    val_main_v26 (F := Ideal) x g w c (ix4 b (0 : Fin 1) d s) = value x g w c b s ⟨0 + d.val, by omega⟩ := by
  rw [← ref16_apply]
  unfold val_main_v26 val_main_v25 val_main_v24 val_main_v17
  generalize val_main_v16 (F := Ideal) x g w c = z
  pointwise

theorem ref28_apply (b : Fin 8) (s : Fin 8192) (d : Fin 512) :
    val_main_v28 (F := Ideal) x g w c (ix4 b (0 : Fin 1) s d) = value x g w c b s ⟨512 + d.val, by omega⟩ := by
  rw [← ref16_apply]
  unfold val_main_v28 val_main_v27 val_main_v18
  generalize val_main_v16 (F := Ideal) x g w c = z
  pointwise

theorem ref19_apply (b : Fin 8) (s : Fin 8192) (d : Fin 512) :
    val_main_v19 (F := Ideal) x g w c (ix3 b s d) = value x g w c b s ⟨1024 + d.val, by omega⟩ := by
  rw [← ref16_apply]
  unfold val_main_v19
  generalize val_main_v16 (F := Ideal) x g w c = z
  pointwise

theorem ref21_apply (b : Fin 8) (q : Fin 4) (i : Fin 128) (s : Fin 8192) :
    val_main_v21 (F := Ideal) x g w c (ix4 b q i s) = val_main_v19 (F := Ideal) x g w c (ix3 b s ⟨q.val * 128 + i.val, by omega⟩) := by
  unfold val_main_v21 val_main_v20
  generalize val_main_v19 (F := Ideal) x g w c = z
  pointwise

theorem ref23_apply (b : Fin 8) (q : Fin 4) (i : Fin 144) (s : Fin 8192) :
    val_main_v23 (F := Ideal) x g w c (ix4 b q i s)
      = if hi : i.val < 128 then val_main_v21 (F := Ideal) x g w c (ix4 b q ⟨i.val, hi⟩ s) else 1 := by
  unfold val_main_v23 val_main_v22 val_main_cst_2
  generalize val_main_v21 (F := Ideal) x g w c = z
  pointwise

/-- The reshape of the heads' groups of 144 rows into 576 rows. -/
theorem shape30_apply (z : FVec Ideal Cert.ProjectReferenceIdeal.S8x4x144x8192 .f32) (b : Fin 8) (r : Fin 576) (s : Fin 8192) :
    shapeCast Cert.ProjectReferenceIdeal.S8x1x576x8192 z shapeCasts_S8x4x144x8192_S8x1x576x8192 (ix4 b (0 : Fin 1) r s)
      = z (ix4 b (⟨r.val / 144, by omega⟩ : Fin 4) (⟨r.val % 144, by omega⟩ : Fin 144) s) := by
  have hl : (Cert.ProjectReferenceIdeal.S8x4x144x8192.rowMajor (ix4 b (⟨r.val / 144, by omega⟩ : Fin 4) (⟨r.val % 144, by omega⟩ : Fin 144) s)).val
      = ((b.val * 4 + r.val / 144) * 144 + r.val % 144) * 8192 + s.val := by
    rw [Shape.rowMajor_val_four]
    rfl
  have hr : (Cert.ProjectReferenceIdeal.S8x1x576x8192.rowMajor (ix4 b (0 : Fin 1) r s)).val = ((b.val * 1 + 0) * 576 + r.val) * 8192 + s.val := by
    rw [Shape.rowMajor_val_four]
    rfl
  have ha : ((b.val * 4 + r.val / 144) * 144 + r.val % 144) * 8192 + s.val = ((b.val * 1 + 0) * 576 + r.val) * 8192 + s.val := by omega
  exact shapeCast_apply z shapeCasts_S8x4x144x8192_S8x1x576x8192 (ix4 b (0 : Fin 1) r s)
    (ix4 b (⟨r.val / 144, by omega⟩ : Fin 4) (⟨r.val % 144, by omega⟩ : Fin 144) s) (hl.trans (ha.trans hr.symm))

theorem cast30_apply (b : Fin 8) (r : Fin 576) (s : Fin 8192) :
    val_main_v30 (F := Ideal) x g w c (ix4 b (0 : Fin 1) r s) = val_main_v29 (F := Ideal) x g w c (ix4 b (0 : Fin 1) r s) := by
  rw [val_main_v30_apply]
  generalize val_main_v29 (F := Ideal) x g w c (ix4 b (0 : Fin 1) r s) = y
  rfl

theorem ref30_apply (b : Fin 8) (r : Fin 576) (s : Fin 8192) :
    val_main_v30 (F := Ideal) x g w c (ix4 b (0 : Fin 1) r s)
      = val_main_v23 (F := Ideal) x g w c (ix4 b (⟨r.val / 144, by omega⟩ : Fin 4) (⟨r.val % 144, by omega⟩ : Fin 144) s) := by
  rw [cast30_apply]
  unfold val_main_v29
  generalize val_main_v23 (F := Ideal) x g w c = z
  exact shape30_apply z b r s

end

/-! ## The arrays after the run -/

section

open Cert.ProjectReferenceIdeal.Read

variable (m : (ℓ : Loc nD τ sig) → Buf (Elt Ideal) ℓ) (p : Dev nD) (t : Fin cfg0.N)

theorem part_value (s : Fin 1024) (e : Fin 1536) :
    part (iblk m p 0 t) (iblk m p 1 t) (iblk m p 2 t) (iblk m p 3 t) s e
      = value (argX m p) (argG m p) (argW m p) (argC m p) (bt t) (place t s) e := by
  unfold part value
  simp only [iblk0_apply, iblk1_apply, iblk2_apply, iblk3_apply]

/-- An index of a block with two unit axes. -/
theorem eq_ix4 {a b : ℕ} (y : (⟨4, ![1, 1, a, b]⟩ : Shape).Idx) : ∃ (u : Fin a) (v : Fin b), y = ix4 (0 : Fin 1) (0 : Fin 1) u v :=
  ⟨⟨(y 2).val, (y 2).isLt⟩, ⟨(y 3).val, (y 3).isLt⟩, by
    funext i
    match i with
    | ⟨0, _⟩ => exact Fin.ext (Nat.lt_one_iff.mp (y 0).isLt)
    | ⟨1, _⟩ => exact Fin.ext (Nat.lt_one_iff.mp (y 1).isLt)
    | ⟨2, _⟩ => rfl
    | ⟨3, _⟩ => rfl⟩

theorem final4 : (dats m 0 p).arrAt 4 cfg0.N = val_main_v26 (F := Ideal) (argX m p) (argG m p) (argW m p) (argC m p) := by
  refine (dats m 0 p).arrAt_eq_of_covers 4 _ (by decide +kernel) fun t hf y => ?_
  blk_simp
  rw [after0_4]
  obtain ⟨d, s, rfl⟩ := eq_ix4 y
  have he : (win0_4.blk t).view.emb (ix4 (0 : Fin 1) (0 : Fin 1) d s) = ix4 (bt t) (0 : Fin 1) d (place t s) := by
    unfold bt place
    blk_ext [idx t]
  rw [he, ref26_apply]
  exact (outs4 m p t d s).trans (part_value m p t s _)

theorem final5 : (dats m 0 p).arrAt 5 cfg0.N = val_main_v28 (F := Ideal) (argX m p) (argG m p) (argW m p) (argC m p) := by
  refine (dats m 0 p).arrAt_eq_of_covers 5 _ (by decide +kernel) fun t hf y => ?_
  blk_simp
  rw [after0_5]
  obtain ⟨s, d, rfl⟩ := eq_ix4 y
  have he : (win0_5.blk t).view.emb (ix4 (0 : Fin 1) (0 : Fin 1) s d) = ix4 (bt t) (0 : Fin 1) (place t s) d := by
    unfold bt place
    blk_ext [idx t]
  rw [he, ref28_apply]
  exact (outs5 m p t s d).trans (part_value m p t s _)

/-- A row of the values' result: data or ones. -/
theorem rows_value (r : Fin 576) (s : Fin 1024) :
    rows (fun d s => part (iblk m p 0 t) (iblk m p 1 t) (iblk m p 2 t) (iblk m p 3 t) s ⟨1024 + d.val, by omega⟩) r s
      = val_main_v30 (F := Ideal) (argX m p) (argG m p) (argW m p) (argC m p) (ix4 (bt t) (0 : Fin 1) r (place t s)) := by
  rw [ref30_apply, ref23_apply]
  unfold rows
  by_cases hr : r.val % 144 < 128
  · rw [dif_pos hr, dif_pos hr, ref21_apply, ref19_apply]
    exact part_value m p t s _
  · rw [dif_neg hr, dif_neg hr]

theorem final6 : (dats m 0 p).arrAt 6 cfg0.N = val_main_v30 (F := Ideal) (argX m p) (argG m p) (argW m p) (argC m p) := by
  refine (dats m 0 p).arrAt_eq_of_covers 6 _ (by decide +kernel) fun t hf y => ?_
  blk_simp
  rw [after0_6]
  obtain ⟨r, s, rfl⟩ := eq_ix4 y
  have he : (win0_6.blk t).view.emb (ix4 (0 : Fin 1) (0 : Fin 1) r s) = ix4 (bt t) (0 : Fin 1) r (place t s) := by
    unfold bt place
    blk_ext [idx t]
  rw [he]
  exact (outs6 m p t r s).trans (rows_value m p t r s)

end

end Cert.ProjectIdeal.AtIdeal

end
-- ==== Proof.Strided.lean ====
/-
  The projection with a stride `D`: the normalized rows of a block go into a scratch array in groups of 128 columns, are read
  with the stride and stored by class into a second one; a product is then cut into its classes. Facts for any stride.
-/
module

public import proofs.«01_k».proof.Proof.ProjectValue

@[expose] public section

set_option maxRecDepth 16384

noncomputable section

namespace Cert.Strided

open Idealize.ShloMosaic Idealize.ShloMosaic.TcCoe
open Cert.Dense
open Cert.ProjectIdeal.AtIdeal (rows rows_data)

/-! ## The two lists of stores -/

section

variable {R : ℕ} (z : Fin R → Fin 1024 → EReal)

/-- Eight groups of 128 columns, stored last first, at an index. -/
theorem canon_groups (inb : ∀ (k : Fin 8) (a : Fin 3), (![7 - k.val, 0, 0] : Fin 3 → ℕ) a + (![1, R, 128] : Fin 3 → ℕ) a ≤ (![8, R, 128] : Fin 3 → ℕ) a)
    (P : Fin 8 → Vec Ideal ⟨3, ![1, R, 128]⟩ .f32)
    (hP : ∀ (k : Fin 8) (r : Fin R) (l : Fin 128), P k (ix3 (0 : Fin 1) r l) = z r ⟨(7 - k.val) * 128 + l.val, by omega⟩)
    (c : Fin 8) (r : Fin R) (l : Fin 128) :
    View.canon (s := ⟨3, ![8, R, 128]⟩) (e := .f32) (List.ofFn fun k : Fin 8 => ⟨Rect.unit ![7 - k.val, 0, 0] ![1, R, 128] (inb k), P k⟩) (ix3 c r l)
      = z r ⟨c.val * 128 + l.val, by omega⟩ := by
  refine View.canon_ofFn_unit_eq_of_forall (S := ⟨3, ![8, R, 128]⟩) (fun k : Fin 8 => ![7 - k.val, 0, 0]) ![1, R, 128] inb P _ _
    ⟨⟨7 - c.val, by omega⟩, fun a => ?_⟩ fun k y hy => ?_
  · match a with
    | ⟨0, _⟩ => exact ⟨by show 7 - (7 - c.val) ≤ c.val; omega, by show c.val < 7 - (7 - c.val) + 1; omega⟩
    | ⟨1, _⟩ => exact ⟨Nat.zero_le _, by show r.val < 0 + R; omega⟩
    | ⟨2, _⟩ => exact ⟨Nat.zero_le _, by show l.val < 0 + 128; omega⟩
  · have k8 : 7 - k.val < 8 := by omega
    have h0 : c.val = 7 - k.val + (y 0).val := hy 0
    have h1 : r.val = 0 + (y 1).val := hy 1
    have h2 : l.val = 0 + (y 2).val := hy 2
    obtain ⟨a, r', l', rfl⟩ : ∃ (a : Fin 1) (i : Fin R) (j : Fin 128), y = ix3 a i j := ⟨y 0, y 1, y 2, by
      funext q
      match q with
      | ⟨0, _⟩ => rfl
      | ⟨1, _⟩ => rfl
      | ⟨2, _⟩ => rfl⟩
    obtain rfl : r = r' := Fin.ext (h1.trans (Nat.zero_add _))
    obtain rfl : l = l' := Fin.ext (h2.trans (Nat.zero_add _))
    obtain rfl : a = 0 := Subsingleton.elim _ _
    obtain rfl : c = ⟨7 - k.val, k8⟩ := Fin.ext h0
    exact hP k r l

variable {D N : ℕ} (hb : ∀ (q : Fin D) (s : Fin N), s.val * D + q.val < R) (hb' : ∀ (q : Fin D) (s : Fin N), q.val * N + s.val < R)

/-- The rows by class, stored class by class in eight groups of columns, last first: row `q N + s` is the row `s D + q`. -/
theorem canon_classes (hN : 0 < N)
    (inb : ∀ (k : Fin (D * 8)) (a : Fin 2),
      (![(D * 8 - 1 - k.val) / 8 * N, (D * 8 - 1 - k.val) % 8 * 128] : Fin 2 → ℕ) a + (![N, 128] : Fin 2 → ℕ) a ≤ (![R, 1024] : Fin 2 → ℕ) a)
    (P : Fin (D * 8) → Vec Ideal ⟨2, ![N, 128]⟩ .bf16)
    (hP : ∀ (k : Fin (D * 8)) (s : Fin N) (l : Fin 128),
      P k (ix2 s l) = z ⟨s.val * D + (D * 8 - 1 - k.val) / 8, hb ⟨(D * 8 - 1 - k.val) / 8, by omega⟩ s⟩ ⟨(D * 8 - 1 - k.val) % 8 * 128 + l.val, by omega⟩)
    (q : Fin D) (s : Fin N) (k : Fin 1024) :
    View.canon (s := ⟨2, ![R, 1024]⟩) (e := .bf16) (List.ofFn fun k : Fin (D * 8) =>
        ⟨Rect.unit ![(D * 8 - 1 - k.val) / 8 * N, (D * 8 - 1 - k.val) % 8 * 128] ![N, 128] (inb k), P k⟩) (ix2 (⟨q.val * N + s.val, hb' q s⟩ : Fin R) k)
      = z ⟨s.val * D + q.val, hb q s⟩ k := by
  refine View.canon_ofFn_unit_eq_of_forall (S := ⟨2, ![R, 1024]⟩)
    (fun k : Fin (D * 8) => ![(D * 8 - 1 - k.val) / 8 * N, (D * 8 - 1 - k.val) % 8 * 128]) ![N, 128] inb P _ _
    ⟨⟨D * 8 - 1 - (q.val * 8 + k.val / 128), by omega⟩, fun a => ?_⟩ fun i y hy => ?_
  · have e0 : (D * 8 - 1 - (D * 8 - 1 - (q.val * 8 + k.val / 128))) / 8 = q.val := by omega
    have e1 : (D * 8 - 1 - (D * 8 - 1 - (q.val * 8 + k.val / 128))) % 8 = k.val / 128 := by omega
    match a with
    | ⟨0, _⟩ =>
      show (D * 8 - 1 - (D * 8 - 1 - (q.val * 8 + k.val / 128))) / 8 * N ≤ q.val * N + s.val
        ∧ q.val * N + s.val < (D * 8 - 1 - (D * 8 - 1 - (q.val * 8 + k.val / 128))) / 8 * N + N
      rw [e0]
      omega
    | ⟨1, _⟩ =>
      show (D * 8 - 1 - (D * 8 - 1 - (q.val * 8 + k.val / 128))) % 8 * 128 ≤ k.val
        ∧ k.val < (D * 8 - 1 - (D * 8 - 1 - (q.val * 8 + k.val / 128))) % 8 * 128 + 128
      rw [e1]
      omega
  · have h0 : q.val * N + s.val = (D * 8 - 1 - i.val) / 8 * N + (y 0).val := hy 0
    have h1 : k.val = (D * 8 - 1 - i.val) % 8 * 128 + (y 1).val := hy 1
    obtain ⟨s', l, rfl⟩ : ∃ (i : Fin N) (j : Fin 128), y = ix2 i j := ⟨y 0, y 1, by
      funext q
      match q with
      | ⟨0, _⟩ => rfl
      | ⟨1, _⟩ => rfl⟩
    replace h0 : q.val * N + s.val = (D * 8 - 1 - i.val) / 8 * N + s'.val := h0
    replace h1 : k.val = (D * 8 - 1 - i.val) % 8 * 128 + l.val := h1
    have hq : q.val = (D * 8 - 1 - i.val) / 8 := by
      have h := congrArg (· / N) h0
      simp only [Nat.add_comm _ s.val, Nat.add_comm _ s'.val, Nat.add_mul_div_right _ _ hN, Nat.div_eq_of_lt s.isLt, Nat.div_eq_of_lt s'.isLt] at h
      omega
    rw [← hq] at h0
    obtain rfl : s = s' := Fin.ext (Nat.add_left_cancel h0)
    refine (hP i s l).trans ?_
    have e0 : (⟨s.val * D + (D * 8 - 1 - i.val) / 8, hb ⟨(D * 8 - 1 - i.val) / 8, by omega⟩ s⟩ : Fin R) = ⟨s.val * D + q.val, hb q s⟩ :=
      Fin.ext (by show s.val * D + _ = s.val * D + _; rw [hq])
    rw [e0]
    exact congrArg (z _) (Fin.ext h1.symm)

end

/-! ## The pieces of a product -/

/-- An index with two unit axes, by its coordinates. -/
theorem eq_four {a b : ℕ} (x : (⟨4, ![1, 1, a, b]⟩ : Shape).Idx) (u : Fin a) (v : Fin b) (hu : u.val = (x 2).val) (hv : v.val = (x 3).val) :
    x = ix4 (0 : Fin 1) (0 : Fin 1) u v := by
  funext i
  match i with
  | ⟨0, _⟩ => exact Fin.ext (Nat.lt_one_iff.mp (x 0).isLt)
  | ⟨1, _⟩ => exact Fin.ext (Nat.lt_one_iff.mp (x 1).isLt)
  | ⟨2, _⟩ => exact Fin.ext hu.symm
  | ⟨3, _⟩ => exact Fin.ext hv.symm

/-- Two unit axes in front of an array's axes. -/
theorem unit_cast {α : Type} {a b : ℕ} (v : (⟨2, ![a, b]⟩ : Shape).Idx → α) (hc : (⟨2, ![a, b]⟩ : Shape).ShapeCasts ⟨4, ![1, 1, a, b]⟩) (i : Fin a) (j : Fin b) :
    shapeCast ⟨4, ![1, 1, a, b]⟩ v hc (ix4 (0 : Fin 1) (0 : Fin 1) i j) = v (ix2 i j) := by
  have hl : ((⟨2, ![a, b]⟩ : Shape).rowMajor (ix2 i j)).val = i.val * b + j.val := by
    rw [Shape.rowMajor_val_two]
    rfl
  have hr : ((⟨4, ![1, 1, a, b]⟩ : Shape).rowMajor (ix4 (0 : Fin 1) (0 : Fin 1) i j)).val = ((0 * 1 + 0) * a + i.val) * b + j.val := by
    rw [Shape.rowMajor_val_four]
    rfl
  have ha : i.val * b + j.val = ((0 * 1 + 0) * a + i.val) * b + j.val := by simp
  exact shapeCast_apply v hc (ix4 (0 : Fin 1) (0 : Fin 1) i j) (ix2 i j) (hl.trans (ha.trans hr.symm))

/-- Consecutive rows of a matrix. -/
theorem cut_apply {α : Type} {a b c : ℕ} (z : (⟨2, ![a, b]⟩ : Shape).Idx → α) {off : ℕ} (hs : (⟨2, ![a, b]⟩ : Shape).Slices ![off, 0] ⟨2, ![c, b]⟩)
    (i : Fin c) (j : Fin b) (r : Fin a) (hr : r.val = off + i.val) : extractStridedSlice ⟨2, ![c, b]⟩ ![off, 0] z hs (ix2 i j) = z (ix2 r j) :=
  extractStridedSlice_apply _ z hs _ _ fun q => match q with
    | ⟨0, _⟩ => hr
    | ⟨1, _⟩ => (Nat.zero_add j.val).symm

/-- A matrix by columns. -/
theorem flip_apply {α : Type} {a b : ℕ} (x : (⟨2, ![a, b]⟩ : Shape).Idx → α) (h : (⟨2, ![a, b]⟩ : Shape).Transposes [1, 0] ⟨2, ![b, a]⟩) (j : Fin b)
    (i : Fin a) : transpose ⟨2, ![b, a]⟩ [1, 0] x h (ix2 j i) = x (ix2 i j) :=
  transpose_apply _ x h _ _ fun q => match q with
    | ⟨0, _⟩ => rfl
    | ⟨1, _⟩ => rfl

/-- An index of a block with one unit axis. -/
theorem eq_one_four {n a b : ℕ} (y : (⟨4, ![1, n, a, b]⟩ : Shape).Idx) : ∃ (q : Fin n) (u : Fin a) (v : Fin b), y = ix4 (0 : Fin 1) q u v :=
  ⟨⟨(y 1).val, (y 1).isLt⟩, ⟨(y 2).val, (y 2).isLt⟩, ⟨(y 3).val, (y 3).isLt⟩, by
    funext i
    match i with
    | ⟨0, _⟩ => exact Fin.ext (Nat.lt_one_iff.mp (y 0).isLt)
    | ⟨1, _⟩ => rfl
    | ⟨2, _⟩ => rfl
    | ⟨3, _⟩ => rfl⟩

section

variable {R N : ℕ} (z : FVec Ideal ⟨2, ![R, 512]⟩ .f32) {off : ℕ} (hs : (⟨2, ![R, 512]⟩ : Shape).Slices ![off, 0] ⟨2, ![N, 512]⟩)
  (ht : (⟨2, ![N, 512]⟩ : Shape).Transposes [1, 0] ⟨2, ![512, N]⟩) (hl : FTy.bf16.bits < FTy.f32.bits)

/-- A class's rows of a product, by columns. -/
theorem columns_apply (hc : (⟨2, ![512, N]⟩ : Shape).ShapeCasts ⟨4, ![1, 1, 512, N]⟩) (x : (⟨4, ![1, 1, 512, N]⟩ : Shape).Idx) (d : Fin 512) (s : Fin N)
    (r : Fin R) (hr : r.val = off + s.val) (hd : d.val = (x 2).val) (hx : s.val = (x 3).val) :
    shapeCast ⟨4, ![1, 1, 512, N]⟩ (truncf .bf16 (transpose ⟨2, ![512, N]⟩ [1, 0] (extractStridedSlice ⟨2, ![N, 512]⟩ ![off, 0] z hs) ht) hl) hc x
      = z (ix2 r d) := by
  obtain rfl := eq_four x d s hd hx
  exact (unit_cast _ hc _ _).trans ((flip_apply _ ht d s).trans (cut_apply z hs s d r hr))

/-- A class's rows of a product. -/
theorem class_apply (hc : (⟨2, ![N, 512]⟩ : Shape).ShapeCasts ⟨4, ![1, 1, N, 512]⟩) (x : (⟨4, ![1, 1, N, 512]⟩ : Shape).Idx) (s : Fin N) (d : Fin 512)
    (r : Fin R) (hr : r.val = off + s.val) (hx : s.val = (x 2).val) (hd : d.val = (x 3).val) :
    shapeCast ⟨4, ![1, 1, N, 512]⟩ (truncf .bf16 (extractStridedSlice ⟨2, ![N, 512]⟩ ![off, 0] z hs) hl) hc x = z (ix2 r d) := by
  obtain rfl := eq_four x s d hx hd
  exact (unit_cast _ hc _ _).trans (cut_apply z hs s d r hr)

/-- A stretch of a class's values, stored at its place. -/
theorem data_apply {off' : ℕ} (n : ℕ) (ho : off' = n * 128) (hn : n < 4) (hs' : (⟨2, ![512, N]⟩ : Shape).Slices ![off', 0] ⟨2, ![128, N]⟩)
    (hc : (⟨2, ![128, N]⟩ : Shape).ShapeCasts ⟨4, ![1, 1, 128, N]⟩) (x : (⟨4, ![1, 1, 128, N]⟩ : Shape).Idx) (i : Fin 576) (s : Fin N)
    (r : Fin N → Fin R) (hr : ∀ s, (r s).val = off + s.val) (hi : i.val = n * 144 + (x 2).val) (hx : s.val = (x 3).val) :
    shapeCast ⟨4, ![1, 1, 128, N]⟩ (extractStridedSlice ⟨2, ![128, N]⟩ ![off', 0] (truncf .bf16 (transpose ⟨2, ![512, N]⟩ [1, 0]
      (extractStridedSlice ⟨2, ![N, 512]⟩ ![off, 0] z hs) ht) hl) hs') hc x = rows (fun d s => z (ix2 (r s) d)) i s := by
  obtain ⟨j, hj⟩ : ∃ j : Fin 128, j.val = (x 2).val := ⟨⟨(x 2).val, (x 2).isLt⟩, rfl⟩
  subst ho
  rw [rows_data _ n j.val j.isLt (by omega) i (by omega)]
  obtain rfl := eq_four x j s hj hx
  exact (unit_cast _ hc _ _).trans ((cut_apply _ hs' j s _ rfl).trans ((flip_apply _ ht _ s).trans (cut_apply z hs s _ (r s) (hr s))))

/-- The rows of ones. -/
theorem ones_apply (hc : (⟨2, ![16, N]⟩ : Shape).ShapeCasts ⟨4, ![1, 1, 16, N]⟩) (x : (⟨4, ![1, 1, 16, N]⟩ : Shape).Idx) :
    shapeCast ⟨4, ![1, 1, 16, N]⟩ (broadcast ⟨2, ![16, N]⟩ (FloatOps.ofBits (F := Ideal) FTy.bf16 16256#16)) hc x = (1 : EReal) := by
  pointwise

end

/-! ## The reference's values -/

/-- The reshape of the heads' groups of 144 rows into 576 rows. -/
theorem groups_cast {B D L : ℕ} (z : FVec Ideal ⟨5, ![B, D, 4, 144, L]⟩ .f32) (hc : (⟨5, ![B, D, 4, 144, L]⟩ : Shape).ShapeCasts ⟨4, ![B, D, 576, L]⟩)
    (b : Fin B) (q : Fin D) (r : Fin 576) (s : Fin L) :
    shapeCast ⟨4, ![B, D, 576, L]⟩ z hc (ix4 b q r s) = z (ix5 b q (⟨r.val / 144, by omega⟩ : Fin 4) (⟨r.val % 144, by omega⟩ : Fin 144) s) := by
  have hl : ((⟨5, ![B, D, 4, 144, L]⟩ : Shape).rowMajor (ix5 b q (⟨r.val / 144, by omega⟩ : Fin 4) (⟨r.val % 144, by omega⟩ : Fin 144) s)).val
      = (((b.val * D + q.val) * 4 + r.val / 144) * 144 + r.val % 144) * L + s.val := by
    rw [Shape.rowMajor_val_five]
    rfl
  have hr : ((⟨4, ![B, D, 576, L]⟩ : Shape).rowMajor (ix4 b q r s)).val = ((b.val * D + q.val) * 576 + r.val) * L + s.val := by
    rw [Shape.rowMajor_val_four]
    rfl
  have ha : (((b.val * D + q.val) * 4 + r.val / 144) * 144 + r.val % 144) * L + s.val = ((b.val * D + q.val) * 576 + r.val) * L + s.val := by
    generalize b.val * D + q.val = n
    have : (n * 4 + r.val / 144) * 144 + r.val % 144 = n * 576 + r.val := by omega
    rw [this]
  exact shapeCast_apply z hc (ix4 b q r s) (ix5 b q (⟨r.val / 144, by omega⟩ : Fin 4) (⟨r.val % 144, by omega⟩ : Fin 144) s) (hl.trans (ha.trans hr.symm))

end Cert.Strided

end
-- ==== Proof.Project4Value.lean ====
/-
  The input projection of one mixer with stride 4 (the second dilated pattern): a position `4 s + q` goes to place `s` of
  class `q`. The ideal kernel's result arrays are the reference's functions of the arguments.
-/
module

public import proofs.«01_k».proof.Proof.Strided
public import proofs.«01_k».proof.Proof.Gen.Project4Ideal.Value
public import proofs.«01_k».proof.Proof.Gen.Project4ReferenceIdeal.Read

@[expose] public section

set_option maxRecDepth 16384

noncomputable section

namespace Cert.Project4Ideal.AtIdeal

open Cert.Project4Ideal Cert.Project4Ideal.Gen Idealize.ShloMosaic Idealize.ShloMosaic.TcCoe
open Idealize.SL.Sem
open Cert.Dense
open Cert.ProjectIdeal.AtIdeal (lin rows rows_one part lin_part value)
open Cert.Strided
open scoped BigOperators

/-! ## The two scratch arrays -/

theorem pay3_apply (x : Vec Ideal S1x1024x1024 .f32) (g : Vec Ideal S1x1024 .f32) (s j : Fin 1024) :
    k0_pay3 x g (ix2 s j) = rms (fun k => x (ix3 (0 : Fin 1) s k)) (fun k => g (ix2 (0 : Fin 1) k)) j := by
  unfold k0_pay3 rms
  pointwise

section

variable (x : Vec Ideal S1x1024x1024 .f32) (g : Vec Ideal S1x1024 .f32)

theorem tall_inb (k : Fin 8) (a : Fin 3) : (![7 - k.val, 0, 0] : Fin 3 → ℕ) a + (![1, 1024, 128] : Fin 3 → ℕ) a ≤ (![8, 1024, 128] : Fin 3 → ℕ) a := by
  revert a; revert k; decide +kernel

theorem tall_slices (k : Fin 8) : S1024x1024.Slices ![0, (7 - k.val) * 128] S1024x128 := by
  revert k; decide +kernel

/-- The stores into the array of the normalized rows, eight groups of 128 columns, last first. -/
def tall : List (View.Piece (Elt Ideal) S8x1024x128 .f32) :=
  List.ofFn fun k : Fin 8 => ⟨Rect.unit ![7 - k.val, 0, 0] ![1, 1024, 128] (tall_inb k),
    shapeCast S1x1024x128 (extractStridedSlice S1024x128 ![0, (7 - k.val) * 128] (k0_pay3 x g) (tall_slices k)) shapeCasts_S1024x128_S1x1024x128⟩

theorem tall_apply (c : Fin 8) (r : Fin 1024) (l : Fin 128) :
    View.canon (tall x g) (ix3 c r l) = k0_pay3 x g (ix2 r ⟨c.val * 128 + l.val, by omega⟩) :=
  canon_groups (fun r k => k0_pay3 x g (ix2 r k)) tall_inb _ (fun k r l => by
    have := tall_slices k
    generalize k0_pay3 x g = z
    pointwise) c r l

theorem thin_inb (k : Fin (4 * 8)) (a : Fin 2) :
    (![(4 * 8 - 1 - k.val) / 8 * 256, (4 * 8 - 1 - k.val) % 8 * 128] : Fin 2 → ℕ) a + (![256, 128] : Fin 2 → ℕ) a ≤ (![1024, 1024] : Fin 2 → ℕ) a := by
  revert a; revert k; decide +kernel

theorem read_inb (k : Fin (4 * 8)) (a : Fin 3) : S1x256x128.size a = 0 ∨
    (![(4 * 8 - 1 - k.val) % 8, (4 * 8 - 1 - k.val) / 8, 0] : Fin 3 → ℕ) a + (![1, 4, 1] : Fin 3 → ℕ) a * (S1x256x128.size a - 1) < S8x1024x128.size a := by
  revert a; revert k; decide +kernel

/-- One read with the stride, in a group of the columns. -/
def every (k : Fin (4 * 8)) : Vec Ideal S1x256x128 .f32 :=
  (View.whole cc0_scratch1).readCov (tall x g) ⟨![(4 * 8 - 1 - k.val) % 8, (4 * 8 - 1 - k.val) / 8, 0], S1x256x128.size, ![1, 4, 1], read_inb k⟩

/-- The stores into the array of the rows by class, last first. -/
def thin : List (View.Piece (Elt Ideal) S1024x1024 .bf16) :=
  List.ofFn fun k : Fin (4 * 8) =>
    ⟨Rect.unit ![(4 * 8 - 1 - k.val) / 8 * 256, (4 * 8 - 1 - k.val) % 8 * 128] ![256, 128] (thin_inb k), k0_pay13 (every x g k)⟩

theorem every_apply (k : Fin (4 * 8)) (s : Fin 256) (l : Fin 128) :
    every x g k (ix3 (0 : Fin 1) s l)
      = k0_pay3 x g (ix2 ⟨s.val * 4 + (4 * 8 - 1 - k.val) / 8, by omega⟩ ⟨(4 * 8 - 1 - k.val) % 8 * 128 + l.val, by omega⟩) := by
  unfold every
  rw [View.readCov_eq_canon']
  refine (congrArg (View.canon (tall x g)) ?_).trans
    (tall_apply x g ⟨(4 * 8 - 1 - k.val) % 8, by omega⟩ ⟨s.val * 4 + (4 * 8 - 1 - k.val) / 8, by omega⟩ l)
  funext a
  match a with
  | ⟨0, _⟩ => exact Fin.ext (show (4 * 8 - 1 - k.val) % 8 + 1 * 0 = _ from rfl)
  | ⟨1, _⟩ => exact Fin.ext (show (4 * 8 - 1 - k.val) / 8 + 4 * s.val = s.val * 4 + (4 * 8 - 1 - k.val) / 8 by omega)
  | ⟨2, _⟩ => exact Fin.ext (show 0 + 1 * l.val = l.val by omega)

theorem pay13_apply (v : Vec Ideal S1x256x128 .f32) (s : Fin 256) (l : Fin 128) : k0_pay13 v (ix2 s l) = v (ix3 (0 : Fin 1) s l) := by
  unfold k0_pay13
  pointwise

/-- The array of the rows by class, as the products read it. -/
theorem thin_apply (inb : ∀ a, (![0, 0] : Fin 2 → ℕ) a + S1024x1024.size a ≤ S1024x1024.size a) (q : Fin 4) (s : Fin 256) (k : Fin 1024) :
    (View.whole cc0_scratch0).readCov (thin x g) (Rect.unit (s := S1024x1024) ![0, 0] S1024x1024.size inb).toLoadRect
        (ix2 (⟨q.val * 256 + s.val, by omega⟩ : Fin 1024) k)
      = rms (fun k => x (ix3 (0 : Fin 1) (⟨s.val * 4 + q.val, by omega⟩ : Fin 1024) k)) (fun k => g (ix2 (0 : Fin 1) k)) k := by
  rw [View.readCov_eq_canon', ← pay3_apply]
  refine (congrArg (View.canon (thin x g)) ?_).trans (canon_classes (R := 1024) (D := 4) (N := 256) (fun r k => k0_pay3 x g (ix2 r k)) (by omega) (by omega)
    (by omega) thin_inb _ (fun k s l => (pay13_apply _ s l).trans (every_apply x g k s l)) q s k)
  funext a
  match a with
  | ⟨0, _⟩ => exact Fin.ext ((Nat.zero_add _).trans (Nat.one_mul _))
  | ⟨1, _⟩ => exact Fin.ext ((Nat.zero_add _).trans (Nat.one_mul _))

end

/-! ## The products and their pieces -/

section

variable (h : Vec Ideal S1024x1024 .bf16)

theorem pay51_apply (w : Vec Ideal S1024x512 .bf16) (c : Vec Ideal S1x512 .f32) (r : Fin 1024) (d : Fin 512) :
    k0_pay51 h w c (ix2 r d) = lin (fun k => h (ix2 r k)) (fun k => w (ix2 k d)) (c (ix2 (0 : Fin 1) d)) := by
  unfold k0_pay51 lin
  pointwise

/-- The rows by class: row `256 q + s` is the normalized row `4 s + q`. -/
def ByClass (x : Vec Ideal S1x1024x1024 .f32) (g : Vec Ideal S1x1024 .f32) : Prop :=
  ∀ (q : Fin 4) (s : Fin 256) (k : Fin 1024), h (ix2 (⟨q.val * 256 + s.val, by omega⟩ : Fin 1024) k)
    = rms (fun k => x (ix3 (0 : Fin 1) (⟨s.val * 4 + q.val, by omega⟩ : Fin 1024) k)) (fun k => g (ix2 (0 : Fin 1) k)) k

/-- The product with a stretch of the weight's columns, at place `s` of class `q`. -/
theorem acc_part (x : Vec Ideal S1x1024x1024 .f32) (g : Vec Ideal S1x1024 .f32) (hh : ByClass h x g) (w : Vec Ideal S1024x1536 .bf16)
    (c : Vec Ideal S1x1536 .f32) {off : ℕ} (inb : ∀ a, ![0, off] a + S1024x512.size a ≤ S1024x1536.size a)
    (inb' : ∀ a, ![0, off] a + S1x512.size a ≤ S1x1536.size a) (q : Fin 4) (s : Fin 256) (d : Fin 512) (ho : off + d.val < 1536) :
    k0_pay51 h (View.ld w (Rect.unit (s := S1024x1536) ![0, off] S1024x512.size inb))
        (View.ld c (Rect.unit (s := S1x1536) ![0, off] S1x512.size inb')) (ix2 (⟨q.val * 256 + s.val, by omega⟩ : Fin 1024) d)
      = part x g w c ⟨s.val * 4 + q.val, by omega⟩ ⟨off + d.val, ho⟩ :=
  (pay51_apply h _ _ _ d).trans (lin_part x g w c inb inb' _ (hh q s) d ho)

end

/-! ## The blocks that a point leaves -/

section

variable (m : (ℓ : Loc nD τ sig) → Buf (Elt Ideal) ℓ) (p : Dev nD) (t : Fin cfg0.N)

/-- One projected value of a point: place `s` of class `q`, column `e` of the weight. -/
def at4 (q : Fin 4) (s : Fin 256) (e : Fin 1536) : EReal :=
  part (iblk m p 0 t) (iblk m p 1 t) (iblk m p 2 t) (iblk m p 3 t) ⟨s.val * 4 + q.val, by omega⟩ e

theorem outs4 (q : Fin 4) (d : Fin 512) (s : Fin 256) : (outsAt0 m p t).1 (ix4 (0 : Fin 1) q d s) = at4 m p t q s ⟨0 + d.val, by omega⟩ := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  refine Eq.trans ?_ (acc_part h _ _ hh (iblk m p 2 t) (iblk m p 3 t) inb_S1024x1536_S1024x512_0_0 inb_S1x1536_S1x512_0_0 q s d (by omega))
  canon_tiles x hx
  all_goals
    replace hx1 : q.val = _ := hx1
    replace hx2 : d.val = _ := hx2
    replace hx3 : s.val = _ := hx3
    exact columns_apply _ _ _ _ _ x d s _ (by show q.val * 256 + s.val = _ + s.val; omega) (by omega) (by omega)

theorem outs5 (q : Fin 4) (s : Fin 256) (d : Fin 512) : (outsAt0 m p t).2.1 (ix4 (0 : Fin 1) q s d) = at4 m p t q s ⟨512 + d.val, by omega⟩ := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  refine Eq.trans ?_ (acc_part h _ _ hh (iblk m p 2 t) (iblk m p 3 t) inb_S1024x1536_S1024x512_0_512 inb_S1x1536_S1x512_0_512 q s d (by omega))
  canon_tiles x hx
  all_goals
    replace hx1 : q.val = _ := hx1
    replace hx2 : s.val = _ := hx2
    replace hx3 : d.val = _ := hx3
    exact class_apply _ _ _ _ x s d _ (by show q.val * 256 + s.val = _ + s.val; omega) (by omega) (by omega)

theorem outs6 (q : Fin 4) (r : Fin 576) (s : Fin 256) :
    (outsAt0 m p t).2.2 (ix4 (0 : Fin 1) q r s) = rows (fun d s => at4 m p t q s ⟨1024 + d.val, by omega⟩) r s := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  have e : (fun (d : Fin 512) (s : Fin 256) => at4 m p t q s ⟨1024 + d.val, by omega⟩) = fun d s => k0_pay51 h
        (View.ld (iblk m p 2 t) (Rect.unit ![0, 1024] ![1024, 512] inb_S1024x1536_S1024x512_0_1024))
        (View.ld (iblk m p 3 t) (Rect.unit ![0, 1024] ![1, 512] inb_S1x1536_S1x512_0_1024)) (ix2 (⟨q.val * 256 + s.val, by omega⟩ : Fin 1024) d) :=
    funext fun d => funext fun s => (acc_part h _ _ hh (iblk m p 2 t) (iblk m p 3 t) inb_S1024x1536_S1024x512_0_1024 inb_S1x1536_S1x512_0_1024
      q s d (by omega)).symm
  rw [e]
  canon_tiles x hx using View.cover_of_tiledBy _ ![1, 1, 16, 256] (by sl_kernel_rfl) (ix4 (0 : Fin 1) q r s)
  all_goals
    replace hx1 : q.val = _ := hx1
    replace hx2 : r.val = _ := hx2
    replace hx3 : s.val = _ := hx3
    first
    | exact (ones_apply _ x).trans (rows_one _ r (by omega) s).symm
    | exact data_apply _ (by decide) _ _ 0 (by omega) (by decide) (by decide) _ x r s _ (fun s => by show q.val * 256 + s.val = _ + s.val; omega) (by omega) (by omega)
    | exact data_apply _ (by decide) _ _ 1 (by omega) (by decide) (by decide) _ x r s _ (fun s => by show q.val * 256 + s.val = _ + s.val; omega) (by omega) (by omega)
    | exact data_apply _ (by decide) _ _ 2 (by omega) (by decide) (by decide) _ x r s _ (fun s => by show q.val * 256 + s.val = _ + s.val; omega) (by omega) (by omega)
    | exact data_apply _ (by decide) _ _ 3 (by omega) (by decide) (by decide) _ x r s _ (fun s => by show q.val * 256 + s.val = _ + s.val; omega) (by omega) (by omega)

end

/-! ## The arrays that the launch finds -/

section

variable (m : (ℓ : Loc nD τ sig) → Buf (Elt Ideal) ℓ) (p : Dev nD) (t : Fin cfg0.N)

/-- The arguments, as the reference's functions take them. -/
abbrev argX : FVec Ideal Cert.Project4ReferenceIdeal.S8x8192x1024 .f32 := m ((p : Thread nD τ).loc main_arg0)
abbrev argG : FVec Ideal Cert.Project4ReferenceIdeal.S1024 .f32 := m ((p : Thread nD τ).loc main_arg1)
abbrev argW : FVec Ideal Cert.Project4ReferenceIdeal.S1024x1536 .f32 := m ((p : Thread nD τ).loc main_arg2)
abbrev argC : FVec Ideal Cert.Project4ReferenceIdeal.S1536 .f32 := m ((p : Thread nD τ).loc main_arg3)

theorem x_apply (b : Fin 8) (s : Fin 8192) (k : Fin 1024) : V m p main_arg0 (ix3 b s k) = argX m p (ix3 b s k) :=
  congrFun (V_main_arg0 m p) _

theorem v0_apply (k : Fin 1024) : V m p main_v0 (ix2 (0 : Fin 1) k) = argG m p (ix1 k) := by
  entry_read
  pointwise

theorem v1_apply (k : Fin 1024) (e : Fin 1536) : V m p main_v1 (ix2 k e) = argW m p (ix2 k e) := by
  entry_read
  pointwise

theorem v2_apply (e : Fin 1536) : V m p main_v2 (ix2 (0 : Fin 1) e) = argC m p (ix1 e) := by
  entry_read
  pointwise

/-! ## The blocks at a point -/

theorem pt_lt : t.val < 64 := lt_of_lt_of_eq t.isLt N_0

/-- A point's batch, its row there, and its place in a class. -/
def bt : Fin 8 := ⟨t.val / 8, by have := pt_lt t; omega⟩
def row (s : Fin 1024) : Fin 8192 := ⟨t.val % 8 * 1024 + s.val, by omega⟩
def place (s : Fin 256) : Fin 2048 := ⟨t.val % 8 * 256 + s.val, by omega⟩

theorem idx : ∀ t : Fin cfg0.N, win0_0.index t = ![t.val / 8, t.val % 8, 0] ∧ win0_1.index t = ![0, 0] ∧ win0_2.index t = ![0, 0]
    ∧ win0_3.index t = ![0, 0] ∧ win0_4.index t = ![t.val / 8, 0, 0, t.val % 8] ∧ win0_5.index t = ![t.val / 8, 0, t.val % 8, 0]
    ∧ win0_6.index t = ![t.val / 8, 0, 0, t.val % 8] :=
  (by decide +kernel : ∀ t : Fin grid0.N, _)

theorem iblk0_apply (s k : Fin 1024) : iblk m p 0 t (ix3 (0 : Fin 1) s k) = argX m p (ix3 (bt t) (row t s) k) := by
  rw [← x_apply]
  unfold bt row
  blk_ext [iblk, idx t]

theorem iblk1_apply (k : Fin 1024) : iblk m p 1 t (ix2 (0 : Fin 1) k) = argG m p (ix1 k) := by
  rw [← v0_apply]
  blk_ext [iblk, idx t]

theorem iblk2_apply (k : Fin 1024) (e : Fin 1536) : iblk m p 2 t (ix2 k e) = argW m p (ix2 k e) := by
  rw [← v1_apply]
  blk_ext [iblk, idx t]

theorem iblk3_apply (e : Fin 1536) : iblk m p 3 t (ix2 (0 : Fin 1) e) = argC m p (ix1 e) := by
  rw [← v2_apply]
  blk_ext [iblk, idx t]

end

/-! ## The reference, at an index -/

section

open Cert.Project4ReferenceIdeal.Read Cert.Project4ReferenceIdeal.Gen

variable (x : FVec Ideal Cert.Project4ReferenceIdeal.S8x8192x1024 .f32) (g : FVec Ideal Cert.Project4ReferenceIdeal.S1024 .f32)
  (w : FVec Ideal Cert.Project4ReferenceIdeal.S1024x1536 .f32) (c : FVec Ideal Cert.Project4ReferenceIdeal.S1536 .f32)

theorem ref12_apply (b : Fin 8) (s : Fin 8192) (j : Fin 1024) :
    val_main_v12 (F := Ideal) x g (ix3 b s j) = rms (fun k => x (ix3 b s k)) (fun k => g (ix1 k)) j := by
  unfold val_main_v12 val_main_v11 val_main_v10 val_main_v9 val_main_v8 val_main_v7 val_main_v6 val_main_v5 val_main_cst_1 val_main_v4 val_main_v3
    val_main_cst_0 val_main_v2 val_main_v1 val_main_cst val_main_v0 rms
  pointwise

theorem ref16_apply (b : Fin 8) (s : Fin 8192) (e : Fin 1536) : val_main_v16 (F := Ideal) x g w c (ix3 b s e) = value x g w c b s e := by
  have h : rms (fun k => x (ix3 b s k)) (fun k => g (ix1 k)) = fun k => val_main_v12 (F := Ideal) x g (ix3 b s k) :=
    funext fun k => (ref12_apply x g b s k).symm
  unfold value lin
  rw [h]
  unfold val_main_v16 val_main_v15 val_main_v14 val_main_v13
  generalize val_main_v12 (F := Ideal) x g = h
  pointwise

/-- The grouping of the positions by class. -/
theorem ref18_apply (b : Fin 8) (q : Fin 4) (s : Fin 2048) (e : Fin 1536) :
    val_main_v18 (F := Ideal) x g w c (ix4 b q s e) = value x g w c b ⟨s.val * 4 + q.val, by omega⟩ e := by
  rw [← ref16_apply]
  unfold val_main_v18 val_main_v17
  generalize val_main_v16 (F := Ideal) x g w c = z
  pointwise

theorem ref27_apply (b : Fin 8) (q : Fin 4) (d : Fin 512) (s : Fin 2048) :
    val_main_v27 (F := Ideal) x g w c (ix4 b q d s) = value x g w c b ⟨s.val * 4 + q.val, by omega⟩ ⟨0 + d.val, by omega⟩ := by
  rw [← ref18_apply]
  unfold val_main_v27 val_main_v26 val_main_v19
  generalize val_main_v18 (F := Ideal) x g w c = z
  pointwise

theorem ref28_apply (b : Fin 8) (q : Fin 4) (s : Fin 2048) (d : Fin 512) :
    val_main_v28 (F := Ideal) x g w c (ix4 b q s d) = value x g w c b ⟨s.val * 4 + q.val, by omega⟩ ⟨512 + d.val, by omega⟩ := by
  rw [← ref18_apply]
  unfold val_main_v28 val_main_v20
  generalize val_main_v18 (F := Ideal) x g w c = z
  pointwise

theorem ref21_apply (b : Fin 8) (q : Fin 4) (s : Fin 2048) (d : Fin 512) :
    val_main_v21 (F := Ideal) x g w c (ix4 b q s d) = value x g w c b ⟨s.val * 4 + q.val, by omega⟩ ⟨1024 + d.val, by omega⟩ := by
  rw [← ref18_apply]
  unfold val_main_v21
  generalize val_main_v18 (F := Ideal) x g w c = z
  pointwise

theorem ref23_apply (b : Fin 8) (q n : Fin 4) (i : Fin 128) (s : Fin 2048) :
    val_main_v23 (F := Ideal) x g w c (ix5 b q n i s) = val_main_v21 (F := Ideal) x g w c (ix4 b q s ⟨n.val * 128 + i.val, by omega⟩) := by
  unfold val_main_v23 val_main_v22
  generalize val_main_v21 (F := Ideal) x g w c = z
  pointwise

theorem ref25_apply (b : Fin 8) (q n : Fin 4) (i : Fin 144) (s : Fin 2048) :
    val_main_v25 (F := Ideal) x g w c (ix5 b q n i s)
      = if hi : i.val < 128 then val_main_v23 (F := Ideal) x g w c (ix5 b q n ⟨i.val, hi⟩ s) else 1 := by
  unfold val_main_v25 val_main_v24 val_main_cst_2
  generalize val_main_v23 (F := Ideal) x g w c = z
  pointwise

theorem cast30_apply (b : Fin 8) (q : Fin 4) (r : Fin 576) (s : Fin 2048) :
    val_main_v30 (F := Ideal) x g w c (ix4 b q r s) = val_main_v29 (F := Ideal) x g w c (ix4 b q r s) := by
  rw [val_main_v30_apply]
  generalize val_main_v29 (F := Ideal) x g w c (ix4 b q r s) = y
  rfl

theorem ref30_apply (b : Fin 8) (q : Fin 4) (r : Fin 576) (s : Fin 2048) :
    val_main_v30 (F := Ideal) x g w c (ix4 b q r s)
      = val_main_v25 (F := Ideal) x g w c (ix5 b q (⟨r.val / 144, by omega⟩ : Fin 4) (⟨r.val % 144, by omega⟩ : Fin 144) s) := by
  rw [cast30_apply]
  unfold val_main_v29
  generalize val_main_v25 (F := Ideal) x g w c = z
  exact groups_cast z _ b q r s

end

/-! ## The arrays after the run -/

section

open Cert.Project4ReferenceIdeal.Read

variable (m : (ℓ : Loc nD τ sig) → Buf (Elt Ideal) ℓ) (p : Dev nD) (t : Fin cfg0.N)

theorem at4_value (q : Fin 4) (s : Fin 256) (e : Fin 1536) :
    at4 m p t q s e = value (argX m p) (argG m p) (argW m p) (argC m p) (bt t) ⟨(place t s).val * 4 + q.val, by omega⟩ e := by
  have h : row t ⟨s.val * 4 + q.val, by omega⟩ = ⟨(place t s).val * 4 + q.val, by omega⟩ :=
    Fin.ext (show t.val % 8 * 1024 + (s.val * 4 + q.val) = (t.val % 8 * 256 + s.val) * 4 + q.val by omega)
  rw [← h]
  unfold at4 part value
  simp only [iblk0_apply, iblk1_apply, iblk2_apply, iblk3_apply]

theorem final4 : (dats m 0 p).arrAt 4 cfg0.N = val_main_v27 (F := Ideal) (argX m p) (argG m p) (argW m p) (argC m p) := by
  refine (dats m 0 p).arrAt_eq_of_covers 4 _ (by decide +kernel) fun t hf y => ?_
  blk_simp
  rw [after0_4]
  obtain ⟨q, d, s, rfl⟩ := eq_one_four y
  have he : (win0_4.blk t).view.emb (ix4 (0 : Fin 1) q d s) = ix4 (bt t) q d (place t s) := by
    unfold bt place
    blk_ext [idx t]
  rw [he, ref27_apply]
  exact (outs4 m p t q d s).trans (at4_value m p t q s _)

theorem final5 : (dats m 0 p).arrAt 5 cfg0.N = val_main_v28 (F := Ideal) (argX m p) (argG m p) (argW m p) (argC m p) := by
  refine (dats m 0 p).arrAt_eq_of_covers 5 _ (by decide +kernel) fun t hf y => ?_
  blk_simp
  rw [after0_5]
  obtain ⟨q, s, d, rfl⟩ := eq_one_four y
  have he : (win0_5.blk t).view.emb (ix4 (0 : Fin 1) q s d) = ix4 (bt t) q (place t s) d := by
    unfold bt place
    blk_ext [idx t]
  rw [he, ref28_apply]
  exact (outs5 m p t q s d).trans (at4_value m p t q s _)

/-- A row of the values' result: data or ones. -/
theorem rows_value (q : Fin 4) (r : Fin 576) (s : Fin 256) :
    rows (fun d s => at4 m p t q s ⟨1024 + d.val, by omega⟩) r s
      = val_main_v30 (F := Ideal) (argX m p) (argG m p) (argW m p) (argC m p) (ix4 (bt t) q r (place t s)) := by
  rw [ref30_apply, ref25_apply]
  unfold rows
  by_cases hr : r.val % 144 < 128
  · rw [dif_pos hr, dif_pos hr, ref23_apply, ref21_apply]
    exact at4_value m p t q s _
  · rw [dif_neg hr, dif_neg hr]

theorem final6 : (dats m 0 p).arrAt 6 cfg0.N = val_main_v30 (F := Ideal) (argX m p) (argG m p) (argW m p) (argC m p) := by
  refine (dats m 0 p).arrAt_eq_of_covers 6 _ (by decide +kernel) fun t hf y => ?_
  blk_simp
  rw [after0_6]
  obtain ⟨q, r, s, rfl⟩ := eq_one_four y
  have he : (win0_6.blk t).view.emb (ix4 (0 : Fin 1) q r s) = ix4 (bt t) q r (place t s) := by
    unfold bt place
    blk_ext [idx t]
  rw [he]
  exact (outs6 m p t q r s).trans (rows_value m p t q r s)

end

end Cert.Project4Ideal.AtIdeal

end
-- ==== Proof.Project16Value.lean ====
/-
  The input projection of one mixer with stride 16 (the third dilated pattern): a position `16 s + q` goes to place `s` of
  class `q`. The ideal kernel's result arrays are the reference's functions of the arguments.
-/
module

public import proofs.«01_k».proof.Proof.Project4Value
public import proofs.«01_k».proof.Proof.Gen.Project16Ideal.Value
public import proofs.«01_k».proof.Proof.Gen.Project16ReferenceIdeal.Read

@[expose] public section

set_option maxRecDepth 16384

noncomputable section

namespace Cert.Project16Ideal.AtIdeal

open Cert.Project16Ideal Cert.Project16Ideal.Gen Idealize.ShloMosaic Idealize.ShloMosaic.TcCoe
open Idealize.SL.Sem
open Cert.Dense
open Cert.ProjectIdeal.AtIdeal (lin rows rows_one part lin_part value)
open Cert.Strided
open scoped BigOperators

/-! ## The two scratch arrays -/

theorem pay3_apply (x : Vec Ideal S1x2048x1024 .f32) (g : Vec Ideal S1x1024 .f32) (s : Fin 2048) (j : Fin 1024) :
    k0_pay3 x g (ix2 s j) = rms (fun k => x (ix3 (0 : Fin 1) s k)) (fun k => g (ix2 (0 : Fin 1) k)) j := by
  unfold k0_pay3 rms
  pointwise

section

variable (x : Vec Ideal S1x2048x1024 .f32) (g : Vec Ideal S1x1024 .f32)

theorem tall_inb (k : Fin 8) (a : Fin 3) : (![7 - k.val, 0, 0] : Fin 3 → ℕ) a + (![1, 2048, 128] : Fin 3 → ℕ) a ≤ (![8, 2048, 128] : Fin 3 → ℕ) a := by
  revert a; revert k; decide +kernel

theorem tall_slices (k : Fin 8) : S2048x1024.Slices ![0, (7 - k.val) * 128] S2048x128 := by
  revert k; decide +kernel

/-- The stores into the array of the normalized rows, eight groups of 128 columns, last first. -/
def tall : List (View.Piece (Elt Ideal) S8x2048x128 .f32) :=
  List.ofFn fun k : Fin 8 => ⟨Rect.unit ![7 - k.val, 0, 0] ![1, 2048, 128] (tall_inb k),
    shapeCast S1x2048x128 (extractStridedSlice S2048x128 ![0, (7 - k.val) * 128] (k0_pay3 x g) (tall_slices k)) shapeCasts_S2048x128_S1x2048x128⟩

theorem tall_apply (c : Fin 8) (r : Fin 2048) (l : Fin 128) :
    View.canon (tall x g) (ix3 c r l) = k0_pay3 x g (ix2 r ⟨c.val * 128 + l.val, by omega⟩) :=
  canon_groups (fun r k => k0_pay3 x g (ix2 r k)) tall_inb _ (fun k r l => by
    have := tall_slices k
    generalize k0_pay3 x g = z
    pointwise) c r l

theorem thin_inb (k : Fin (16 * 8)) (a : Fin 2) :
    (![(16 * 8 - 1 - k.val) / 8 * 128, (16 * 8 - 1 - k.val) % 8 * 128] : Fin 2 → ℕ) a + (![128, 128] : Fin 2 → ℕ) a ≤ (![2048, 1024] : Fin 2 → ℕ) a := by
  revert a; revert k; decide +kernel

theorem read_inb (k : Fin (16 * 8)) (a : Fin 3) : S1x128x128.size a = 0 ∨
    (![(16 * 8 - 1 - k.val) % 8, (16 * 8 - 1 - k.val) / 8, 0] : Fin 3 → ℕ) a + (![1, 16, 1] : Fin 3 → ℕ) a * (S1x128x128.size a - 1) < S8x2048x128.size a := by
  revert a; revert k; decide +kernel

/-- One read with the stride, in a group of the columns. -/
def every (k : Fin (16 * 8)) : Vec Ideal S1x128x128 .f32 :=
  (View.whole cc0_scratch1).readCov (tall x g) ⟨![(16 * 8 - 1 - k.val) % 8, (16 * 8 - 1 - k.val) / 8, 0], S1x128x128.size, ![1, 16, 1], read_inb k⟩

/-- The stores into the array of the rows by class, last first. -/
def thin : List (View.Piece (Elt Ideal) S2048x1024 .bf16) :=
  List.ofFn fun k : Fin (16 * 8) =>
    ⟨Rect.unit ![(16 * 8 - 1 - k.val) / 8 * 128, (16 * 8 - 1 - k.val) % 8 * 128] ![128, 128] (thin_inb k), k0_pay13 (every x g k)⟩

theorem every_apply (k : Fin (16 * 8)) (s : Fin 128) (l : Fin 128) :
    every x g k (ix3 (0 : Fin 1) s l)
      = k0_pay3 x g (ix2 ⟨s.val * 16 + (16 * 8 - 1 - k.val) / 8, by omega⟩ ⟨(16 * 8 - 1 - k.val) % 8 * 128 + l.val, by omega⟩) := by
  unfold every
  rw [View.readCov_eq_canon']
  refine (congrArg (View.canon (tall x g)) ?_).trans
    (tall_apply x g ⟨(16 * 8 - 1 - k.val) % 8, by omega⟩ ⟨s.val * 16 + (16 * 8 - 1 - k.val) / 8, by omega⟩ l)
  funext a
  match a with
  | ⟨0, _⟩ => exact Fin.ext (show (16 * 8 - 1 - k.val) % 8 + 1 * 0 = _ from rfl)
  | ⟨1, _⟩ => exact Fin.ext (show (16 * 8 - 1 - k.val) / 8 + 16 * s.val = s.val * 16 + (16 * 8 - 1 - k.val) / 8 by omega)
  | ⟨2, _⟩ => exact Fin.ext (show 0 + 1 * l.val = l.val by omega)

theorem pay13_apply (v : Vec Ideal S1x128x128 .f32) (s : Fin 128) (l : Fin 128) : k0_pay13 v (ix2 s l) = v (ix3 (0 : Fin 1) s l) := by
  unfold k0_pay13
  pointwise

/-- The array of the rows by class, as the products read it. -/
theorem thin_apply (inb : ∀ a, (![0, 0] : Fin 2 → ℕ) a + S2048x1024.size a ≤ S2048x1024.size a) (q : Fin 16) (s : Fin 128) (k : Fin 1024) :
    (View.whole cc0_scratch0).readCov (thin x g) (Rect.unit (s := S2048x1024) ![0, 0] S2048x1024.size inb).toLoadRect
        (ix2 (⟨q.val * 128 + s.val, by omega⟩ : Fin 2048) k)
      = rms (fun k => x (ix3 (0 : Fin 1) (⟨s.val * 16 + q.val, by omega⟩ : Fin 2048) k)) (fun k => g (ix2 (0 : Fin 1) k)) k := by
  rw [View.readCov_eq_canon', ← pay3_apply]
  refine (congrArg (View.canon (thin x g)) ?_).trans (canon_classes (R := 2048) (D := 16) (N := 128) (fun r k => k0_pay3 x g (ix2 r k)) (by omega) (by omega)
    (by omega) thin_inb _ (fun k s l => (pay13_apply _ s l).trans (every_apply x g k s l)) q s k)
  funext a
  match a with
  | ⟨0, _⟩ => exact Fin.ext ((Nat.zero_add _).trans (Nat.one_mul _))
  | ⟨1, _⟩ => exact Fin.ext ((Nat.zero_add _).trans (Nat.one_mul _))

end

/-! ## The products and their pieces -/

section

variable (h : Vec Ideal S2048x1024 .bf16)

theorem pay167_apply (w : Vec Ideal S1024x512 .bf16) (c : Vec Ideal S1x512 .f32) (r : Fin 2048) (d : Fin 512) :
    k0_pay167 h w c (ix2 r d) = lin (fun k => h (ix2 r k)) (fun k => w (ix2 k d)) (c (ix2 (0 : Fin 1) d)) := by
  unfold k0_pay167 lin
  pointwise

/-- The rows by class: row `128 q + s` is the normalized row `16 s + q`. -/
def ByClass (x : Vec Ideal S1x2048x1024 .f32) (g : Vec Ideal S1x1024 .f32) : Prop :=
  ∀ (q : Fin 16) (s : Fin 128) (k : Fin 1024), h (ix2 (⟨q.val * 128 + s.val, by omega⟩ : Fin 2048) k)
    = rms (fun k => x (ix3 (0 : Fin 1) (⟨s.val * 16 + q.val, by omega⟩ : Fin 2048) k)) (fun k => g (ix2 (0 : Fin 1) k)) k

/-- The product with a stretch of the weight's columns, at place `s` of class `q`. -/
theorem acc_part (x : Vec Ideal S1x2048x1024 .f32) (g : Vec Ideal S1x1024 .f32) (hh : ByClass h x g) (w : Vec Ideal S1024x1536 .bf16)
    (c : Vec Ideal S1x1536 .f32) {off : ℕ} (inb : ∀ a, ![0, off] a + S1024x512.size a ≤ S1024x1536.size a)
    (inb' : ∀ a, ![0, off] a + S1x512.size a ≤ S1x1536.size a) (q : Fin 16) (s : Fin 128) (d : Fin 512) (ho : off + d.val < 1536) :
    k0_pay167 h (View.ld w (Rect.unit (s := S1024x1536) ![0, off] S1024x512.size inb))
        (View.ld c (Rect.unit (s := S1x1536) ![0, off] S1x512.size inb')) (ix2 (⟨q.val * 128 + s.val, by omega⟩ : Fin 2048) d)
      = part x g w c ⟨s.val * 16 + q.val, by omega⟩ ⟨off + d.val, ho⟩ :=
  (pay167_apply h _ _ _ d).trans (lin_part x g w c inb inb' _ (hh q s) d ho)

end

/-! ## The blocks that a point leaves -/

section

variable (m : (ℓ : Loc nD τ sig) → Buf (Elt Ideal) ℓ) (p : Dev nD) (t : Fin cfg0.N)

/-- One projected value of a point: place `s` of class `q`, column `e` of the weight. -/
def at16 (q : Fin 16) (s : Fin 128) (e : Fin 1536) : EReal :=
  part (iblk m p 0 t) (iblk m p 1 t) (iblk m p 2 t) (iblk m p 3 t) ⟨s.val * 16 + q.val, by omega⟩ e

theorem outs4 (q : Fin 16) (d : Fin 512) (s : Fin 128) : (outsAt0 m p t).1 (ix4 (0 : Fin 1) q d s) = at16 m p t q s ⟨0 + d.val, by omega⟩ := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  refine Eq.trans ?_ (acc_part h _ _ hh (iblk m p 2 t) (iblk m p 3 t) inb_S1024x1536_S1024x512_0_0 inb_S1x1536_S1x512_0_0 q s d (by omega))
  canon_tiles x hx
  all_goals
    replace hx1 : q.val = _ := hx1
    replace hx2 : d.val = _ := hx2
    replace hx3 : s.val = _ := hx3
    exact columns_apply _ _ _ _ _ x d s _ (by show q.val * 128 + s.val = _ + s.val; omega) (by omega) (by omega)

theorem outs5 (q : Fin 16) (s : Fin 128) (d : Fin 512) : (outsAt0 m p t).2.1 (ix4 (0 : Fin 1) q s d) = at16 m p t q s ⟨512 + d.val, by omega⟩ := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  refine Eq.trans ?_ (acc_part h _ _ hh (iblk m p 2 t) (iblk m p 3 t) inb_S1024x1536_S1024x512_0_512 inb_S1x1536_S1x512_0_512 q s d (by omega))
  canon_tiles x hx
  all_goals
    replace hx1 : q.val = _ := hx1
    replace hx2 : s.val = _ := hx2
    replace hx3 : d.val = _ := hx3
    exact class_apply _ (by decide) _ _ x s d _ (by show q.val * 128 + s.val = _ + s.val; omega) (by omega) (by omega)

theorem outs6 (q : Fin 16) (r : Fin 576) (s : Fin 128) :
    (outsAt0 m p t).2.2 (ix4 (0 : Fin 1) q r s) = rows (fun d s => at16 m p t q s ⟨1024 + d.val, by omega⟩) r s := by
  unfold outsAt0
  frame_out
  generalize hH : (View.whole cc0_scratch0).readCov (Val := Elt Ideal) _ _ = h
  have hh : ByClass h (iblk m p 0 t) (iblk m p 1 t) := by
    rw [← hH]
    exact thin_apply (iblk m p 0 t) (iblk m p 1 t) _
  clear hH
  have e : (fun (d : Fin 512) (s : Fin 128) => at16 m p t q s ⟨1024 + d.val, by omega⟩) = fun d s => k0_pay167 h
        (View.ld (iblk m p 2 t) (Rect.unit ![0, 1024] ![1024, 512] inb_S1024x1536_S1024x512_0_1024))
        (View.ld (iblk m p 3 t) (Rect.unit ![0, 1024] ![1, 512] inb_S1x1536_S1x512_0_1024)) (ix2 (⟨q.val * 128 + s.val, by omega⟩ : Fin 2048) d) :=
    funext fun d => funext fun s => (acc_part h _ _ hh (iblk m p 2 t) (iblk m p 3 t) inb_S1024x1536_S1024x512_0_1024 inb_S1x1536_S1x512_0_1024
      q s d (by omega)).symm
  rw [e]
  canon_tiles x hx using View.cover_of_tiledBy _ ![1, 1, 16, 128] (by sl_kernel_rfl) (ix4 (0 : Fin 1) q r s)
  all_goals
    replace hx1 : q.val = _ := hx1
    replace hx2 : r.val = _ := hx2
    replace hx3 : s.val = _ := hx3
    first
    | rw [rows_one _ r (by omega) s]; first | exact ones_apply _ x | (open_payloads; exact ones_apply _ x)
    | exact data_apply _ (by decide) _ _ 0 (by omega) (by decide) (by decide) _ x r s _ (fun s => by show q.val * 128 + s.val = _ + s.val; omega) (by omega) (by omega)
    | exact data_apply _ (by decide) _ _ 1 (by omega) (by decide) (by decide) _ x r s _ (fun s => by show q.val * 128 + s.val = _ + s.val; omega) (by omega) (by omega)
    | exact data_apply _ (by decide) _ _ 2 (by omega) (by decide) (by decide) _ x r s _ (fun s => by show q.val * 128 + s.val = _ + s.val; omega) (by omega) (by omega)
    | exact data_apply _ (by decide) _ _ 3 (by omega) (by decide) (by decide) _ x r s _ (fun s => by show q.val * 128 + s.val = _ + s.val; omega) (by omega) (by omega)

end

/-! ## The arrays that the launch finds -/

section

variable (m : (ℓ : Loc nD τ sig) → Buf (Elt Ideal) ℓ) (p : Dev nD) (t : Fin cfg0.N)

/-- The arguments, as the reference's functions take them. -/
abbrev argX : FVec Ideal Cert.Project16ReferenceIdeal.S8x8192x1024 .f32 := m ((p : Thread nD τ).loc main_arg0)
abbrev argG : FVec Ideal Cert.Project16ReferenceIdeal.S1024 .f32 := m ((p : Thread nD τ).loc main_arg1)
abbrev argW : FVec Ideal Cert.Project16ReferenceIdeal.S1024x1536 .f32 := m ((p : Thread nD τ).loc main_arg2)
abbrev argC : FVec Ideal Cert.Project16ReferenceIdeal.S1536 .f32 := m ((p : Thread nD τ).loc main_arg3)

theorem x_apply (b : Fin 8) (s : Fin 8192) (k : Fin 1024) : V m p main_arg0 (ix3 b s k) = argX m p (ix3 b s k) :=
  congrFun (V_main_arg0 m p) _

theorem v0_apply (k : Fin 1024) : V m p main_v0 (ix2 (0 : Fin 1) k) = argG m p (ix1 k) := by
  entry_read
  pointwise

theorem v1_apply (k : Fin 1024) (e : Fin 1536) : V m p main_v1 (ix2 k e) = argW m p (ix2 k e) := by
  entry_read
  pointwise

theorem v2_apply (e : Fin 1536) : V m p main_v2 (ix2 (0 : Fin 1) e) = argC m p (ix1 e) := by
  entry_read
  pointwise

/-! ## The blocks at a point -/

theorem pt_lt : t.val < 32 := lt_of_lt_of_eq t.isLt N_0

/-- A point's batch, its row there, and its place in a class. -/
def bt : Fin 8 := ⟨t.val / 4, by have := pt_lt t; omega⟩
def row (s : Fin 2048) : Fin 8192 := ⟨t.val % 4 * 2048 + s.val, by omega⟩
def place (s : Fin 128) : Fin 512 := ⟨t.val % 4 * 128 + s.val, by omega⟩

theorem idx : ∀ t : Fin cfg0.N, win0_0.index t = ![t.val / 4, t.val % 4, 0] ∧ win0_1.index t = ![0, 0] ∧ win0_2.index t = ![0, 0]
    ∧ win0_3.index t = ![0, 0] ∧ win0_4.index t = ![t.val / 4, 0, 0, t.val % 4] ∧ win0_5.index t = ![t.val / 4, 0, t.val % 4, 0]
    ∧ win0_6.index t = ![t.val / 4, 0, 0, t.val % 4] :=
  (by decide +kernel : ∀ t : Fin grid0.N, _)

theorem iblk0_apply (s : Fin 2048) (k : Fin 1024) : iblk m p 0 t (ix3 (0 : Fin 1) s k) = argX m p (ix3 (bt t) (row t s) k) := by
  rw [← x_apply]
  unfold bt row
  blk_ext [iblk, idx t]

theorem iblk1_apply (k : Fin 1024) : iblk m p 1 t (ix2 (0 : Fin 1) k) = argG m p (ix1 k) := by
  rw [← v0_apply]
  blk_ext [iblk, idx t]

theorem iblk2_apply (k : Fin 1024) (e : Fin 1536) : iblk m p 2 t (ix2 k e) = argW m p (ix2 k e) := by
  rw [← v1_apply]
  blk_ext [iblk, idx t]

theorem iblk3_apply (e : Fin 1536) : iblk m p 3 t (ix2 (0 : Fin 1) e) = argC m p (ix1 e) := by
  rw [← v2_apply]
  blk_ext [iblk, idx t]

end

/-! ## The reference, at an index -/

section

open Cert.Project16ReferenceIdeal.Read Cert.Project16ReferenceIdeal.Gen

variable (x : FVec Ideal Cert.Project16ReferenceIdeal.S8x8192x1024 .f32) (g : FVec Ideal Cert.Project16ReferenceIdeal.S1024 .f32)
  (w : FVec Ideal Cert.Project16ReferenceIdeal.S1024x1536 .f32) (c : FVec Ideal Cert.Project16ReferenceIdeal.S1536 .f32)

theorem ref16_apply (b : Fin 8) (s : Fin 8192) (e : Fin 1536) : val_main_v16 (F := Ideal) x g w c (ix3 b s e) = value x g w c b s e := by
  have h : val_main_v16 (F := Ideal) x g w c = Cert.Project4ReferenceIdeal.Read.val_main_v16 (F := Ideal) x g w c := rfl
  rw [h]
  exact Cert.Project4Ideal.AtIdeal.ref16_apply x g w c b s e

/-- The grouping of the positions by class. -/
theorem ref18_apply (b : Fin 8) (q : Fin 16) (s : Fin 512) (e : Fin 1536) :
    val_main_v18 (F := Ideal) x g w c (ix4 b q s e) = value x g w c b ⟨s.val * 16 + q.val, by omega⟩ e := by
  rw [← ref16_apply]
  unfold val_main_v18 val_main_v17
  generalize val_main_v16 (F := Ideal) x g w c = z
  pointwise

theorem ref27_apply (b : Fin 8) (q : Fin 16) (d : Fin 512) (s : Fin 512) :
    val_main_v27 (F := Ideal) x g w c (ix4 b q d s) = value x g w c b ⟨s.val * 16 + q.val, by omega⟩ ⟨0 + d.val, by omega⟩ := by
  rw [← ref18_apply]
  unfold val_main_v27 val_main_v26 val_main_v19
  generalize val_main_v18 (F := Ideal) x g w c = z
  pointwise

theorem ref28_apply (b : Fin 8) (q : Fin 16) (s : Fin 512) (d : Fin 512) :
    val_main_v28 (F := Ideal) x g w c (ix4 b q s d) = value x g w c b ⟨s.val * 16 + q.val, by omega⟩ ⟨512 + d.val, by omega⟩ := by
  rw [← ref18_apply]
  unfold val_main_v28 val_main_v20
  generalize val_main_v18 (F := Ideal) x g w c = z
  pointwise

theorem ref21_apply (b : Fin 8) (q : Fin 16) (s : Fin 512) (d : Fin 512) :
    val_main_v21 (F := Ideal) x g w c (ix4 b q s d) = value x g w c b ⟨s.val * 16 + q.val, by omega⟩ ⟨1024 + d.val, by omega⟩ := by
  rw [← ref18_apply]
  unfold val_main_v21
  generalize val_main_v18 (F := Ideal) x g w c = z
  pointwise

theorem ref23_apply (b : Fin 8) (q : Fin 16) (n : Fin 4) (i : Fin 128) (s : Fin 512) :
    val_main_v23 (F := Ideal) x g w c (ix5 b q n i s) = val_main_v21 (F := Ideal) x g w c (ix4 b q s ⟨n.val * 128 + i.val, by omega⟩) := by
  unfold val_main_v23 val_main_v22
  generalize val_main_v21 (F := Ideal) x g w c = z
  pointwise

theorem ref25_apply (b : Fin 8) (q : Fin 16) (n : Fin 4) (i : Fin 144) (s : Fin 512) :
    val_main_v25 (F := Ideal) x g w c (ix5 b q n i s)
      = if hi : i.val < 128 then val_main_v23 (F := Ideal) x g w c (ix5 b q n ⟨i.val, hi⟩ s) else 1 := by
  unfold val_main_v25 val_main_v24 val_main_cst_2
  generalize val_main_v23 (F := Ideal) x g w c = z
  pointwise

theorem cast30_apply (b : Fin 8) (q : Fin 16) (r : Fin 576) (s : Fin 512) :
    val_main_v30 (F := Ideal) x g w c (ix4 b q r s) = val_main_v29 (F := Ideal) x g w c (ix4 b q r s) := by
  rw [val_main_v30_apply]
  generalize val_main_v29 (F := Ideal) x g w c (ix4 b q r s) = y
  rfl

theorem ref30_apply (b : Fin 8) (q : Fin 16) (r : Fin 576) (s : Fin 512) :
    val_main_v30 (F := Ideal) x g w c (ix4 b q r s)
      = val_main_v25 (F := Ideal) x g w c (ix5 b q (⟨r.val / 144, by omega⟩ : Fin 4) (⟨r.val % 144, by omega⟩ : Fin 144) s) := by
  rw [cast30_apply]
  unfold val_main_v29
  generalize val_main_v25 (F := Ideal) x g w c = z
  exact groups_cast z _ b q r s

end

/-! ## The arrays after the run -/

section

open Cert.Project16ReferenceIdeal.Read

variable (m : (ℓ : Loc nD τ sig) → Buf (Elt Ideal) ℓ) (p : Dev nD) (t : Fin cfg0.N)

theorem at16_value (q : Fin 16) (s : Fin 128) (e : Fin 1536) :
    at16 m p t q s e = value (argX m p) (argG m p) (argW m p) (argC m p) (bt t) ⟨(place t s).val * 16 + q.val, by omega⟩ e := by
  have h : row t ⟨s.val * 16 + q.val, by omega⟩ = ⟨(place t s).val * 16 + q.val, by omega⟩ :=
    Fin.ext (show t.val % 4 * 2048 + (s.val * 16 + q.val) = (t.val % 4 * 128 + s.val) * 16 + q.val by omega)
  rw [← h]
  unfold at16 part value
  simp only [iblk0_apply, iblk1_apply, iblk2_apply, iblk3_apply]

theorem final4 : (dats m 0 p).arrAt 4 cfg0.N = val_main_v27 (F := Ideal) (argX m p) (argG m p) (argW m p) (argC m p) := by
  refine (dats m 0 p).arrAt_eq_of_covers 4 _ (by decide +kernel) fun t hf y => ?_
  blk_simp
  rw [after0_4]
  obtain ⟨q, d, s, rfl⟩ := eq_one_four y
  have he : (win0_4.blk t).view.emb (ix4 (0 : Fin 1) q d s) = ix4 (bt t) q d (place t s) := by
    unfold bt place
    blk_ext [idx t]
  rw [he, ref27_apply]
  exact (outs4 m p t q d s).trans (at16_value m p t q s _)

theorem final5 : (dats m 0 p).arrAt 5 cfg0.N = val_main_v28 (F := Ideal) (argX m p) (argG m p) (argW m p) (argC m p) := by
  refine (dats m 0 p).arrAt_eq_of_covers 5 _ (by decide +kernel) fun t hf y => ?_
  blk_simp
  rw [after0_5]
  obtain ⟨q, s, d, rfl⟩ := eq_one_four y
  have he : (win0_5.blk t).view.emb (ix4 (0 : Fin 1) q s d) = ix4 (bt t) q (place t s) d := by
    unfold bt place
    blk_ext [idx t]
  rw [he, ref28_apply]
  exact (outs5 m p t q s d).trans (at16_value m p t q s _)

/-- A row of the values' result: data or ones. -/
theorem rows_value (q : Fin 16) (r : Fin 576) (s : Fin 128) :
    rows (fun d s => at16 m p t q s ⟨1024 + d.val, by omega⟩) r s
      = val_main_v30 (F := Ideal) (argX m p) (argG m p) (argW m p) (argC m p) (ix4 (bt t) q r (place t s)) := by
  rw [ref30_apply, ref25_apply]
  unfold rows
  by_cases hr : r.val % 144 < 128
  · rw [dif_pos hr, dif_pos hr, ref23_apply, ref21_apply]
    exact at16_value m p t q s _
  · rw [dif_neg hr, dif_neg hr]

theorem final6 : (dats m 0 p).arrAt 6 cfg0.N = val_main_v30 (F := Ideal) (argX m p) (argG m p) (argW m p) (argC m p) := by
  refine (dats m 0 p).arrAt_eq_of_covers 6 _ (by decide +kernel) fun t hf y => ?_
  blk_simp
  rw [after0_6]
  obtain ⟨q, r, s, rfl⟩ := eq_one_four y
  have he : (win0_6.blk t).view.emb (ix4 (0 : Fin 1) q r s) = ix4 (bt t) q r (place t s) := by
    unfold bt place
    blk_ext [idx t]
  rw [he]
  exact (outs6 m p t q r s).trans (rows_value m p t q r s)

end

end Cert.Project16Ideal.AtIdeal

end
-- ==== Proof.lean ====
/-
  The claims of the four calls: the frames of the programs, that the ideal programs are the kernels, and that
  the ideal kernels compute what the ideal references compute.
-/
module

public import proofs.«01_k».proof.Defs
public import proofs.«01_k».proof.Proof.RefValue
public import proofs.«01_k».proof.Proof.KernelRun
public import proofs.«01_k».proof.Proof.KernelIdealRun
public import proofs.«01_k».proof.Proof.KernelIdealValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn.Frame
public import proofs.«01_k».proof.Proof.FfnValue
public import proofs.«01_k».proof.Proof.Gen.FfnReferenceIdeal.Run
public import proofs.«01_k».proof.Proof.Gen.FfnReferenceIdeal.Read
public import proofs.«01_k».proof.Proof.Gen.Merge.Frame
public import proofs.«01_k».proof.Proof.MergeValue
public import proofs.«01_k».proof.Proof.Gen.MergeReferenceIdeal.Run
public import proofs.«01_k».proof.Proof.Gen.MergeReferenceIdeal.Read
public import proofs.«01_k».proof.Proof.Gen.Project.Frame
public import proofs.«01_k».proof.Proof.ProjectValue
public import proofs.«01_k».proof.Proof.Gen.ProjectReferenceIdeal.Run
public import proofs.«01_k».proof.Proof.Gen.ProjectReferenceIdeal.Read
public import proofs.«01_k».proof.Proof.Gen.Project4.Frame
public import proofs.«01_k».proof.Proof.Project4Value
public import proofs.«01_k».proof.Proof.Gen.Project4ReferenceIdeal.Run
public import proofs.«01_k».proof.Proof.Gen.Project4ReferenceIdeal.Read
public import proofs.«01_k».proof.Proof.Gen.Project16.Frame
public import proofs.«01_k».proof.Proof.Project16Value
public import proofs.«01_k».proof.Proof.Gen.Project16ReferenceIdeal.Run
public import proofs.«01_k».proof.Proof.Gen.Project16ReferenceIdeal.Read
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The reference runs, leaves its arguments and every counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem facts_finite : Cert.Pre_finite_qk.Facts := ⟨by decide, by decide⟩

/-- The literal infinity. -/
theorem ofBits_inf : Ideal.ofBits .f32 0x7F800000#32 = (⊤ : EReal) := by
  simp [Ideal.ofBits, Ideal.ieee]

/-- A value whose absolute value is below infinity is real. -/
theorem real_of_abs (x : EReal) (h : BitVec.ofBool (decide (max x (-x) < (⊤ : EReal))) = 1#1) : ∃ r : ℝ, x = (r : EReal) := by
  have h' : max x (-x) < ⊤ := by
    by_contra hn
    rw [decide_eq_false hn] at h
    exact absurd h (by decide)
  refine ⟨x.toReal, (EReal.coe_toReal ?_ ?_).symm⟩
  · rintro rfl
    exact absurd h' (by simp)
  · rintro rfl
    exact absurd h' (by simp)

/-- The precondition: every query and every key is real. -/
theorem real_of_pre (h : Cert.Pre_finite_qk.Facts) (a : FVec Ideal Cert.Pre_finite_qk.S8x8192x8x64 .f32) (b v : FVec Ideal Cert.Pre_finite_qk.S8x8192x2x64 .f32)
    (h1 : (Cert.Pre_finite_qk.fn (F := Ideal) a b v).1 = fun _ => 1#1) (h2 : (Cert.Pre_finite_qk.fn (F := Ideal) a b v).2 = fun _ => 1#1) :
    (∀ i, ∃ r : ℝ, a i = (r : EReal)) ∧ ∀ i, ∃ r : ℝ, b i = (r : EReal) := by
  refine ⟨fun i => real_of_abs _ ?_, fun i => real_of_abs _ ?_⟩
  · have e := congrFun h1 i
    change BitVec.ofBool (decide (max (a i) (-(a i)) < Ideal.ofBits .f32 0x7F800000#32)) = 1#1 at e
    rwa [ofBits_inf] at e
  · have e := congrFun h2 i
    change BitVec.ofBool (decide (max (b i) (-(b i)) < Ideal.ofBits .f32 0x7F800000#32)) = 1#1 at e
    rwa [ofBits_inf] at e

/-- The ideal kernel and the ideal reference end with equal results. -/
theorem algebraic : Cert.algebraic_KernelIdeal_ReferenceIdeal_pre_finite_qk (hPre_finite_qk := facts_finite) := by
  intro m g m' g' hpre hargs
  have hr := fun c => real_of_pre facts_finite _ _ _ (hpre c).1 (hpre c).2
  refine ⟨fun c => Cert.ReferenceIdeal.Read.val_main_v20 (F := Ideal) (Cert.KernelIdeal.AtIdeal.argQ m c) (Cert.KernelIdeal.AtIdeal.argK m c) (Cert.KernelIdeal.AtIdeal.argV m c),
    Cert.KernelIdeal.AtIdeal.run m g (fun c => (hr c).1) (fun c => (hr c).2), ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v20_eq, (hargs c).1, (hargs c).2.1, (hargs c).2.2]

/-- The channel mixer's reference runs, leaves its arguments and every counter. -/
theorem frame_ffn_ri : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The merge's reference runs, leaves its arguments and every counter. -/
theorem frame_merge_ri : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The ideal channel mixer and its ideal reference end with equal results. -/
theorem algebraic_ffn : Cert.algebraic_FfnIdeal_FfnReferenceIdeal := by
  intro m g m' g' hpre hargs
  refine ⟨fun c => Cert.FfnReferenceIdeal.Read.val_main_v31 (F := Ideal) (Cert.FfnIdeal.AtIdeal.argX m c) (Cert.FfnIdeal.AtIdeal.argG m c)
      (Cert.FfnIdeal.AtIdeal.argW m c) (Cert.FfnIdeal.AtIdeal.argW' m c) (Cert.FfnIdeal.AtIdeal.argG' m c),
    (θ_run Cert.FfnIdeal.defs _ _).mono (fun r h c => ⟨(h c).1.trans (Cert.FfnIdeal.AtIdeal.final m c), (h c).2⟩) (Cert.FfnIdeal.Value.run_blocks m g), ?_⟩
  refine (θ_run Cert.FfnReferenceIdeal.defs _ _).mono (fun r h c => ⟨(h c).1.trans ?_, (h c).2⟩) (Cert.FfnReferenceIdeal.Value.run (F := Ideal) m' g')
  obtain ⟨h0, h1, h2, h3, h4⟩ := hargs c
  rw [Cert.FfnReferenceIdeal.Read.val_main_v31_eq, h0, h1, h2, h3, h4]

/-- The ideal merge and its ideal reference end with equal results. -/
theorem algebraic_merge : Cert.algebraic_MergeIdeal_MergeReferenceIdeal := by
  intro m g m' g' hpre hargs
  refine ⟨fun c => Cert.MergeReferenceIdeal.Read.val_main_v53 (F := Ideal) (Cert.MergeIdeal.AtIdeal.argX m c) (Cert.MergeIdeal.AtIdeal.argG m c)
      (Cert.MergeIdeal.AtIdeal.argY₀ m c) (Cert.MergeIdeal.AtIdeal.argY₁ m c) (Cert.MergeIdeal.AtIdeal.argY₂ m c) (Cert.MergeIdeal.AtIdeal.argY₃ m c)
      (Cert.MergeIdeal.AtIdeal.argW m c) (Cert.MergeIdeal.AtIdeal.argB m c) (Cert.MergeIdeal.AtIdeal.argP m c) (Cert.MergeIdeal.AtIdeal.argO m c),
    (θ_run Cert.MergeIdeal.defs _ _).mono (fun r h c => ⟨(h c).1.trans (Cert.MergeIdeal.AtIdeal.final m c), (h c).2⟩) (Cert.MergeIdeal.Value.run_blocks m g), ?_⟩
  refine (θ_run Cert.MergeReferenceIdeal.defs _ _).mono (fun r h c => ⟨(h c).1.trans ?_, (h c).2⟩) (Cert.MergeReferenceIdeal.Value.run (F := Ideal) m' g')
  obtain ⟨h0, h1, h2, h3, h4, h5, h6, h7, h8, h9⟩ := hargs c
  rw [Cert.MergeReferenceIdeal.Read.val_main_v53_eq, h0, h1, h2, h3, h4, h5, h6, h7, h8, h9]

/-- The projection's reference runs, leaves its arguments and every counter. -/
theorem frame_project_ri : Cert.quiescent_ProjectReferenceIdeal := fun m ρ _ =>
  (θ_run Cert.ProjectReferenceIdeal.defs _ _).mono (fun r h => ⟨fun c => (h c).2.2.2, sem_eq_zero_of_no_sems (by decide) r.2⟩)
    (Cert.ProjectReferenceIdeal.Value.run (F := Ideal) m ρ)

/-- The ideal projection and its ideal reference end with equal results. -/
theorem algebraic_project : Cert.algebraic_ProjectIdeal_ProjectReferenceIdeal := by
  intro m g m' g' hpre hargs
  refine ⟨fun c => Cert.ProjectReferenceIdeal.Read.val_main_v26 (F := Ideal) (Cert.ProjectIdeal.AtIdeal.argX m c) (Cert.ProjectIdeal.AtIdeal.argG m c)
      (Cert.ProjectIdeal.AtIdeal.argW m c) (Cert.ProjectIdeal.AtIdeal.argC m c),
    fun c => Cert.ProjectReferenceIdeal.Read.val_main_v28 (F := Ideal) (Cert.ProjectIdeal.AtIdeal.argX m c) (Cert.ProjectIdeal.AtIdeal.argG m c)
      (Cert.ProjectIdeal.AtIdeal.argW m c) (Cert.ProjectIdeal.AtIdeal.argC m c),
    fun c => Cert.ProjectReferenceIdeal.Read.val_main_v30 (F := Ideal) (Cert.ProjectIdeal.AtIdeal.argX m c) (Cert.ProjectIdeal.AtIdeal.argG m c)
      (Cert.ProjectIdeal.AtIdeal.argW m c) (Cert.ProjectIdeal.AtIdeal.argC m c),
    (θ_run Cert.ProjectIdeal.defs _ _).mono (fun r h c => ⟨(h c).1.trans (Cert.ProjectIdeal.AtIdeal.final4 m c),
      (h c).2.1.trans (Cert.ProjectIdeal.AtIdeal.final5 m c), (h c).2.2.1.trans (Cert.ProjectIdeal.AtIdeal.final6 m c), (h c).2.2.2⟩)
      (Cert.ProjectIdeal.Value.run_blocks m g), ?_⟩
  refine (θ_run Cert.ProjectReferenceIdeal.defs _ _).mono (fun r h c => ⟨(h c).1.trans ?_, (h c).2.1.trans ?_, (h c).2.2.1.trans ?_, (h c).2.2.2⟩)
    (Cert.ProjectReferenceIdeal.Value.run (F := Ideal) m' g')
  all_goals obtain ⟨h0, h1, h2, h3⟩ := hargs c
  · rw [Cert.ProjectReferenceIdeal.Read.val_main_v26_eq, h0, h1, h2, h3]
  · rw [Cert.ProjectReferenceIdeal.Read.val_main_v28_eq, h0, h1, h2, h3]
  · rw [Cert.ProjectReferenceIdeal.Read.val_main_v30_eq, h0, h1, h2, h3]

/-- The reference of the projection with stride 4 runs, leaves its arguments and every counter. -/
theorem frame_project4_ri : Cert.quiescent_Project4ReferenceIdeal := fun m ρ _ =>
  (θ_run Cert.Project4ReferenceIdeal.defs _ _).mono (fun r h => ⟨fun c => (h c).2.2.2, sem_eq_zero_of_no_sems (by decide) r.2⟩)
    (Cert.Project4ReferenceIdeal.Value.run (F := Ideal) m ρ)

/-- The ideal projection with stride 4 and its ideal reference end with equal results. -/
theorem algebraic_project4 : Cert.algebraic_Project4Ideal_Project4ReferenceIdeal := by
  intro m g m' g' hpre hargs
  refine ⟨fun c => Cert.Project4ReferenceIdeal.Read.val_main_v27 (F := Ideal) (Cert.Project4Ideal.AtIdeal.argX m c) (Cert.Project4Ideal.AtIdeal.argG m c)
      (Cert.Project4Ideal.AtIdeal.argW m c) (Cert.Project4Ideal.AtIdeal.argC m c),
    fun c => Cert.Project4ReferenceIdeal.Read.val_main_v28 (F := Ideal) (Cert.Project4Ideal.AtIdeal.argX m c) (Cert.Project4Ideal.AtIdeal.argG m c)
      (Cert.Project4Ideal.AtIdeal.argW m c) (Cert.Project4Ideal.AtIdeal.argC m c),
    fun c => Cert.Project4ReferenceIdeal.Read.val_main_v30 (F := Ideal) (Cert.Project4Ideal.AtIdeal.argX m c) (Cert.Project4Ideal.AtIdeal.argG m c)
      (Cert.Project4Ideal.AtIdeal.argW m c) (Cert.Project4Ideal.AtIdeal.argC m c),
    (θ_run Cert.Project4Ideal.defs _ _).mono (fun r h c => ⟨(h c).1.trans (Cert.Project4Ideal.AtIdeal.final4 m c),
      (h c).2.1.trans (Cert.Project4Ideal.AtIdeal.final5 m c), (h c).2.2.1.trans (Cert.Project4Ideal.AtIdeal.final6 m c), (h c).2.2.2⟩)
      (Cert.Project4Ideal.Value.run_blocks m g), ?_⟩
  refine (θ_run Cert.Project4ReferenceIdeal.defs _ _).mono (fun r h c => ⟨(h c).1.trans ?_, (h c).2.1.trans ?_, (h c).2.2.1.trans ?_, (h c).2.2.2⟩)
    (Cert.Project4ReferenceIdeal.Value.run (F := Ideal) m' g')
  all_goals obtain ⟨h0, h1, h2, h3⟩ := hargs c
  · rw [Cert.Project4ReferenceIdeal.Read.val_main_v27_eq, h0, h1, h2, h3]
  · rw [Cert.Project4ReferenceIdeal.Read.val_main_v28_eq, h0, h1, h2, h3]
  · rw [Cert.Project4ReferenceIdeal.Read.val_main_v30_eq, h0, h1, h2, h3]

/-- The reference of the projection with stride 16 runs, leaves its arguments and every counter. -/
theorem frame_project16_ri : Cert.quiescent_Project16ReferenceIdeal := fun m ρ _ =>
  (θ_run Cert.Project16ReferenceIdeal.defs _ _).mono (fun r h => ⟨fun c => (h c).2.2.2, sem_eq_zero_of_no_sems (by decide) r.2⟩)
    (Cert.Project16ReferenceIdeal.Value.run (F := Ideal) m ρ)

/-- The ideal projection with stride 16 and its ideal reference end with equal results. -/
theorem algebraic_project16 : Cert.algebraic_Project16Ideal_Project16ReferenceIdeal := by
  intro m g m' g' hpre hargs
  refine ⟨fun c => Cert.Project16ReferenceIdeal.Read.val_main_v27 (F := Ideal) (Cert.Project16Ideal.AtIdeal.argX m c) (Cert.Project16Ideal.AtIdeal.argG m c)
      (Cert.Project16Ideal.AtIdeal.argW m c) (Cert.Project16Ideal.AtIdeal.argC m c),
    fun c => Cert.Project16ReferenceIdeal.Read.val_main_v28 (F := Ideal) (Cert.Project16Ideal.AtIdeal.argX m c) (Cert.Project16Ideal.AtIdeal.argG m c)
      (Cert.Project16Ideal.AtIdeal.argW m c) (Cert.Project16Ideal.AtIdeal.argC m c),
    fun c => Cert.Project16ReferenceIdeal.Read.val_main_v30 (F := Ideal) (Cert.Project16Ideal.AtIdeal.argX m c) (Cert.Project16Ideal.AtIdeal.argG m c)
      (Cert.Project16Ideal.AtIdeal.argW m c) (Cert.Project16Ideal.AtIdeal.argC m c),
    (θ_run Cert.Project16Ideal.defs _ _).mono (fun r h c => ⟨(h c).1.trans (Cert.Project16Ideal.AtIdeal.final4 m c),
      (h c).2.1.trans (Cert.Project16Ideal.AtIdeal.final5 m c), (h c).2.2.1.trans (Cert.Project16Ideal.AtIdeal.final6 m c), (h c).2.2.2⟩)
      (Cert.Project16Ideal.Value.run_blocks m g), ?_⟩
  refine (θ_run Cert.Project16ReferenceIdeal.defs _ _).mono (fun r h c => ⟨(h c).1.trans ?_, (h c).2.1.trans ?_, (h c).2.2.1.trans ?_, (h c).2.2.2⟩)
    (Cert.Project16ReferenceIdeal.Value.run (F := Ideal) m' g')
  all_goals obtain ⟨h0, h1, h2, h3⟩ := hargs c
  · rw [Cert.Project16ReferenceIdeal.Read.val_main_v27_eq, h0, h1, h2, h3]
  · rw [Cert.Project16ReferenceIdeal.Read.val_main_v28_eq, h0, h1, h2, h3]
  · rw [Cert.Project16ReferenceIdeal.Read.val_main_v30_eq, h0, h1, h2, h3]

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Merge.Gen.facts, Cert.MergeIdeal.Gen.facts, Cert.MergeReferenceIdeal.Gen.facts,
  Cert.Project.Gen.facts, Cert.ProjectIdeal.Gen.facts, Cert.ProjectReferenceIdeal.Gen.facts,
  Cert.Project4.Gen.facts, Cert.Project4Ideal.Gen.facts, Cert.Project4ReferenceIdeal.Gen.facts,
  Cert.Project16.Gen.facts, Cert.Project16Ideal.Gen.facts, Cert.Project16ReferenceIdeal.Gen.facts, facts_finite,
  fun m ρ _ => Cert.Kernel.Body.frame m ρ, fun m ρ _ => Cert.KernelIdeal.Body.frame m ρ, fun m ρ _ => Cert.KernelIdeal.Body.frame m ρ,
  frame_ri, fun m ρ _ => frame_ri m ρ trivial,
  fun m ρ _ => Cert.Ffn.Gen.frame m ρ, fun m ρ _ => Cert.FfnIdeal.Gen.frame m ρ, frame_ffn_ri,
  fun m ρ _ => Cert.Merge.Gen.frame m ρ, fun m ρ _ => Cert.MergeIdeal.Gen.frame m ρ, frame_merge_ri,
  fun m ρ _ => Cert.Project.Gen.frame m ρ, fun m ρ _ => Cert.ProjectIdeal.Gen.frame m ρ, frame_project_ri,
  fun m ρ _ => Cert.Project4.Gen.frame m ρ, fun m ρ _ => Cert.Project4Ideal.Gen.frame m ρ, frame_project4_ri,
  fun m ρ _ => Cert.Project16.Gen.frame m ρ, fun m ρ _ => Cert.Project16Ideal.Gen.frame m ρ, frame_project16_ri,
  trivial, algebraic, trivial, algebraic_ffn, trivial, algebraic_merge, trivial, algebraic_project, trivial, algebraic_project4,
  trivial, algebraic_project16⟩

end Cert.Proof

end
